-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  IdealRules.named_const.Statement Cert.KernelIdeal.κ "neg_log2e" .f32 0xBFB8AA3B#32 ((-((Real.log 2)⁻¹) : ℝ) : EReal)
  ∧ IdealRules.named_const.Statement Cert.KernelIdeal.κ "log2e" .f32 0x3FB8AA3B#32 (((Real.log 2)⁻¹ : ℝ) : EReal)
  ∧ IdealRules.named_const.Statement Cert.KernelIdeal.κ "ln2" .f32 0x3F317218#32 ((Real.log 2 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x2048x1024 : Shape := ⟨3, ![2, 2048, 1024]⟩
abbrev S1024x4096 : Shape := ⟨2, ![1024, 4096]⟩
abbrev S2048x4 : Shape := ⟨2, ![2048, 4]⟩
abbrev S2048 : Shape := ⟨1, ![2048]⟩
abbrev S2048x96 : Shape := ⟨2, ![2048, 96]⟩
abbrev S64x2048 : Shape := ⟨2, ![64, 2048]⟩
abbrev S2048x16 : Shape := ⟨2, ![2048, 16]⟩
abbrev S2048x1024 : Shape := ⟨2, ![2048, 1024]⟩
abbrev S4x2048 : Shape := ⟨2, ![4, 2048]⟩
abbrev S1x2048 : Shape := ⟨2, ![1, 2048]⟩
abbrev S16x2048 : Shape := ⟨2, ![16, 2048]⟩
abbrev S4096 : Shape := ⟨1, ![4096]⟩
abbrev S1x4096 : Shape := ⟨2, ![1, 4096]⟩
abbrev S2048x4096 : Shape := ⟨2, ![2048, 4096]⟩
abbrev S32x2048 : Shape := ⟨2, ![32, 2048]⟩
abbrev S1x512x1024 : Shape := ⟨3, ![1, 512, 1024]⟩
abbrev S1024x2048 : Shape := ⟨2, ![1024, 2048]⟩
abbrev S512x2048 : Shape := ⟨2, ![512, 2048]⟩
abbrev S16x512 : Shape := ⟨2, ![16, 512]⟩
abbrev S8x2048 : Shape := ⟨2, ![8, 2048]⟩
abbrev S512x1024 : Shape := ⟨2, ![512, 1024]⟩
abbrev S520x2048 : Shape := ⟨2, ![520, 2048]⟩
abbrev S512x96 : Shape := ⟨2, ![512, 96]⟩
abbrev S512x64 : Shape := ⟨2, ![512, 64]⟩
abbrev S512x16 : Shape := ⟨2, ![512, 16]⟩
abbrev S256x512 : Shape := ⟨2, ![256, 512]⟩
abbrev S16x256 : Shape := ⟨2, ![16, 256]⟩
abbrev S1x512 : Shape := ⟨2, ![1, 512]⟩
abbrev S16x1 : Shape := ⟨2, ![16, 1]⟩
abbrev S512 : Shape := ⟨1, ![512]⟩

abbrev nBuf : Space → Nat
  | .hbm => 24
  | .vmem => 40
  | .smem => 0
  | _ => 0

abbrev bufTy : (tb : Table) → Fin (tcTables nBuf tb) → BufTy
  | .hbm, ⟨0, _⟩ => ⟨S2x2048x1024, .f32⟩
  | .hbm, ⟨1, _⟩ => ⟨S1024x4096, .f32⟩
  | .hbm, ⟨2, _⟩ => ⟨S2048x4, .f32⟩
  | .hbm, ⟨3, _⟩ => ⟨S2048, .f32⟩
  | .hbm, ⟨4, _⟩ => ⟨S2048x96, .f32⟩
  | .hbm, ⟨5, _⟩ => ⟨S64x2048, .f32⟩
  | .hbm, ⟨6, _⟩ => ⟨S2048, .f32⟩
  | .hbm, ⟨7, _⟩ => ⟨S2048x16, .f32⟩
  | .hbm, ⟨8, _⟩ => ⟨S2048, .f32⟩
  | .hbm, ⟨9, _⟩ => ⟨S2048x1024, .f32⟩
  | .hbm, ⟨10, _⟩ => ⟨S4x2048, .f32⟩
  | .hbm, ⟨11, _⟩ => ⟨S1x2048, .f32⟩
  | .hbm, ⟨12, _⟩ => ⟨S1x2048, .f32⟩
  | .hbm, ⟨13, _⟩ => ⟨S2048x16, .f32⟩
  | .hbm, ⟨14, _⟩ => ⟨S2048x16, .f32⟩
  | .hbm, ⟨15, _⟩ => ⟨S16x2048, .f32⟩
  | .hbm, ⟨16, _⟩ => ⟨S4096, .f32⟩
  | .hbm, ⟨17, _⟩ => ⟨S1x4096, .f32⟩
  | .hbm, ⟨18, _⟩ => ⟨S2048x4096, .f32⟩
  | .hbm, ⟨19, _⟩ => ⟨S2048x4096, .f32⟩
  | .hbm, ⟨20, _⟩ => ⟨S32x2048, .f32⟩
  | .hbm, ⟨21, _⟩ => ⟨S32x2048, .f32⟩
  | .hbm, ⟨22, _⟩ => ⟨S2048x4096, .f32⟩
  | .hbm, ⟨23, _⟩ => ⟨S2x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1024x2048, .f32⟩
  | .local _ .vmem, ⟨3, _⟩ => ⟨S2048x96, .f32⟩
  | .local _ .vmem, ⟨4, _⟩ => ⟨S64x2048, .f32⟩
  | .local _ .vmem, ⟨5, _⟩ => ⟨S4x2048, .f32⟩
  | .local _ .vmem, ⟨6, _⟩ => ⟨S1x2048, .f32⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .f32⟩
  | .local _ .vmem, ⟨11, _⟩ => ⟨S512x2048, .f32⟩
  | .local _ .vmem, ⟨12, _⟩ => ⟨S16x512, .f32⟩
  | .local _ .vmem, ⟨13, _⟩ => ⟨S16x512, .f32⟩
  | .local _ .vmem, ⟨14, _⟩ => ⟨S16x512, .f32⟩
  | .local _ .vmem, ⟨15, _⟩ => ⟨S16x512, .f32⟩
  | .local _ .vmem, ⟨16, _⟩ => ⟨S8x2048, .f32⟩
  | .local _ .vmem, ⟨17, _⟩ => ⟨S256x512, .f32⟩
  | .local _ .vmem, ⟨18, _⟩ => ⟨S256x512, .f32⟩
  | .local _ .vmem, ⟨19, _⟩ => ⟨S256x512, .f32⟩
  | .local _ .vmem, ⟨20, _⟩ => ⟨S256x512, .f32⟩
  | .local _ .vmem, ⟨21, _⟩ => ⟨S16x256, .f32⟩
  | .local _ .vmem, ⟨22, _⟩ => ⟨S16x256, .f32⟩
  | .local _ .vmem, ⟨23, _⟩ => ⟨S16x256, .f32⟩
  | .local _ .vmem, ⟨24, _⟩ => ⟨S16x256, .f32⟩
  | .local _ .vmem, ⟨25, _⟩ => ⟨S16x512, .f32⟩
  | .local _ .vmem, ⟨26, _⟩ => ⟨S16x512, .f32⟩
  | .local _ .vmem, ⟨27, _⟩ => ⟨S1x512, .f32⟩
  | .local _ .vmem, ⟨28, _⟩ => ⟨S1x512, .f32⟩
  | .local _ .vmem, ⟨29, _⟩ => ⟨S256x512, .f32⟩
  | .local _ .vmem, ⟨30, _⟩ => ⟨S256x512, .f32⟩
  | .local _ .vmem, ⟨31, _⟩ => ⟨S16x512, .f32⟩
  | .local _ .vmem, ⟨32, _⟩ => ⟨S1x512x1024, .f32⟩
  | .local _ .vmem, ⟨33, _⟩ => ⟨S1x512x1024, .f32⟩
  | .local _ .vmem, ⟨34, _⟩ => ⟨S1024x2048, .f32⟩
  | .local _ .vmem, ⟨35, _⟩ => ⟨S512x2048, .f32⟩
  | .local _ .vmem, ⟨36, _⟩ => ⟨S512x2048, .f32⟩
  | .local _ .vmem, ⟨37, _⟩ => ⟨S2048x1024, .f32⟩
  | .local _ .vmem, ⟨38, _⟩ => ⟨S1x512x1024, .f32⟩
  | .local _ .vmem, ⟨39, _⟩ => ⟨S1x512x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8_0 : Ref sig .tc := ⟨.hbm, 18, rfl⟩
abbrev main_v8_1 : Ref sig .tc := ⟨.hbm, 19, rfl⟩
abbrev main_v8_2 : Ref sig .tc := ⟨.hbm, 20, rfl⟩
abbrev main_v8_3 : Ref sig .tc := ⟨.hbm, 21, rfl⟩
abbrev main_v9 : Ref sig .tc := ⟨.hbm, 22, rfl⟩
abbrev main_v10 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_scratch0 : Ref sig .tc := ⟨.vmem, 16, rfl⟩
abbrev cc1_stg0_0 : Ref sig .tc := ⟨.vmem, 17, rfl⟩
abbrev cc1_stg0_1 : Ref sig .tc := ⟨.vmem, 18, rfl⟩
abbrev cc1_stg1_0 : Ref sig .tc := ⟨.vmem, 19, rfl⟩
abbrev cc1_stg1_1 : Ref sig .tc := ⟨.vmem, 20, rfl⟩
abbrev cc1_stg2_0 : Ref sig .tc := ⟨.vmem, 21, rfl⟩
abbrev cc1_stg2_1 : Ref sig .tc := ⟨.vmem, 22, rfl⟩
abbrev cc1_stg3_0 : Ref sig .tc := ⟨.vmem, 23, rfl⟩
abbrev cc1_stg3_1 : Ref sig .tc := ⟨.vmem, 24, rfl⟩
abbrev cc1_stg4_0 : Ref sig .tc := ⟨.vmem, 25, rfl⟩
abbrev cc1_stg4_1 : Ref sig .tc := ⟨.vmem, 26, rfl⟩
abbrev cc1_stg5_0 : Ref sig .tc := ⟨.vmem, 27, rfl⟩
abbrev cc1_stg5_1 : Ref sig .tc := ⟨.vmem, 28, rfl⟩
abbrev cc1_stg6_0 : Ref sig .tc := ⟨.vmem, 29, rfl⟩
abbrev cc1_stg6_1 : Ref sig .tc := ⟨.vmem, 30, rfl⟩
abbrev cc1_scratch0 : Ref sig .tc := ⟨.vmem, 31, rfl⟩
abbrev cc2_stg0_0 : Ref sig .tc := ⟨.vmem, 32, rfl⟩
abbrev cc2_stg0_1 : Ref sig .tc := ⟨.vmem, 33, rfl⟩
abbrev cc2_stg1_0 : Ref sig .tc := ⟨.vmem, 34, rfl⟩
abbrev cc2_stg2_0 : Ref sig .tc := ⟨.vmem, 35, rfl⟩
abbrev cc2_stg2_1 : Ref sig .tc := ⟨.vmem, 36, rfl⟩
abbrev cc2_stg3_0 : Ref sig .tc := ⟨.vmem, 37, rfl⟩
abbrev cc2_stg4_0 : Ref sig .tc := ⟨.vmem, 38, rfl⟩
abbrev cc2_stg4_1 : Ref sig .tc := ⟨.vmem, 39, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27
abbrev cc1_sem6_0 : DmaSem sig := 28
abbrev cc1_sem6_1 : DmaSem sig := 29
abbrev cc2_sem0_0 : DmaSem sig := 30
abbrev cc2_sem0_1 : DmaSem sig := 31
abbrev cc2_sem1_0 : DmaSem sig := 32
abbrev cc2_sem2_0 : DmaSem sig := 33
abbrev cc2_sem2_1 : DmaSem sig := 34
abbrev cc2_sem3_0 : DmaSem sig := 35
abbrev cc2_sem4_0 : DmaSem sig := 36
abbrev cc2_sem4_1 : DmaSem sig := 37

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2048x96 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S64x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S4x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S16x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S16x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev grid1 : Pipeline.Grid := ⟨3, ![2, 4, 8], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  ![arg2.toNat, v1.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  ![arg2.toNat, v1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c4_i32_0 : BitVec 32 := 4#32
  let v2 : BitVec 32 := Scalar.divsi v1 c4_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32_0 c0_i32_2
  let v9 : BitVec 32 := Scalar.extui v8
  let c0_i32_3 : BitVec 32 := 0#32
  let v10 : BitVec 1 := Scalar.cmpi .slt c4_i32_0 c0_i32_3
  let v11 : BitVec 32 := Scalar.extui v10
  let v12 : BitVec 32 := Scalar.subi v9 v11
  let v13 : BitVec 1 := Scalar.cmpi .ne v7 v12
  let v14 : BitVec 32 := Scalar.remsi v1 c4_i32_0
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c0_i32_5 : BitVec 32 := 0#32
  ![v18.toNat, arg2.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c4_i32_0 : BitVec 32 := 4#32
  let v2 : BitVec 32 := Scalar.divsi v1 c4_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32_0 c0_i32_2
  let v9 : BitVec 32 := Scalar.extui v8
  let c0_i32_3 : BitVec 32 := 0#32
  let v10 : BitVec 1 := Scalar.cmpi .slt c4_i32_0 c0_i32_3
  let v11 : BitVec 32 := Scalar.extui v10
  let v12 : BitVec 32 := Scalar.subi v9 v11
  let v13 : BitVec 1 := Scalar.cmpi .ne v7 v12
  let v14 : BitVec 32 := Scalar.remsi v1 c4_i32_0
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c0_i32_5 : BitVec 32 := 0#32
  ![v18.toNat, arg2.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c4_i32_0 : BitVec 32 := 4#32
  let c0_i32 : BitVec 32 := 0#32
  let v2 : BitVec 1 := Scalar.cmpi .eq c4_i32_0 c0_i32
  let c1_i32 : BitVec 32 := 1#32
  let v3 : BitVec 32 := Scalar.select v2 c1_i32 c4_i32_0
  let v4 : BitVec 32 := Scalar.remsi v1 v3
  let c0_i32_1 : BitVec 32 := 0#32
  let v5 : BitVec 1 := Scalar.cmpi .ne v4 c0_i32_1
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let v9 : BitVec 1 := Scalar.andi v8 v5
  let v10 : BitVec 32 := Scalar.addi v4 v3
  let v11 : BitVec 32 := Scalar.select v9 v10 v4
  let c0_i32_4 : BitVec 32 := 0#32
  let c0_i32_5 : BitVec 32 := 0#32
  ![c0_i32_4.toNat, v11.toNat]

def cc1_transform_5 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![c0_i32.toNat, v1.toNat]

def cc1_transform_6 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  ![arg2.toNat, v1.toNat]

abbrev stage1_0 : Fin 2 → Memref sig .tc .vmem S256x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S256x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, true]

abbrev stage1_2 : Fin 2 → Memref sig .tc .vmem S16x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, true]

abbrev stage1_3 : Fin 2 → Memref sig .tc .vmem S16x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, true]

abbrev stage1_4 : Fin 2 → Memref sig .tc .vmem S16x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, false]

abbrev stage1_5 : Fin 2 → Memref sig .tc .vmem S1x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true, false]

abbrev stage1_6 : Fin 2 → Memref sig .tc .vmem S256x512 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true, true]

abbrev grid2 : Pipeline.Grid := ⟨2, ![2, 4], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![c0_i32.toNat, c1_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1x512x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S1024x2048 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 2 → Memref sig .tc .vmem S512x2048 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 1 → Memref sig .tc .vmem S2048x1024 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 2 → Memref sig .tc .vmem S1x512x1024 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]
-- ==== KernelIdeal.lean ====
variable {F : FTy → Type} [FloatOps F] [Named F]
def κ : String → Option EReal := fun
  | "ln2" => some ((Real.log 2 : ℝ) : EReal)
  | "log2e" => some (((Real.log 2)⁻¹ : ℝ) : EReal)
  | "neg_log2e" => some ((-((Real.log 2)⁻¹) : ℝ) : EReal)
  | _ => none
-- ==== ReferenceIdeal.lean ====
abbrev S2x2048x1024 : Shape := ⟨3, ![2, 2048, 1024]⟩
abbrev S1024x4096 : Shape := ⟨2, ![1024, 4096]⟩
abbrev S2048x4 : Shape := ⟨2, ![2048, 4]⟩
abbrev S2048 : Shape := ⟨1, ![2048]⟩
abbrev S2048x96 : Shape := ⟨2, ![2048, 96]⟩
abbrev S64x2048 : Shape := ⟨2, ![64, 2048]⟩
abbrev S2048x16 : Shape := ⟨2, ![2048, 16]⟩
abbrev S2048x1024 : Shape := ⟨2, ![2048, 1024]⟩
abbrev S2x2048x4096 : Shape := ⟨3, ![2, 2048, 4096]⟩
abbrev S2x2048x2048 : Shape := ⟨3, ![2, 2048, 2048]⟩
abbrev S_ : Shape := ⟨0, ![]⟩
abbrev S2x2051x2048 : Shape := ⟨3, ![2, 2051, 2048]⟩
abbrev S2048x1 : Shape := ⟨2, ![2048, 1]⟩
abbrev S1x1x2048 : Shape := ⟨3, ![1, 1, 2048]⟩
abbrev S2x2048x96 : Shape := ⟨3, ![2, 2048, 96]⟩
abbrev S2x2048x64 : Shape := ⟨3, ![2, 2048, 64]⟩
abbrev S2x2048x16 : Shape := ⟨3, ![2, 2048, 16]⟩
abbrev S2048x2x2048 : Shape := ⟨3, ![2048, 2, 2048]⟩
abbrev S2048x2x16 : Shape := ⟨3, ![2048, 2, 16]⟩
abbrev S1x2x2048 : Shape := ⟨3, ![1, 2, 2048]⟩
abbrev S2x2048 : Shape := ⟨2, ![2, 2048]⟩
abbrev S1x2x16 : Shape := ⟨3, ![1, 2, 16]⟩
abbrev S2x16 : Shape := ⟨2, ![2, 16]⟩
abbrev S2x2048x1 : Shape := ⟨3, ![2, 2048, 1]⟩
abbrev S1x2048x16 : Shape := ⟨3, ![1, 2048, 16]⟩
abbrev S2x1x16 : Shape := ⟨3, ![2, 1, 16]⟩

abbrev nBuf : Space → Nat
  | .hbm => 160
  | .vmem => 0
  | .smem => 0
  | _ => 0

abbrev hbmTy0_0 (i : Nat) : BufTy := match i % 128 with
  | 0 => ⟨S2x2048x1024, .f32⟩
  | 1 => ⟨S1024x4096, .f32⟩
  | 2 => ⟨S2048x4, .f32⟩
  | 3 => ⟨S2048, .f32⟩
  | 4 => ⟨S2048x96, .f32⟩
  | 5 => ⟨S64x2048, .f32⟩
  | 6 => ⟨S2048, .f32⟩
  | 7 => ⟨S2048x16, .f32⟩
  | 8 => ⟨S2048, .f32⟩
  | 9 => ⟨S2048x1024, .f32⟩
  | 10 => ⟨S2x2048x4096, .f32⟩
  | 11 => ⟨S2x2048x2048, .f32⟩
  | 12 => ⟨S2x2048x2048, .f32⟩
  | 13 => ⟨S_, .i32⟩
  | 14 => ⟨S_, .f32⟩
  | 15 => ⟨S2x2051x2048, .f32⟩
  | 16 => ⟨S2x2048x2048, .f32⟩
  | 17 => ⟨S2048x1, .f32⟩
  | 18 => ⟨S2048, .f32⟩
  | 19 => ⟨S1x1x2048, .f32⟩
  | 20 => ⟨S2x2048x2048, .f32⟩
  | 21 => ⟨S2x2048x2048, .f32⟩
  | 22 => ⟨S_, .f32⟩
  | 23 => ⟨S2x2048x2048, .f32⟩
  | 24 => ⟨S2x2048x2048, .f32⟩
  | 25 => ⟨S2x2048x2048, .f32⟩
  | 26 => ⟨S2048x1, .f32⟩
  | 27 => ⟨S2048, .f32⟩
  | 28 => ⟨S1x1x2048, .f32⟩
  | 29 => ⟨S2x2048x2048, .f32⟩
  | 30 => ⟨S2x2048x2048, .f32⟩
  | 31 => ⟨S2x2048x2048, .f32⟩
  | 32 => ⟨S2x2048x2048, .f32⟩
  | 33 => ⟨S2048x1, .f32⟩
  | 34 => ⟨S2048, .f32⟩
  | 35 => ⟨S1x1x2048, .f32⟩
  | 36 => ⟨S2x2048x2048, .f32⟩
  | 37 => ⟨S2x2048x2048, .f32⟩
  | 38 => ⟨S2x2048x2048, .f32⟩
  | 39 => ⟨S2x2048x2048, .f32⟩
  | 40 => ⟨S2048x1, .f32⟩
  | 41 => ⟨S2048, .f32⟩
  | 42 => ⟨S1x1x2048, .f32⟩
  | 43 => ⟨S2x2048x2048, .f32⟩
  | 44 => ⟨S2x2048x2048, .f32⟩
  | 45 => ⟨S2x2048x2048, .f32⟩
  | 46 => ⟨S1x1x2048, .f32⟩
  | 47 => ⟨S2x2048x2048, .f32⟩
  | 48 => ⟨S2x2048x2048, .f32⟩
  | 49 => ⟨S2x2048x2048, .f32⟩
  | 50 => ⟨S2x2048x2048, .f32⟩
  | 51 => ⟨S_, .f32⟩
  | 52 => ⟨S2x2048x2048, .f32⟩
  | 53 => ⟨S2x2048x2048, .f32⟩
  | 54 => ⟨S_, .f32⟩
  | 55 => ⟨S2x2048x2048, .f32⟩
  | 56 => ⟨S2x2048x2048, .f32⟩
  | 57 => ⟨S2x2048x2048, .f32⟩
  | 58 => ⟨S2x2048x96, .f32⟩
  | 59 => ⟨S2x2048x64, .f32⟩
  | 60 => ⟨S2x2048x16, .f32⟩
  | 61 => ⟨S2x2048x16, .f32⟩
  | 62 => ⟨S2x2048x2048, .f32⟩
  | 63 => ⟨S1x1x2048, .f32⟩
  | 64 => ⟨S2x2048x2048, .f32⟩
  | 65 => ⟨S2x2048x2048, .f32⟩
  | 66 => ⟨S_, .f32⟩
  | 67 => ⟨S2x2048x2048, .f32⟩
  | 68 => ⟨S2x2048x2048, .f32⟩
  | 69 => ⟨S2x2048x2048, .f32⟩
  | 70 => ⟨S2x2048x2048, .f32⟩
  | 71 => ⟨S2x2048x2048, .i1⟩
  | 72 => ⟨S2x2048x2048, .f32⟩
  | 73 => ⟨S2x2048x2048, .f32⟩
  | 74 => ⟨S2x2048x2048, .f32⟩
  | 75 => ⟨S2x2048x2048, .f32⟩
  | 76 => ⟨S2x2048x2048, .f32⟩
  | 77 => ⟨S2x2048x2048, .f32⟩
  | 78 => ⟨S2x2048x2048, .f32⟩
  | 79 => ⟨S2x2048x2048, .f32⟩
  | 80 => ⟨S2048x16, .f32⟩
  | 81 => ⟨S2048x16, .f32⟩
  | 82 => ⟨S_, .f32⟩
  | 83 => ⟨S2x2048x16, .f32⟩
  | 84 => ⟨S2048x2x2048, .f32⟩
  | 85 => ⟨S2048x2x16, .f32⟩
  | 86 => ⟨S2048x2x16, .f32⟩
  | 87 => ⟨S2048x2x2048, .f32⟩
  | 88 => ⟨S_, .f32⟩
  | 89 => ⟨S2048x2x2048, .f32⟩
  | 90 => ⟨S_, .i32⟩
  | 91 => ⟨S2048x2x2048, .f32⟩
  | 92 => ⟨S2048x2x16, .f32⟩
  | 93 => ⟨S2048x2x16, .f32⟩
  | 94 => ⟨S2048x2x2048, .f32⟩
  | 95 => ⟨S2048x16, .f32⟩
  | 96 => ⟨S_, .i32⟩
  | 97 => ⟨S2x2048x16, .f32⟩
  | 98 => ⟨S2048x2x2048, .f32⟩
  | 99 => ⟨S_, .i32⟩
  | 100 => ⟨S_, .i1⟩
  | 101 => ⟨S_, .i32⟩
  | 102 => ⟨S_, .i32⟩
  | 103 => ⟨S1x2x2048, .f32⟩
  | 104 => ⟨S2x2048, .f32⟩
  | 105 => ⟨S_, .i32⟩
  | 106 => ⟨S_, .i32⟩
  | 107 => ⟨S1x2x16, .f32⟩
  | 108 => ⟨S2x16, .f32⟩
  | 109 => ⟨S_, .i32⟩
  | 110 => ⟨S_, .i32⟩
  | 111 => ⟨S1x2x16, .f32⟩
  | 112 => ⟨S2x16, .f32⟩
  | 113 => ⟨S_, .i32⟩
  | 114 => ⟨S_, .i32⟩
  | 115 => ⟨S1x2x2048, .f32⟩
  | 116 => ⟨S2x2048, .f32⟩
  | 117 => ⟨S2x2048x1, .f32⟩
  | 118 => ⟨S1x2048x16, .f32⟩
  | 119 => ⟨S2x2048x16, .f32⟩
  | 120 => ⟨S2x2048x16, .f32⟩
  | 121 => ⟨S2x2048x16, .f32⟩
  | 122 => ⟨S2x2048x16, .f32⟩
  | 123 => ⟨S2x2048x1, .f32⟩
  | 124 => ⟨S2x1x16, .f32⟩
  | 125 => ⟨S2x2048x16, .f32⟩
  | 126 => ⟨S2x2048x16, .f32⟩
  | 127 => ⟨S2x2048x16, .f32⟩
  | _ => ⟨S2x2048x1024, .f32⟩

abbrev hbmTy0_1 (i : Nat) : BufTy := match i % 128 with
  | 0 => ⟨S2x2048x1, .f32⟩
  | 1 => ⟨S2x2048x16, .f32⟩
  | 2 => ⟨S2x2048x16, .f32⟩
  | 3 => ⟨S2x2048x16, .f32⟩
  | 4 => ⟨S2x2048x16, .f32⟩
  | 5 => ⟨S2x1x16, .f32⟩
  | 6 => ⟨S2x2048x16, .f32⟩
  | 7 => ⟨S2x2048x16, .f32⟩
  | 8 => ⟨S_, .f32⟩
  | 9 => ⟨S2x2048, .f32⟩
  | 10 => ⟨S1x2x2048, .f32⟩
  | 11 => ⟨S_, .i32⟩
  | 12 => ⟨S_, .i32⟩
  | 13 => ⟨S2048x2x2048, .f32⟩
  | 14 => ⟨S_, .i32⟩
  | 15 => ⟨S_, .i32⟩
  | 16 => ⟨S2x2048x2048, .f32⟩
  | 17 => ⟨S1x1x2048, .f32⟩
  | 18 => ⟨S2x2048x2048, .f32⟩
  | 19 => ⟨S2x2048x2048, .f32⟩
  | 20 => ⟨S2x2048x2048, .f32⟩
  | 21 => ⟨S2x2048x2048, .f32⟩
  | 22 => ⟨S2x2048x2048, .f32⟩
  | 23 => ⟨S_, .f32⟩
  | 24 => ⟨S2x2048x2048, .f32⟩
  | 25 => ⟨S2x2048x2048, .f32⟩
  | 26 => ⟨S_, .f32⟩
  | 27 => ⟨S2x2048x2048, .f32⟩
  | 28 => ⟨S2x2048x2048, .f32⟩
  | 29 => ⟨S2x2048x2048, .f32⟩
  | 30 => ⟨S2x2048x2048, .f32⟩
  | 31 => ⟨S2x2048x1024, .f32⟩
  | _ => ⟨S2x2048x1024, .f32⟩

abbrev hbmTy (i : Nat) : BufTy := match i / 128 with
  | 0 => hbmTy0_0 i
  | 1 => hbmTy0_1 i
  | _ => ⟨S2x2048x1024, .f32⟩

abbrev bufTy : (tb : Table) → Fin (tcTables nBuf tb) → BufTy
  | .hbm, ⟨i, _⟩ => hbmTy i
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_c : Ref sig .tc := ⟨.hbm, 13, rfl⟩
abbrev main_call0_v0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_0 : Ref sig .tc := ⟨.hbm, 51, rfl⟩
abbrev main_v38 : Ref sig .tc := ⟨.hbm, 52, rfl⟩
abbrev main_v39 : Ref sig .tc := ⟨.hbm, 53, rfl⟩
abbrev main_cst_1 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_call1_cst : Ref sig .tc := ⟨.hbm, 66, rfl⟩
abbrev main_call1_v0 : Ref sig .tc := ⟨.hbm, 67, rfl⟩
abbrev main_call1_v1 : Ref sig .tc := ⟨.hbm, 68, rfl⟩
abbrev main_call1_v2 : Ref sig .tc := ⟨.hbm, 69, rfl⟩
abbrev main_call1_v3 : Ref sig .tc := ⟨.hbm, 70, rfl⟩
abbrev main_call1_v4 : Ref sig .tc := ⟨.hbm, 71, rfl⟩
abbrev main_call1_v5 : Ref sig .tc := ⟨.hbm, 72, rfl⟩
abbrev main_call1_v6 : Ref sig .tc := ⟨.hbm, 73, rfl⟩
abbrev main_call1_v7 : Ref sig .tc := ⟨.hbm, 74, rfl⟩
abbrev main_call1_v8 : Ref sig .tc := ⟨.hbm, 75, rfl⟩
abbrev main_call1_v9 : Ref sig .tc := ⟨.hbm, 76, rfl⟩
abbrev main_call1_v10 : Ref sig .tc := ⟨.hbm, 77, rfl⟩
abbrev main_call1_v11 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_cst_2 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_cst_3 : Ref sig .tc := ⟨.hbm, 88, rfl⟩
abbrev main_v59 : Ref sig .tc := ⟨.hbm, 89, rfl⟩
abbrev main_c_4 : Ref sig .tc := ⟨.hbm, 90, rfl⟩
abbrev main_v60_0 : Ref sig .tc := ⟨.hbm, 91, rfl⟩
abbrev main_v60_1 : Ref sig .tc := ⟨.hbm, 92, rfl⟩
abbrev main_v60_2 : Ref sig .tc := ⟨.hbm, 93, rfl⟩
abbrev main_v60_3 : Ref sig .tc := ⟨.hbm, 94, rfl⟩
abbrev main_v60_4 : Ref sig .tc := ⟨.hbm, 95, rfl⟩
abbrev main_v60_5 : Ref sig .tc := ⟨.hbm, 96, rfl⟩
abbrev main_v60_6 : Ref sig .tc := ⟨.hbm, 97, rfl⟩
abbrev main_v60_7 : Ref sig .tc := ⟨.hbm, 98, rfl⟩
abbrev main_while0c_c_14 : Ref sig .tc := ⟨.hbm, 99, rfl⟩
abbrev main_while0c_v75 : Ref sig .tc := ⟨.hbm, 100, rfl⟩
abbrev main_while0b_call2_c : Ref sig .tc := ⟨.hbm, 101, rfl⟩
abbrev main_while0b_call2_c_0 : Ref sig .tc := ⟨.hbm, 102, rfl⟩
abbrev main_while0b_call2_v0 : Ref sig .tc := ⟨.hbm, 103, rfl⟩
abbrev main_while0b_v75 : Ref sig .tc := ⟨.hbm, 104, rfl⟩
abbrev main_while0b_call3_c : Ref sig .tc := ⟨.hbm, 105, rfl⟩
abbrev main_while0b_call3_c_0 : Ref sig .tc := ⟨.hbm, 106, rfl⟩
abbrev main_while0b_call3_v0 : Ref sig .tc := ⟨.hbm, 107, rfl⟩
abbrev main_while0b_v76 : Ref sig .tc := ⟨.hbm, 108, rfl⟩
abbrev main_while0b_call4_c : Ref sig .tc := ⟨.hbm, 109, rfl⟩
abbrev main_while0b_call4_c_0 : Ref sig .tc := ⟨.hbm, 110, rfl⟩
abbrev main_while0b_call4_v0 : Ref sig .tc := ⟨.hbm, 111, rfl⟩
abbrev main_while0b_v77 : Ref sig .tc := ⟨.hbm, 112, rfl⟩
abbrev main_while0b_call5_c : Ref sig .tc := ⟨.hbm, 113, rfl⟩
abbrev main_while0b_call5_c_0 : Ref sig .tc := ⟨.hbm, 114, rfl⟩
abbrev main_while0b_call5_v0 : Ref sig .tc := ⟨.hbm, 115, rfl⟩
abbrev main_while0b_v78 : Ref sig .tc := ⟨.hbm, 116, rfl⟩
abbrev main_while0b_v79 : Ref sig .tc := ⟨.hbm, 117, rfl⟩
abbrev main_while0b_v80 : Ref sig .tc := ⟨.hbm, 118, rfl⟩
abbrev main_while0b_v81 : Ref sig .tc := ⟨.hbm, 119, rfl⟩
abbrev main_while0b_v82 : Ref sig .tc := ⟨.hbm, 120, rfl⟩
abbrev main_while0b_v83 : Ref sig .tc := ⟨.hbm, 121, rfl⟩
abbrev main_while0b_v84 : Ref sig .tc := ⟨.hbm, 122, rfl⟩
abbrev main_while0b_v85 : Ref sig .tc := ⟨.hbm, 123, rfl⟩
abbrev main_while0b_v86 : Ref sig .tc := ⟨.hbm, 124, rfl⟩
abbrev main_while0b_v87 : Ref sig .tc := ⟨.hbm, 125, rfl⟩
abbrev main_while0b_v88 : Ref sig .tc := ⟨.hbm, 126, rfl⟩
abbrev main_while0b_v89 : Ref sig .tc := ⟨.hbm, 127, rfl⟩
abbrev main_while0b_v90 : Ref sig .tc := ⟨.hbm, 128, rfl⟩
abbrev main_while0b_v91 : Ref sig .tc := ⟨.hbm, 129, rfl⟩
abbrev main_while0b_v92 : Ref sig .tc := ⟨.hbm, 130, rfl⟩
abbrev main_while0b_v93 : Ref sig .tc := ⟨.hbm, 131, rfl⟩
abbrev main_while0b_v94 : Ref sig .tc := ⟨.hbm, 132, rfl⟩
abbrev main_while0b_v95 : Ref sig .tc := ⟨.hbm, 133, rfl⟩
abbrev main_while0b_v96 : Ref sig .tc := ⟨.hbm, 134, rfl⟩
abbrev main_while0b_v97 : Ref sig .tc := ⟨.hbm, 135, rfl⟩
abbrev main_while0b_cst_14 : Ref sig .tc := ⟨.hbm, 136, rfl⟩
abbrev main_while0b_v98 : Ref sig .tc := ⟨.hbm, 137, rfl⟩
abbrev main_while0b_call6_v0 : Ref sig .tc := ⟨.hbm, 138, rfl⟩
abbrev main_while0b_call6_c : Ref sig .tc := ⟨.hbm, 139, rfl⟩
abbrev main_while0b_call6_c_0 : Ref sig .tc := ⟨.hbm, 140, rfl⟩
abbrev main_while0b_v99 : Ref sig .tc := ⟨.hbm, 141, rfl⟩
abbrev main_while0b_c_15 : Ref sig .tc := ⟨.hbm, 142, rfl⟩
abbrev main_while0b_v100 : Ref sig .tc := ⟨.hbm, 143, rfl⟩
abbrev main_v61 : Ref sig .tc := ⟨.hbm, 144, rfl⟩
abbrev main_v62 : Ref sig .tc := ⟨.hbm, 145, rfl⟩
abbrev main_v63 : Ref sig .tc := ⟨.hbm, 146, rfl⟩
abbrev main_v64 : Ref sig .tc := ⟨.hbm, 147, rfl⟩
abbrev main_v65 : Ref sig .tc := ⟨.hbm, 148, rfl⟩
abbrev main_v66 : Ref sig .tc := ⟨.hbm, 149, rfl⟩
abbrev main_v67 : Ref sig .tc := ⟨.hbm, 150, rfl⟩
abbrev main_cst_5 : Ref sig .tc := ⟨.hbm, 151, rfl⟩
abbrev main_v68 : Ref sig .tc := ⟨.hbm, 152, rfl⟩
abbrev main_v69 : Ref sig .tc := ⟨.hbm, 153, rfl⟩
abbrev main_cst_6 : Ref sig .tc := ⟨.hbm, 154, rfl⟩
abbrev main_v70 : Ref sig .tc := ⟨.hbm, 155, rfl⟩
abbrev main_v71 : Ref sig .tc := ⟨.hbm, 156, rfl⟩
abbrev main_v72 : Ref sig .tc := ⟨.hbm, 157, rfl⟩
abbrev main_v73 : Ref sig .tc := ⟨.hbm, 158, rfl⟩
abbrev main_v74 : Ref sig .tc := ⟨.hbm, 159, rfl⟩

abbrev nD : Nat := 1
abbrev τ : Topo := Topo.v7x

variable {F : FTy → Type} [FloatOps F]

abbrev main_while0_count : Scf.Loop 32 := ⟨0#32, 2048#32, 1#32⟩
-- ==== Proof.FrontRuns.lean ====
/- The front (input projection, convolution, step sizes) as a region: the blocks its windows stage, the body condition and the memrefs of a point. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.Exec
public import Idealize.ShloMosaic.Lib.Ring
public import Idealize.ShloMosaic.Lib.Tactic
public import Idealize.ShloMosaic.Lib.WordCmp

@[expose] public section

set_option maxRecDepth 16384

noncomputable section

namespace Cert.KernelIdeal.Front

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (W : Dev nD → Valuation τ sig (Elt F))

/-- Core `c`'s TensorCore buffers when the region is entered, at the valuation `W`. -/
abbrev V (c : Dev nD) (b : Ref sig .tc) : Buf (Elt F) ((c : Thread nD τ).loc b) := W c (Proc.devRef .tc b)

/-! ## @main up to the region -/

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V W c (Pipeline.arrRef spec0 w))

/-- Input window 0's current staging buffer holds its block at every point, fetched there or not, for ANY proof
    data whose array is `V`'s (`hA`) and whose body leaves the block in place (`hafter`). -/
theorem before0_0_of {c : Dev nD} (dat : Dat τ (Elt F) Unit ℕ (UR sig nD τ) ℕ cfg0 c) (hA : dat.A 0 = V W c (Pipeline.arrRef spec0 0))
    (hafter : ∀ t, dat.after 0 t = iblk W c 0 t) (t : Fin cfg0.N) (d) : dat.before 0 t d = iblk W c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not, for ANY proof
    data whose array is `V`'s (`hA`) and whose body leaves the block in place (`hafter`). -/
theorem before0_1_of {c : Dev nD} (dat : Dat τ (Elt F) Unit ℕ (UR sig nD τ) ℕ cfg0 c) (hA : dat.A 1 = V W c (Pipeline.arrRef spec0 1))
    (hafter : ∀ t, dat.after 1 t = iblk W c 1 t) (t : Fin cfg0.N) (d) : dat.before 1 t d = iblk W c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not, for ANY proof
    data whose array is `V`'s (`hA`) and whose body leaves the block in place (`hafter`). -/
theorem before0_2_of {c : Dev nD} (dat : Dat τ (Elt F) Unit ℕ (UR sig nD τ) ℕ cfg0 c) (hA : dat.A 2 = V W c (Pipeline.arrRef spec0 2))
    (hafter : ∀ t, dat.after 2 t = iblk W c 2 t) (t : Fin cfg0.N) (d) : dat.before 2 t d = iblk W c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not, for ANY proof
    data whose array is `V`'s (`hA`) and whose body leaves the block in place (`hafter`). -/
theorem before0_3_of {c : Dev nD} (dat : Dat τ (Elt F) Unit ℕ (UR sig nD τ) ℕ cfg0 c) (hA : dat.A 3 = V W c (Pipeline.arrRef spec0 3))
    (hafter : ∀ t, dat.after 3 t = iblk W c 3 t) (t : Fin cfg0.N) (d) : dat.before 3 t d = iblk W c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not, for ANY proof
    data whose array is `V`'s (`hA`) and whose body leaves the block in place (`hafter`). -/
theorem before0_4_of {c : Dev nD} (dat : Dat τ (Elt F) Unit ℕ (UR sig nD τ) ℕ cfg0 c) (hA : dat.A 4 = V W c (Pipeline.arrRef spec0 4))
    (hafter : ∀ t, dat.after 4 t = iblk W c 4 t) (t : Fin cfg0.N) (d) : dat.before 4 t d = iblk W c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, fetched there or not, for ANY proof
    data whose array is `V`'s (`hA`) and whose body leaves the block in place (`hafter`). -/
theorem before0_5_of {c : Dev nD} (dat : Dat τ (Elt F) Unit ℕ (UR sig nD τ) ℕ cfg0 c) (hA : dat.A 5 = V W c (Pipeline.arrRef spec0 5))
    (hafter : ∀ t, dat.after 5 t = iblk W c 5 t) (t : Fin cfg0.N) (d) : dat.before 5 t d = iblk W c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's current staging buffer holds its block at every point, fetched there or not, for ANY proof
    data whose array is `V`'s (`hA`) and whose body leaves the block in place (`hafter`). -/
theorem before0_6_of {c : Dev nD} (dat : Dat τ (Elt F) Unit ℕ (UR sig nD τ) ℕ cfg0 c) (hA : dat.A 6 = V W c (Pipeline.arrRef spec0 6))
    (hafter : ∀ t, dat.after 6 t = iblk W c 6 t) (t : Fin cfg0.N) (d) : dat.before 6 t d = iblk W c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-! ## The body's branch conditions -/

/-- The condition of the body's `scf.if` 0 (`k0_h1`), from the grid coordinates. -/
abbrev cond0_0 (i : grid0.Coords) : Prop := (Scalar.cmpi .ne (Scalar.extui (Scalar.cmpi .eq (BitVec.ofNat 32 (i 1).val) 0#32)) 0#32) = 1#1

/-- It holds at the points ≡ 0 (mod 4) — by arithmetic of the point. -/
theorem hcond0_0 : ∀ t : Fin cfg0.N, cond0_0 (grid0.coords t) ↔ t.val % 4 = 0 :=
  (fun t => by
    have ht : t.val < 8 := Nat.lt_of_lt_of_eq t.isLt N_0
    have e0 : (grid0.coords t 0).val = t.val / 4 % 2 := Pipeline.Grid.coords_val t 0 (by decide) rfl
    have e1 : (grid0.coords t 1).val = t.val / 1 % 4 := Pipeline.Grid.coords_val t 1 (by decide) rfl
    simp only [cond0_0, e0, e1]
    word_cmp
   : ∀ t : Fin grid0.N, cond0_0 (grid0.coords t) ↔ t.val % 4 = 0)

/-! ## The kernel body on any staging memrefs: a subtype the run finds -/

/-- One staging buffer of output window 7, through which its contents are stated (`View.read_writes_of_cover`: the
    choice does not matter). -/
abbrev VO0_7 : View sig .tc .vmem S512x2048 .f32 := (Memref.whole cc0_stg7_0 : Memref sig .tc .vmem S512x2048 .f32).view

/-- One staging buffer of output window 8, through which its contents are stated (`View.read_writes_of_cover`: the
    choice does not matter). -/
abbrev VO0_8 : View sig .tc .vmem S512x2048 .f32 := (Memref.whole cc0_stg8_0 : Memref sig .tc .vmem S512x2048 .f32).view

/-- One staging buffer of output window 9, through which its contents are stated (`View.read_writes_of_cover`: the
    choice does not matter). -/
abbrev VO0_9 : View sig .tc .vmem S16x512 .f32 := (Memref.whole cc0_stg9_0 : Memref sig .tc .vmem S16x512 .f32).view

/-- One staging buffer of output window 10, through which its contents are stated (`View.read_writes_of_cover`: the
    choice does not matter). -/
abbrev VO0_10 : View sig .tc .vmem S16x512 .f32 := (Memref.whole cc0_stg10_0 : Memref sig .tc .vmem S16x512 .f32).view

/-- Each window's current staging memref at point `t`, spelled as the pipeline passes it (`bodyAt0`), and its wholeness. -/
abbrev ms0_0 (t : Fin cfg0.N) : Memref sig .tc .vmem S1x512x1024 .f32 := win0_0.stage (cfg0.slots t 0)

abbrev hs0_0 (t : Fin cfg0.N) : (ms0_0 t).IsWhole := hstage0_0 ((cfg0.slots t 0).cast nbuf0_0)

abbrev ms0_1 (t : Fin cfg0.N) : Memref sig .tc .vmem S1024x2048 .f32 := win0_1.stage (cfg0.slots t 1)

abbrev hs0_1 (t : Fin cfg0.N) : (ms0_1 t).IsWhole := hstage0_1 ((cfg0.slots t 1).cast nbuf0_1)

abbrev ms0_2 (t : Fin cfg0.N) : Memref sig .tc .vmem S2048x96 .f32 := win0_2.stage (cfg0.slots t 2)

abbrev hs0_2 (t : Fin cfg0.N) : (ms0_2 t).IsWhole := hstage0_2 ((cfg0.slots t 2).cast nbuf0_2)

abbrev ms0_3 (t : Fin cfg0.N) : Memref sig .tc .vmem S64x2048 .f32 := win0_3.stage (cfg0.slots t 3)

abbrev hs0_3 (t : Fin cfg0.N) : (ms0_3 t).IsWhole := hstage0_3 ((cfg0.slots t 3).cast nbuf0_3)

abbrev ms0_4 (t : Fin cfg0.N) : Memref sig .tc .vmem S4x2048 .f32 := win0_4.stage (cfg0.slots t 4)

abbrev hs0_4 (t : Fin cfg0.N) : (ms0_4 t).IsWhole := hstage0_4 ((cfg0.slots t 4).cast nbuf0_4)

abbrev ms0_5 (t : Fin cfg0.N) : Memref sig .tc .vmem S1x2048 .f32 := win0_5.stage (cfg0.slots t 5)

abbrev hs0_5 (t : Fin cfg0.N) : (ms0_5 t).IsWhole := hstage0_5 ((cfg0.slots t 5).cast nbuf0_5)

abbrev ms0_6 (t : Fin cfg0.N) : Memref sig .tc .vmem S1x2048 .f32 := win0_6.stage (cfg0.slots t 6)

abbrev hs0_6 (t : Fin cfg0.N) : (ms0_6 t).IsWhole := hstage0_6 ((cfg0.slots t 6).cast nbuf0_6)

abbrev ms0_7 (t : Fin cfg0.N) : Memref sig .tc .vmem S512x2048 .f32 := win0_7.stage (cfg0.slots t 7)

abbrev hs0_7 (t : Fin cfg0.N) : (ms0_7 t).IsWhole := hstage0_7 ((cfg0.slots t 7).cast nbuf0_7)

abbrev ms0_8 (t : Fin cfg0.N) : Memref sig .tc .vmem S512x2048 .f32 := win0_8.stage (cfg0.slots t 8)

abbrev hs0_8 (t : Fin cfg0.N) : (ms0_8 t).IsWhole := hstage0_8 ((cfg0.slots t 8).cast nbuf0_8)

abbrev ms0_9 (t : Fin cfg0.N) : Memref sig .tc .vmem S16x512 .f32 := win0_9.stage (cfg0.slots t 9)

abbrev hs0_9 (t : Fin cfg0.N) : (ms0_9 t).IsWhole := hstage0_9 ((cfg0.slots t 9).cast nbuf0_9)

abbrev ms0_10 (t : Fin cfg0.N) : Memref sig .tc .vmem S16x512 .f32 := win0_10.stage (cfg0.slots t 10)

abbrev hs0_10 (t : Fin cfg0.N) : (ms0_10 t).IsWhole := hstage0_10 ((cfg0.slots t 10).cast nbuf0_10)

/-- The scratch operands: whole scoped buffers of the kernel's own, passed beside the windows. -/
abbrev scM0_0 : Memref sig .tc .vmem S8x2048 .f32 := Memref.whole cc0_scratch0

/-- The scratch `arg13` the kernel carries between points, as a view: what it holds is stated through it. -/
abbrev VS0_0 : View sig .tc .vmem S8x2048 .f32 := scM0_0.view

/-- What rides through the body unread: every scoped buffer but the windows' staging and the carried scratch, and the
    generator register at some state. -/
def Rg (c : Dev nD) : sProp 𝕄 :=
  iprop(Pipeline.scopedRestBut (Ix := Unit) (Name := ℕ) (U := UR sig nD τ) (Lvl := ℕ) (Val := Elt F) spec0 c [cc0_scratch0] ∗ ∃ r, prngReg c r)

/-- The class's invariant with the carried scratch as a memref owned at some contents. -/
theorem PhiA0_eq (c : Dev nD) :
    (Pipeline.ΦA spec0 c : sProp 𝕄)
      = iprop(iprop((∃ d, owns (c : Thread nD τ) scM0_0 fullShare d)) ∗ Rg c) := by
  unfold Pipeline.ΦA Rg
  rw [Pipeline.scopedRest_split_of_list spec0 c [cc0_scratch0] (by decide) (by decide)]
  simp only [scM0_0, owns_whole]
  exact Idealize.SL.BI.sep_assoc.antisymm Idealize.SL.BI.sep_assoc'

end Cert.KernelIdeal.Front

end
-- ==== Proof.FrontRunA.lean ====
/- The front (input projection, convolution, step sizes): the run of the body at the first point of a sequence, where the carried scratch is reset. -/
module

public import proofs.«01_k».proof.Proof.FrontRuns

@[expose] public section

set_option maxRecDepth 16384

noncomputable section

namespace Cert.KernelIdeal.Front

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (W : Dev nD → Valuation τ sig (Elt F))

set_option maxHeartbeats 1000000 in
/-- What the body's stores leave in each output's staging memref, as pieces (last first) IN CASE A (`scf.if` 0 taken: points 0, 4), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written. Each `scf.if` is decided by the
    case's hypotheses `hc·`; the pieces are the ones the run finds. -/
noncomputable def kernelRun0_A (c : Dev nD) (i : grid0.Coords) (arg2 : Memref sig .tc .vmem S1x512x1024 .f32) (harg2 : arg2.IsWhole) (arg3 : Memref sig .tc .vmem S1024x2048 .f32) (harg3 : arg3.IsWhole) (arg4 : Memref sig .tc .vmem S2048x96 .f32) (harg4 : arg4.IsWhole) (arg5 : Memref sig .tc .vmem S64x2048 .f32) (harg5 : arg5.IsWhole) (arg6 : Memref sig .tc .vmem S4x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S512x2048 .f32) (harg9 : arg9.IsWhole) (arg10 : Memref sig .tc .vmem S512x2048 .f32) (harg10 : arg10.IsWhole) (arg11 : Memref sig .tc .vmem S16x512 .f32) (harg11 : arg11.IsWhole) (arg12 : Memref sig .tc .vmem S16x512 .f32) (harg12 : arg12.IsWhole) (arg13 : Memref sig .tc .vmem S8x2048 .f32) (harg13 : arg13.IsWhole) (hc0 : cond0_0 i)
    (x0 : Vec F S1x512x1024 .f32) (x1 : Vec F S1024x2048 .f32) (x2 : Vec F S2048x96 .f32) (x3 : Vec F S64x2048 .f32) (x4 : Vec F S4x2048 .f32) (x5 : Vec F S1x2048 .f32) (x6 : Vec F S1x2048 .f32) :
    Σ' (L7 : List (View.Piece (Elt F) S512x2048 .f32)), Σ' (L8 : List (View.Piece (Elt F) S512x2048 .f32)), Σ' (L9 : List (View.Piece (Elt F) S16x512 .f32)), Σ' (L10 : List (View.Piece (Elt F) S16x512 .f32)), { LS0 : List (View.Piece (Elt F) S8x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f LS0)) -∗ K ⟨⟩))
          ⊢ wp frame (wpE (defs₀ (F := F)) Variants.none c none) E (cc0_mamba_front i arg2 harg2 arg3 harg3 arg4 harg4 arg5 harg5 arg6 harg6 arg7 harg7 arg8 harg8 arg9 harg9 arg10 harg10 arg11 harg11 arg12 harg12 arg13 harg13) K } := by
  refine ⟨?_, ?_, ?_, ?_, ?_, fun E K => ?run⟩
  case run =>
    simp only [cc0_mamba_front_eq_skeleton]; unfold cc0_mamba_front_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [H8]; · iexists _; iexact H8
    isplitl [H9]; · iexists _; iexact H9
    isplitl [H10]; · iexists _; iexact H10
    iexists _; iexact HS0

end Cert.KernelIdeal.Front

end
-- ==== Proof.FrontRunB.lean ====
/- The front (input projection, convolution, step sizes): the run of the body at a later point, over what the point before left. -/
module

public import proofs.«01_k».proof.Proof.FrontRunA

@[expose] public section

set_option maxRecDepth 16384

noncomputable section

namespace Cert.KernelIdeal.Front

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (W : Dev nD → Valuation τ sig (Elt F))

set_option maxHeartbeats 1000000 in
/-- What the body's stores leave in each output's staging memref, as pieces (last first) IN CASE B (`scf.if` 0 not taken: points 1, 2, 3, 5, 6, 7), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written. Each `scf.if` is decided by the
    case's hypotheses `hc·`; the pieces are the ones the run finds. -/
noncomputable def kernelRun0_B (c : Dev nD) (i : grid0.Coords) (arg2 : Memref sig .tc .vmem S1x512x1024 .f32) (harg2 : arg2.IsWhole) (arg3 : Memref sig .tc .vmem S1024x2048 .f32) (harg3 : arg3.IsWhole) (arg4 : Memref sig .tc .vmem S2048x96 .f32) (harg4 : arg4.IsWhole) (arg5 : Memref sig .tc .vmem S64x2048 .f32) (harg5 : arg5.IsWhole) (arg6 : Memref sig .tc .vmem S4x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S512x2048 .f32) (harg9 : arg9.IsWhole) (arg10 : Memref sig .tc .vmem S512x2048 .f32) (harg10 : arg10.IsWhole) (arg11 : Memref sig .tc .vmem S16x512 .f32) (harg11 : arg11.IsWhole) (arg12 : Memref sig .tc .vmem S16x512 .f32) (harg12 : arg12.IsWhole) (arg13 : Memref sig .tc .vmem S8x2048 .f32) (harg13 : arg13.IsWhole) (hc0 : ¬cond0_0 i)
    (x0 : Vec F S1x512x1024 .f32) (x1 : Vec F S1024x2048 .f32) (x2 : Vec F S2048x96 .f32) (x3 : Vec F S64x2048 .f32) (x4 : Vec F S4x2048 .f32) (x5 : Vec F S1x2048 .f32) (x6 : Vec F S1x2048 .f32) (xs0 : Vec F S8x2048 .f32) :
    Σ' (L7 : List (View.Piece (Elt F) S512x2048 .f32)), Σ' (L8 : List (View.Piece (Elt F) S512x2048 .f32)), Σ' (L9 : List (View.Piece (Elt F) S16x512 .f32)), Σ' (L10 : List (View.Piece (Elt F) S16x512 .f32)), { LS0 : List (View.Piece (Elt F) S8x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ owns (c : Thread nD τ) arg13 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f LS0)) -∗ K ⟨⟩))
          ⊢ wp frame (wpE (defs₀ (F := F)) Variants.none c none) E (cc0_mamba_front i arg2 harg2 arg3 harg3 arg4 harg4 arg5 harg5 arg6 harg6 arg7 harg7 arg8 harg8 arg9 harg9 arg10 harg10 arg11 harg11 arg12 harg12 arg13 harg13) K } := by
  refine ⟨?_, ?_, ?_, ?_, ?_, fun E K => ?run⟩
  case run =>
    simp only [cc0_mamba_front_eq_skeleton]; unfold cc0_mamba_front_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg13.eq_unread hfs0
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [H8]; · iexists _; iexact H8
    isplitl [H9]; · iexists _; iexact H9
    isplitl [H10]; · iexists _; iexact H10
    iexists _; iexact HS0

end Cert.KernelIdeal.Front

end
-- ==== Proof.Front.lean ====
/- The front (input projection, convolution, step sizes) as a region: what each point leaves, the proof data and the body obligation, for any entry contents. -/
module

public import proofs.«01_k».proof.Proof.FrontRunB

@[expose] public section

set_option maxRecDepth 16384

noncomputable section

namespace Cert.KernelIdeal.Front

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (W : Dev nD → Valuation τ sig (Elt F))

/-- Case A's pieces for output 7 tile its block (1 store of `S512x2048`), so they cover it. -/
theorem cover0_A_7 (c : Dev nD) (i : grid0.Coords) (arg2 : Memref sig .tc .vmem S1x512x1024 .f32) (harg2 : arg2.IsWhole) (arg3 : Memref sig .tc .vmem S1024x2048 .f32) (harg3 : arg3.IsWhole) (arg4 : Memref sig .tc .vmem S2048x96 .f32) (harg4 : arg4.IsWhole) (arg5 : Memref sig .tc .vmem S64x2048 .f32) (harg5 : arg5.IsWhole) (arg6 : Memref sig .tc .vmem S4x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S512x2048 .f32) (harg9 : arg9.IsWhole) (arg10 : Memref sig .tc .vmem S512x2048 .f32) (harg10 : arg10.IsWhole) (arg11 : Memref sig .tc .vmem S16x512 .f32) (harg11 : arg11.IsWhole) (arg12 : Memref sig .tc .vmem S16x512 .f32) (harg12 : arg12.IsWhole) (arg13 : Memref sig .tc .vmem S8x2048 .f32) (harg13 : arg13.IsWhole) (hc0 : cond0_0 i)
    (x0 : Vec F S1x512x1024 .f32) (x1 : Vec F S1024x2048 .f32) (x2 : Vec F S2048x96 .f32) (x3 : Vec F S64x2048 .f32) (x4 : Vec F S4x2048 .f32) (x5 : Vec F S1x2048 .f32) (x6 : Vec F S1x2048 .f32) (y : S512x2048.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4 x5 x6).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4 x5 x6).1 S512x2048.size (by sl_kernel_rfl) y

/-- What case A leaves in output 7's staging buffer: its pieces read back over junk. -/
def out0_A_7 (c : Dev nD) (i : grid0.Coords) (arg2 : Memref sig .tc .vmem S1x512x1024 .f32) (harg2 : arg2.IsWhole) (arg3 : Memref sig .tc .vmem S1024x2048 .f32) (harg3 : arg3.IsWhole) (arg4 : Memref sig .tc .vmem S2048x96 .f32) (harg4 : arg4.IsWhole) (arg5 : Memref sig .tc .vmem S64x2048 .f32) (harg5 : arg5.IsWhole) (arg6 : Memref sig .tc .vmem S4x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S512x2048 .f32) (harg9 : arg9.IsWhole) (arg10 : Memref sig .tc .vmem S512x2048 .f32) (harg10 : arg10.IsWhole) (arg11 : Memref sig .tc .vmem S16x512 .f32) (harg11 : arg11.IsWhole) (arg12 : Memref sig .tc .vmem S16x512 .f32) (harg12 : arg12.IsWhole) (arg13 : Memref sig .tc .vmem S8x2048 .f32) (harg13 : arg13.IsWhole) (hc0 : cond0_0 i)
    (x0 : Vec F S1x512x1024 .f32) (x1 : Vec F S1024x2048 .f32) (x2 : Vec F S2048x96 .f32) (x3 : Vec F S64x2048 .f32) (x4 : Vec F S4x2048 .f32) (x5 : Vec F S1x2048 .f32) (x6 : Vec F S1x2048 .f32) : Vec F S512x2048 .f32 :=
  VO0_7.read (Elt F) (VO0_7.writes (Elt F) VO0_7.junk (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4 x5 x6).1)

/-- Case A's pieces for output 8 tile its block (1 store of `S512x2048`), so they cover it. -/
theorem cover0_A_8 (c : Dev nD) (i : grid0.Coords) (arg2 : Memref sig .tc .vmem S1x512x1024 .f32) (harg2 : arg2.IsWhole) (arg3 : Memref sig .tc .vmem S1024x2048 .f32) (harg3 : arg3.IsWhole) (arg4 : Memref sig .tc .vmem S2048x96 .f32) (harg4 : arg4.IsWhole) (arg5 : Memref sig .tc .vmem S64x2048 .f32) (harg5 : arg5.IsWhole) (arg6 : Memref sig .tc .vmem S4x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S512x2048 .f32) (harg9 : arg9.IsWhole) (arg10 : Memref sig .tc .vmem S512x2048 .f32) (harg10 : arg10.IsWhole) (arg11 : Memref sig .tc .vmem S16x512 .f32) (harg11 : arg11.IsWhole) (arg12 : Memref sig .tc .vmem S16x512 .f32) (harg12 : arg12.IsWhole) (arg13 : Memref sig .tc .vmem S8x2048 .f32) (harg13 : arg13.IsWhole) (hc0 : cond0_0 i)
    (x0 : Vec F S1x512x1024 .f32) (x1 : Vec F S1024x2048 .f32) (x2 : Vec F S2048x96 .f32) (x3 : Vec F S64x2048 .f32) (x4 : Vec F S4x2048 .f32) (x5 : Vec F S1x2048 .f32) (x6 : Vec F S1x2048 .f32) (y : S512x2048.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4 x5 x6).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4 x5 x6).2.1 S512x2048.size (by sl_kernel_rfl) y

/-- What case A leaves in output 8's staging buffer: its pieces read back over junk. -/
def out0_A_8 (c : Dev nD) (i : grid0.Coords) (arg2 : Memref sig .tc .vmem S1x512x1024 .f32) (harg2 : arg2.IsWhole) (arg3 : Memref sig .tc .vmem S1024x2048 .f32) (harg3 : arg3.IsWhole) (arg4 : Memref sig .tc .vmem S2048x96 .f32) (harg4 : arg4.IsWhole) (arg5 : Memref sig .tc .vmem S64x2048 .f32) (harg5 : arg5.IsWhole) (arg6 : Memref sig .tc .vmem S4x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S512x2048 .f32) (harg9 : arg9.IsWhole) (arg10 : Memref sig .tc .vmem S512x2048 .f32) (harg10 : arg10.IsWhole) (arg11 : Memref sig .tc .vmem S16x512 .f32) (harg11 : arg11.IsWhole) (arg12 : Memref sig .tc .vmem S16x512 .f32) (harg12 : arg12.IsWhole) (arg13 : Memref sig .tc .vmem S8x2048 .f32) (harg13 : arg13.IsWhole) (hc0 : cond0_0 i)
    (x0 : Vec F S1x512x1024 .f32) (x1 : Vec F S1024x2048 .f32) (x2 : Vec F S2048x96 .f32) (x3 : Vec F S64x2048 .f32) (x4 : Vec F S4x2048 .f32) (x5 : Vec F S1x2048 .f32) (x6 : Vec F S1x2048 .f32) : Vec F S512x2048 .f32 :=
  VO0_8.read (Elt F) (VO0_8.writes (Elt F) VO0_8.junk (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4 x5 x6).2.1)

/-- Case A's pieces for output 9 tile its block (1 store of `S16x512`), so they cover it. -/
theorem cover0_A_9 (c : Dev nD) (i : grid0.Coords) (arg2 : Memref sig .tc .vmem S1x512x1024 .f32) (harg2 : arg2.IsWhole) (arg3 : Memref sig .tc .vmem S1024x2048 .f32) (harg3 : arg3.IsWhole) (arg4 : Memref sig .tc .vmem S2048x96 .f32) (harg4 : arg4.IsWhole) (arg5 : Memref sig .tc .vmem S64x2048 .f32) (harg5 : arg5.IsWhole) (arg6 : Memref sig .tc .vmem S4x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S512x2048 .f32) (harg9 : arg9.IsWhole) (arg10 : Memref sig .tc .vmem S512x2048 .f32) (harg10 : arg10.IsWhole) (arg11 : Memref sig .tc .vmem S16x512 .f32) (harg11 : arg11.IsWhole) (arg12 : Memref sig .tc .vmem S16x512 .f32) (harg12 : arg12.IsWhole) (arg13 : Memref sig .tc .vmem S8x2048 .f32) (harg13 : arg13.IsWhole) (hc0 : cond0_0 i)
    (x0 : Vec F S1x512x1024 .f32) (x1 : Vec F S1024x2048 .f32) (x2 : Vec F S2048x96 .f32) (x3 : Vec F S64x2048 .f32) (x4 : Vec F S4x2048 .f32) (x5 : Vec F S1x2048 .f32) (x6 : Vec F S1x2048 .f32) (y : S16x512.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4 x5 x6).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4 x5 x6).2.2.1 S16x512.size (by sl_kernel_rfl) y

/-- What case A leaves in output 9's staging buffer: its pieces read back over junk. -/
def out0_A_9 (c : Dev nD) (i : grid0.Coords) (arg2 : Memref sig .tc .vmem S1x512x1024 .f32) (harg2 : arg2.IsWhole) (arg3 : Memref sig .tc .vmem S1024x2048 .f32) (harg3 : arg3.IsWhole) (arg4 : Memref sig .tc .vmem S2048x96 .f32) (harg4 : arg4.IsWhole) (arg5 : Memref sig .tc .vmem S64x2048 .f32) (harg5 : arg5.IsWhole) (arg6 : Memref sig .tc .vmem S4x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S512x2048 .f32) (harg9 : arg9.IsWhole) (arg10 : Memref sig .tc .vmem S512x2048 .f32) (harg10 : arg10.IsWhole) (arg11 : Memref sig .tc .vmem S16x512 .f32) (harg11 : arg11.IsWhole) (arg12 : Memref sig .tc .vmem S16x512 .f32) (harg12 : arg12.IsWhole) (arg13 : Memref sig .tc .vmem S8x2048 .f32) (harg13 : arg13.IsWhole) (hc0 : cond0_0 i)
    (x0 : Vec F S1x512x1024 .f32) (x1 : Vec F S1024x2048 .f32) (x2 : Vec F S2048x96 .f32) (x3 : Vec F S64x2048 .f32) (x4 : Vec F S4x2048 .f32) (x5 : Vec F S1x2048 .f32) (x6 : Vec F S1x2048 .f32) : Vec F S16x512 .f32 :=
  VO0_9.read (Elt F) (VO0_9.writes (Elt F) VO0_9.junk (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4 x5 x6).2.2.1)

/-- Case A's pieces for output 10 tile its block (1 store of `S16x512`), so they cover it. -/
theorem cover0_A_10 (c : Dev nD) (i : grid0.Coords) (arg2 : Memref sig .tc .vmem S1x512x1024 .f32) (harg2 : arg2.IsWhole) (arg3 : Memref sig .tc .vmem S1024x2048 .f32) (harg3 : arg3.IsWhole) (arg4 : Memref sig .tc .vmem S2048x96 .f32) (harg4 : arg4.IsWhole) (arg5 : Memref sig .tc .vmem S64x2048 .f32) (harg5 : arg5.IsWhole) (arg6 : Memref sig .tc .vmem S4x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S512x2048 .f32) (harg9 : arg9.IsWhole) (arg10 : Memref sig .tc .vmem S512x2048 .f32) (harg10 : arg10.IsWhole) (arg11 : Memref sig .tc .vmem S16x512 .f32) (harg11 : arg11.IsWhole) (arg12 : Memref sig .tc .vmem S16x512 .f32) (harg12 : arg12.IsWhole) (arg13 : Memref sig .tc .vmem S8x2048 .f32) (harg13 : arg13.IsWhole) (hc0 : cond0_0 i)
    (x0 : Vec F S1x512x1024 .f32) (x1 : Vec F S1024x2048 .f32) (x2 : Vec F S2048x96 .f32) (x3 : Vec F S64x2048 .f32) (x4 : Vec F S4x2048 .f32) (x5 : Vec F S1x2048 .f32) (x6 : Vec F S1x2048 .f32) (y : S16x512.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4 x5 x6).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4 x5 x6).2.2.2.1 S16x512.size (by sl_kernel_rfl) y

/-- What case A leaves in output 10's staging buffer: its pieces read back over junk. -/
def out0_A_10 (c : Dev nD) (i : grid0.Coords) (arg2 : Memref sig .tc .vmem S1x512x1024 .f32) (harg2 : arg2.IsWhole) (arg3 : Memref sig .tc .vmem S1024x2048 .f32) (harg3 : arg3.IsWhole) (arg4 : Memref sig .tc .vmem S2048x96 .f32) (harg4 : arg4.IsWhole) (arg5 : Memref sig .tc .vmem S64x2048 .f32) (harg5 : arg5.IsWhole) (arg6 : Memref sig .tc .vmem S4x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S512x2048 .f32) (harg9 : arg9.IsWhole) (arg10 : Memref sig .tc .vmem S512x2048 .f32) (harg10 : arg10.IsWhole) (arg11 : Memref sig .tc .vmem S16x512 .f32) (harg11 : arg11.IsWhole) (arg12 : Memref sig .tc .vmem S16x512 .f32) (harg12 : arg12.IsWhole) (arg13 : Memref sig .tc .vmem S8x2048 .f32) (harg13 : arg13.IsWhole) (hc0 : cond0_0 i)
    (x0 : Vec F S1x512x1024 .f32) (x1 : Vec F S1024x2048 .f32) (x2 : Vec F S2048x96 .f32) (x3 : Vec F S64x2048 .f32) (x4 : Vec F S4x2048 .f32) (x5 : Vec F S1x2048 .f32) (x6 : Vec F S1x2048 .f32) : Vec F S16x512 .f32 :=
  VO0_10.read (Elt F) (VO0_10.writes (Elt F) VO0_10.junk (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4 x5 x6).2.2.2.1)

/-- Case A's pieces for scratch `arg13`, which the kernel carries between points, cover it: 2 pieces of `S8x2048` tiling it. -/
theorem scover0_A_0 (c : Dev nD) (i : grid0.Coords) (arg2 : Memref sig .tc .vmem S1x512x1024 .f32) (harg2 : arg2.IsWhole) (arg3 : Memref sig .tc .vmem S1024x2048 .f32) (harg3 : arg3.IsWhole) (arg4 : Memref sig .tc .vmem S2048x96 .f32) (harg4 : arg4.IsWhole) (arg5 : Memref sig .tc .vmem S64x2048 .f32) (harg5 : arg5.IsWhole) (arg6 : Memref sig .tc .vmem S4x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S512x2048 .f32) (harg9 : arg9.IsWhole) (arg10 : Memref sig .tc .vmem S512x2048 .f32) (harg10 : arg10.IsWhole) (arg11 : Memref sig .tc .vmem S16x512 .f32) (harg11 : arg11.IsWhole) (arg12 : Memref sig .tc .vmem S16x512 .f32) (harg12 : arg12.IsWhole) (arg13 : Memref sig .tc .vmem S8x2048 .f32) (harg13 : arg13.IsWhole) (hc0 : cond0_0 i)
    (x0 : Vec F S1x512x1024 .f32) (x1 : Vec F S1024x2048 .f32) (x2 : Vec F S2048x96 .f32) (x3 : Vec F S64x2048 .f32) (x4 : Vec F S4x2048 .f32) (x5 : Vec F S1x2048 .f32) (x6 : Vec F S1x2048 .f32) (y : S8x2048.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4 x5 x6).2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4 x5 x6).2.2.2.2.1 S8x2048.size (by sl_kernel_rfl) y

/-- What case A leaves in scratch `arg13`: its pieces read back over junk. -/
def sout0_A_0 (c : Dev nD) (i : grid0.Coords) (arg2 : Memref sig .tc .vmem S1x512x1024 .f32) (harg2 : arg2.IsWhole) (arg3 : Memref sig .tc .vmem S1024x2048 .f32) (harg3 : arg3.IsWhole) (arg4 : Memref sig .tc .vmem S2048x96 .f32) (harg4 : arg4.IsWhole) (arg5 : Memref sig .tc .vmem S64x2048 .f32) (harg5 : arg5.IsWhole) (arg6 : Memref sig .tc .vmem S4x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S512x2048 .f32) (harg9 : arg9.IsWhole) (arg10 : Memref sig .tc .vmem S512x2048 .f32) (harg10 : arg10.IsWhole) (arg11 : Memref sig .tc .vmem S16x512 .f32) (harg11 : arg11.IsWhole) (arg12 : Memref sig .tc .vmem S16x512 .f32) (harg12 : arg12.IsWhole) (arg13 : Memref sig .tc .vmem S8x2048 .f32) (harg13 : arg13.IsWhole) (hc0 : cond0_0 i)
    (x0 : Vec F S1x512x1024 .f32) (x1 : Vec F S1024x2048 .f32) (x2 : Vec F S2048x96 .f32) (x3 : Vec F S64x2048 .f32) (x4 : Vec F S4x2048 .f32) (x5 : Vec F S1x2048 .f32) (x6 : Vec F S1x2048 .f32) : Vec F S8x2048 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4 x5 x6).2.2.2.2.1)

/-- Case B's pieces for output 7 tile its block (1 store of `S512x2048`), so they cover it. -/
theorem cover0_B_7 (c : Dev nD) (i : grid0.Coords) (arg2 : Memref sig .tc .vmem S1x512x1024 .f32) (harg2 : arg2.IsWhole) (arg3 : Memref sig .tc .vmem S1024x2048 .f32) (harg3 : arg3.IsWhole) (arg4 : Memref sig .tc .vmem S2048x96 .f32) (harg4 : arg4.IsWhole) (arg5 : Memref sig .tc .vmem S64x2048 .f32) (harg5 : arg5.IsWhole) (arg6 : Memref sig .tc .vmem S4x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S512x2048 .f32) (harg9 : arg9.IsWhole) (arg10 : Memref sig .tc .vmem S512x2048 .f32) (harg10 : arg10.IsWhole) (arg11 : Memref sig .tc .vmem S16x512 .f32) (harg11 : arg11.IsWhole) (arg12 : Memref sig .tc .vmem S16x512 .f32) (harg12 : arg12.IsWhole) (arg13 : Memref sig .tc .vmem S8x2048 .f32) (harg13 : arg13.IsWhole) (hc0 : ¬cond0_0 i)
    (x0 : Vec F S1x512x1024 .f32) (x1 : Vec F S1024x2048 .f32) (x2 : Vec F S2048x96 .f32) (x3 : Vec F S64x2048 .f32) (x4 : Vec F S4x2048 .f32) (x5 : Vec F S1x2048 .f32) (x6 : Vec F S1x2048 .f32) (xs0 : Vec F S8x2048 .f32) (y : S512x2048.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 hc0 x0 x1 x2 x3 x4 x5 x6 xs0).1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 hc0 x0 x1 x2 x3 x4 x5 x6 xs0).1 S512x2048.size (by sl_kernel_rfl) y

/-- What case B leaves in output 7's staging buffer: its pieces read back over junk. -/
def out0_B_7 (c : Dev nD) (i : grid0.Coords) (arg2 : Memref sig .tc .vmem S1x512x1024 .f32) (harg2 : arg2.IsWhole) (arg3 : Memref sig .tc .vmem S1024x2048 .f32) (harg3 : arg3.IsWhole) (arg4 : Memref sig .tc .vmem S2048x96 .f32) (harg4 : arg4.IsWhole) (arg5 : Memref sig .tc .vmem S64x2048 .f32) (harg5 : arg5.IsWhole) (arg6 : Memref sig .tc .vmem S4x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S512x2048 .f32) (harg9 : arg9.IsWhole) (arg10 : Memref sig .tc .vmem S512x2048 .f32) (harg10 : arg10.IsWhole) (arg11 : Memref sig .tc .vmem S16x512 .f32) (harg11 : arg11.IsWhole) (arg12 : Memref sig .tc .vmem S16x512 .f32) (harg12 : arg12.IsWhole) (arg13 : Memref sig .tc .vmem S8x2048 .f32) (harg13 : arg13.IsWhole) (hc0 : ¬cond0_0 i)
    (x0 : Vec F S1x512x1024 .f32) (x1 : Vec F S1024x2048 .f32) (x2 : Vec F S2048x96 .f32) (x3 : Vec F S64x2048 .f32) (x4 : Vec F S4x2048 .f32) (x5 : Vec F S1x2048 .f32) (x6 : Vec F S1x2048 .f32) (xs0 : Vec F S8x2048 .f32) : Vec F S512x2048 .f32 :=
  VO0_7.read (Elt F) (VO0_7.writes (Elt F) VO0_7.junk (kernelRun0_B c i arg2 harg2 arg3 harg3 arg4 harg4 arg5 harg5 arg6 harg6 arg7 harg7 arg8 harg8 arg9 harg9 arg10 harg10 arg11 harg11 arg12 harg12 arg13 harg13 hc0 x0 x1 x2 x3 x4 x5 x6 xs0).1)

/-- Case B's pieces for output 8 tile its block (1 store of `S512x2048`), so they cover it. -/
theorem cover0_B_8 (c : Dev nD) (i : grid0.Coords) (arg2 : Memref sig .tc .vmem S1x512x1024 .f32) (harg2 : arg2.IsWhole) (arg3 : Memref sig .tc .vmem S1024x2048 .f32) (harg3 : arg3.IsWhole) (arg4 : Memref sig .tc .vmem S2048x96 .f32) (harg4 : arg4.IsWhole) (arg5 : Memref sig .tc .vmem S64x2048 .f32) (harg5 : arg5.IsWhole) (arg6 : Memref sig .tc .vmem S4x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S512x2048 .f32) (harg9 : arg9.IsWhole) (arg10 : Memref sig .tc .vmem S512x2048 .f32) (harg10 : arg10.IsWhole) (arg11 : Memref sig .tc .vmem S16x512 .f32) (harg11 : arg11.IsWhole) (arg12 : Memref sig .tc .vmem S16x512 .f32) (harg12 : arg12.IsWhole) (arg13 : Memref sig .tc .vmem S8x2048 .f32) (harg13 : arg13.IsWhole) (hc0 : ¬cond0_0 i)
    (x0 : Vec F S1x512x1024 .f32) (x1 : Vec F S1024x2048 .f32) (x2 : Vec F S2048x96 .f32) (x3 : Vec F S64x2048 .f32) (x4 : Vec F S4x2048 .f32) (x5 : Vec F S1x2048 .f32) (x6 : Vec F S1x2048 .f32) (xs0 : Vec F S8x2048 .f32) (y : S512x2048.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 hc0 x0 x1 x2 x3 x4 x5 x6 xs0).2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 hc0 x0 x1 x2 x3 x4 x5 x6 xs0).2.1 S512x2048.size (by sl_kernel_rfl) y

/-- What case B leaves in output 8's staging buffer: its pieces read back over junk. -/
def out0_B_8 (c : Dev nD) (i : grid0.Coords) (arg2 : Memref sig .tc .vmem S1x512x1024 .f32) (harg2 : arg2.IsWhole) (arg3 : Memref sig .tc .vmem S1024x2048 .f32) (harg3 : arg3.IsWhole) (arg4 : Memref sig .tc .vmem S2048x96 .f32) (harg4 : arg4.IsWhole) (arg5 : Memref sig .tc .vmem S64x2048 .f32) (harg5 : arg5.IsWhole) (arg6 : Memref sig .tc .vmem S4x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S512x2048 .f32) (harg9 : arg9.IsWhole) (arg10 : Memref sig .tc .vmem S512x2048 .f32) (harg10 : arg10.IsWhole) (arg11 : Memref sig .tc .vmem S16x512 .f32) (harg11 : arg11.IsWhole) (arg12 : Memref sig .tc .vmem S16x512 .f32) (harg12 : arg12.IsWhole) (arg13 : Memref sig .tc .vmem S8x2048 .f32) (harg13 : arg13.IsWhole) (hc0 : ¬cond0_0 i)
    (x0 : Vec F S1x512x1024 .f32) (x1 : Vec F S1024x2048 .f32) (x2 : Vec F S2048x96 .f32) (x3 : Vec F S64x2048 .f32) (x4 : Vec F S4x2048 .f32) (x5 : Vec F S1x2048 .f32) (x6 : Vec F S1x2048 .f32) (xs0 : Vec F S8x2048 .f32) : Vec F S512x2048 .f32 :=
  VO0_8.read (Elt F) (VO0_8.writes (Elt F) VO0_8.junk (kernelRun0_B c i arg2 harg2 arg3 harg3 arg4 harg4 arg5 harg5 arg6 harg6 arg7 harg7 arg8 harg8 arg9 harg9 arg10 harg10 arg11 harg11 arg12 harg12 arg13 harg13 hc0 x0 x1 x2 x3 x4 x5 x6 xs0).2.1)

/-- Case B's pieces for output 9 tile its block (1 store of `S16x512`), so they cover it. -/
theorem cover0_B_9 (c : Dev nD) (i : grid0.Coords) (arg2 : Memref sig .tc .vmem S1x512x1024 .f32) (harg2 : arg2.IsWhole) (arg3 : Memref sig .tc .vmem S1024x2048 .f32) (harg3 : arg3.IsWhole) (arg4 : Memref sig .tc .vmem S2048x96 .f32) (harg4 : arg4.IsWhole) (arg5 : Memref sig .tc .vmem S64x2048 .f32) (harg5 : arg5.IsWhole) (arg6 : Memref sig .tc .vmem S4x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S512x2048 .f32) (harg9 : arg9.IsWhole) (arg10 : Memref sig .tc .vmem S512x2048 .f32) (harg10 : arg10.IsWhole) (arg11 : Memref sig .tc .vmem S16x512 .f32) (harg11 : arg11.IsWhole) (arg12 : Memref sig .tc .vmem S16x512 .f32) (harg12 : arg12.IsWhole) (arg13 : Memref sig .tc .vmem S8x2048 .f32) (harg13 : arg13.IsWhole) (hc0 : ¬cond0_0 i)
    (x0 : Vec F S1x512x1024 .f32) (x1 : Vec F S1024x2048 .f32) (x2 : Vec F S2048x96 .f32) (x3 : Vec F S64x2048 .f32) (x4 : Vec F S4x2048 .f32) (x5 : Vec F S1x2048 .f32) (x6 : Vec F S1x2048 .f32) (xs0 : Vec F S8x2048 .f32) (y : S16x512.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 hc0 x0 x1 x2 x3 x4 x5 x6 xs0).2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 hc0 x0 x1 x2 x3 x4 x5 x6 xs0).2.2.1 S16x512.size (by sl_kernel_rfl) y

/-- What case B leaves in output 9's staging buffer: its pieces read back over junk. -/
def out0_B_9 (c : Dev nD) (i : grid0.Coords) (arg2 : Memref sig .tc .vmem S1x512x1024 .f32) (harg2 : arg2.IsWhole) (arg3 : Memref sig .tc .vmem S1024x2048 .f32) (harg3 : arg3.IsWhole) (arg4 : Memref sig .tc .vmem S2048x96 .f32) (harg4 : arg4.IsWhole) (arg5 : Memref sig .tc .vmem S64x2048 .f32) (harg5 : arg5.IsWhole) (arg6 : Memref sig .tc .vmem S4x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S512x2048 .f32) (harg9 : arg9.IsWhole) (arg10 : Memref sig .tc .vmem S512x2048 .f32) (harg10 : arg10.IsWhole) (arg11 : Memref sig .tc .vmem S16x512 .f32) (harg11 : arg11.IsWhole) (arg12 : Memref sig .tc .vmem S16x512 .f32) (harg12 : arg12.IsWhole) (arg13 : Memref sig .tc .vmem S8x2048 .f32) (harg13 : arg13.IsWhole) (hc0 : ¬cond0_0 i)
    (x0 : Vec F S1x512x1024 .f32) (x1 : Vec F S1024x2048 .f32) (x2 : Vec F S2048x96 .f32) (x3 : Vec F S64x2048 .f32) (x4 : Vec F S4x2048 .f32) (x5 : Vec F S1x2048 .f32) (x6 : Vec F S1x2048 .f32) (xs0 : Vec F S8x2048 .f32) : Vec F S16x512 .f32 :=
  VO0_9.read (Elt F) (VO0_9.writes (Elt F) VO0_9.junk (kernelRun0_B c i arg2 harg2 arg3 harg3 arg4 harg4 arg5 harg5 arg6 harg6 arg7 harg7 arg8 harg8 arg9 harg9 arg10 harg10 arg11 harg11 arg12 harg12 arg13 harg13 hc0 x0 x1 x2 x3 x4 x5 x6 xs0).2.2.1)

/-- Case B's pieces for output 10 tile its block (1 store of `S16x512`), so they cover it. -/
theorem cover0_B_10 (c : Dev nD) (i : grid0.Coords) (arg2 : Memref sig .tc .vmem S1x512x1024 .f32) (harg2 : arg2.IsWhole) (arg3 : Memref sig .tc .vmem S1024x2048 .f32) (harg3 : arg3.IsWhole) (arg4 : Memref sig .tc .vmem S2048x96 .f32) (harg4 : arg4.IsWhole) (arg5 : Memref sig .tc .vmem S64x2048 .f32) (harg5 : arg5.IsWhole) (arg6 : Memref sig .tc .vmem S4x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S512x2048 .f32) (harg9 : arg9.IsWhole) (arg10 : Memref sig .tc .vmem S512x2048 .f32) (harg10 : arg10.IsWhole) (arg11 : Memref sig .tc .vmem S16x512 .f32) (harg11 : arg11.IsWhole) (arg12 : Memref sig .tc .vmem S16x512 .f32) (harg12 : arg12.IsWhole) (arg13 : Memref sig .tc .vmem S8x2048 .f32) (harg13 : arg13.IsWhole) (hc0 : ¬cond0_0 i)
    (x0 : Vec F S1x512x1024 .f32) (x1 : Vec F S1024x2048 .f32) (x2 : Vec F S2048x96 .f32) (x3 : Vec F S64x2048 .f32) (x4 : Vec F S4x2048 .f32) (x5 : Vec F S1x2048 .f32) (x6 : Vec F S1x2048 .f32) (xs0 : Vec F S8x2048 .f32) (y : S16x512.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 hc0 x0 x1 x2 x3 x4 x5 x6 xs0).2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 hc0 x0 x1 x2 x3 x4 x5 x6 xs0).2.2.2.1 S16x512.size (by sl_kernel_rfl) y

/-- What case B leaves in output 10's staging buffer: its pieces read back over junk. -/
def out0_B_10 (c : Dev nD) (i : grid0.Coords) (arg2 : Memref sig .tc .vmem S1x512x1024 .f32) (harg2 : arg2.IsWhole) (arg3 : Memref sig .tc .vmem S1024x2048 .f32) (harg3 : arg3.IsWhole) (arg4 : Memref sig .tc .vmem S2048x96 .f32) (harg4 : arg4.IsWhole) (arg5 : Memref sig .tc .vmem S64x2048 .f32) (harg5 : arg5.IsWhole) (arg6 : Memref sig .tc .vmem S4x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S512x2048 .f32) (harg9 : arg9.IsWhole) (arg10 : Memref sig .tc .vmem S512x2048 .f32) (harg10 : arg10.IsWhole) (arg11 : Memref sig .tc .vmem S16x512 .f32) (harg11 : arg11.IsWhole) (arg12 : Memref sig .tc .vmem S16x512 .f32) (harg12 : arg12.IsWhole) (arg13 : Memref sig .tc .vmem S8x2048 .f32) (harg13 : arg13.IsWhole) (hc0 : ¬cond0_0 i)
    (x0 : Vec F S1x512x1024 .f32) (x1 : Vec F S1024x2048 .f32) (x2 : Vec F S2048x96 .f32) (x3 : Vec F S64x2048 .f32) (x4 : Vec F S4x2048 .f32) (x5 : Vec F S1x2048 .f32) (x6 : Vec F S1x2048 .f32) (xs0 : Vec F S8x2048 .f32) : Vec F S16x512 .f32 :=
  VO0_10.read (Elt F) (VO0_10.writes (Elt F) VO0_10.junk (kernelRun0_B c i arg2 harg2 arg3 harg3 arg4 harg4 arg5 harg5 arg6 harg6 arg7 harg7 arg8 harg8 arg9 harg9 arg10 harg10 arg11 harg11 arg12 harg12 arg13 harg13 hc0 x0 x1 x2 x3 x4 x5 x6 xs0).2.2.2.1)

/-- Case B's pieces for scratch `arg13`, which the kernel carries between points, cover it: 1 piece of `S8x2048` tiling it. -/
theorem scover0_B_0 (c : Dev nD) (i : grid0.Coords) (arg2 : Memref sig .tc .vmem S1x512x1024 .f32) (harg2 : arg2.IsWhole) (arg3 : Memref sig .tc .vmem S1024x2048 .f32) (harg3 : arg3.IsWhole) (arg4 : Memref sig .tc .vmem S2048x96 .f32) (harg4 : arg4.IsWhole) (arg5 : Memref sig .tc .vmem S64x2048 .f32) (harg5 : arg5.IsWhole) (arg6 : Memref sig .tc .vmem S4x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S512x2048 .f32) (harg9 : arg9.IsWhole) (arg10 : Memref sig .tc .vmem S512x2048 .f32) (harg10 : arg10.IsWhole) (arg11 : Memref sig .tc .vmem S16x512 .f32) (harg11 : arg11.IsWhole) (arg12 : Memref sig .tc .vmem S16x512 .f32) (harg12 : arg12.IsWhole) (arg13 : Memref sig .tc .vmem S8x2048 .f32) (harg13 : arg13.IsWhole) (hc0 : ¬cond0_0 i)
    (x0 : Vec F S1x512x1024 .f32) (x1 : Vec F S1024x2048 .f32) (x2 : Vec F S2048x96 .f32) (x3 : Vec F S64x2048 .f32) (x4 : Vec F S4x2048 .f32) (x5 : Vec F S1x2048 .f32) (x6 : Vec F S1x2048 .f32) (xs0 : Vec F S8x2048 .f32) (y : S8x2048.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 hc0 x0 x1 x2 x3 x4 x5 x6 xs0).2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 hc0 x0 x1 x2 x3 x4 x5 x6 xs0).2.2.2.2.1 S8x2048.size (by sl_kernel_rfl) y

/-- What case B leaves in scratch `arg13`: its pieces read back over junk. -/
def sout0_B_0 (c : Dev nD) (i : grid0.Coords) (arg2 : Memref sig .tc .vmem S1x512x1024 .f32) (harg2 : arg2.IsWhole) (arg3 : Memref sig .tc .vmem S1024x2048 .f32) (harg3 : arg3.IsWhole) (arg4 : Memref sig .tc .vmem S2048x96 .f32) (harg4 : arg4.IsWhole) (arg5 : Memref sig .tc .vmem S64x2048 .f32) (harg5 : arg5.IsWhole) (arg6 : Memref sig .tc .vmem S4x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S512x2048 .f32) (harg9 : arg9.IsWhole) (arg10 : Memref sig .tc .vmem S512x2048 .f32) (harg10 : arg10.IsWhole) (arg11 : Memref sig .tc .vmem S16x512 .f32) (harg11 : arg11.IsWhole) (arg12 : Memref sig .tc .vmem S16x512 .f32) (harg12 : arg12.IsWhole) (arg13 : Memref sig .tc .vmem S8x2048 .f32) (harg13 : arg13.IsWhole) (hc0 : ¬cond0_0 i)
    (x0 : Vec F S1x512x1024 .f32) (x1 : Vec F S1024x2048 .f32) (x2 : Vec F S2048x96 .f32) (x3 : Vec F S64x2048 .f32) (x4 : Vec F S4x2048 .f32) (x5 : Vec F S1x2048 .f32) (x6 : Vec F S1x2048 .f32) (xs0 : Vec F S8x2048 .f32) : Vec F S8x2048 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 arg12 harg12 arg13 harg13 hc0 x0 x1 x2 x3 x4 x5 x6 xs0).2.2.2.2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S512x2048 .f32 × Vec F S512x2048 .f32 × Vec F S16x512 .f32 × Vec F S16x512 .f32 × Vec F S8x2048 .f32
  | 0, hn => (out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) ((hcond0_0 ⟨0, hn⟩).mpr (Nat.zero_mod _)) (iblk W c 0 ⟨0, hn⟩) (iblk W c 1 ⟨0, hn⟩) (iblk W c 2 ⟨0, hn⟩) (iblk W c 3 ⟨0, hn⟩) (iblk W c 4 ⟨0, hn⟩) (iblk W c 5 ⟨0, hn⟩) (iblk W c 6 ⟨0, hn⟩), out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) ((hcond0_0 ⟨0, hn⟩).mpr (Nat.zero_mod _)) (iblk W c 0 ⟨0, hn⟩) (iblk W c 1 ⟨0, hn⟩) (iblk W c 2 ⟨0, hn⟩) (iblk W c 3 ⟨0, hn⟩) (iblk W c 4 ⟨0, hn⟩) (iblk W c 5 ⟨0, hn⟩) (iblk W c 6 ⟨0, hn⟩), out0_A_9 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) ((hcond0_0 ⟨0, hn⟩).mpr (Nat.zero_mod _)) (iblk W c 0 ⟨0, hn⟩) (iblk W c 1 ⟨0, hn⟩) (iblk W c 2 ⟨0, hn⟩) (iblk W c 3 ⟨0, hn⟩) (iblk W c 4 ⟨0, hn⟩) (iblk W c 5 ⟨0, hn⟩) (iblk W c 6 ⟨0, hn⟩), out0_A_10 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) ((hcond0_0 ⟨0, hn⟩).mpr (Nat.zero_mod _)) (iblk W c 0 ⟨0, hn⟩) (iblk W c 1 ⟨0, hn⟩) (iblk W c 2 ⟨0, hn⟩) (iblk W c 3 ⟨0, hn⟩) (iblk W c 4 ⟨0, hn⟩) (iblk W c 5 ⟨0, hn⟩) (iblk W c 6 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) ((hcond0_0 ⟨0, hn⟩).mpr (Nat.zero_mod _)) (iblk W c 0 ⟨0, hn⟩) (iblk W c 1 ⟨0, hn⟩) (iblk W c 2 ⟨0, hn⟩) (iblk W c 3 ⟨0, hn⟩) (iblk W c 4 ⟨0, hn⟩) (iblk W c 5 ⟨0, hn⟩) (iblk W c 6 ⟨0, hn⟩))
  | n + 1, hn =>
    if h0 : (n + 1) % 4 = 0 then
      (out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) ((hcond0_0 ⟨n + 1, hn⟩).mpr h0) (iblk W c 0 ⟨n + 1, hn⟩) (iblk W c 1 ⟨n + 1, hn⟩) (iblk W c 2 ⟨n + 1, hn⟩) (iblk W c 3 ⟨n + 1, hn⟩) (iblk W c 4 ⟨n + 1, hn⟩) (iblk W c 5 ⟨n + 1, hn⟩) (iblk W c 6 ⟨n + 1, hn⟩), out0_A_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) ((hcond0_0 ⟨n + 1, hn⟩).mpr h0) (iblk W c 0 ⟨n + 1, hn⟩) (iblk W c 1 ⟨n + 1, hn⟩) (iblk W c 2 ⟨n + 1, hn⟩) (iblk W c 3 ⟨n + 1, hn⟩) (iblk W c 4 ⟨n + 1, hn⟩) (iblk W c 5 ⟨n + 1, hn⟩) (iblk W c 6 ⟨n + 1, hn⟩), out0_A_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) ((hcond0_0 ⟨n + 1, hn⟩).mpr h0) (iblk W c 0 ⟨n + 1, hn⟩) (iblk W c 1 ⟨n + 1, hn⟩) (iblk W c 2 ⟨n + 1, hn⟩) (iblk W c 3 ⟨n + 1, hn⟩) (iblk W c 4 ⟨n + 1, hn⟩) (iblk W c 5 ⟨n + 1, hn⟩) (iblk W c 6 ⟨n + 1, hn⟩), out0_A_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) ((hcond0_0 ⟨n + 1, hn⟩).mpr h0) (iblk W c 0 ⟨n + 1, hn⟩) (iblk W c 1 ⟨n + 1, hn⟩) (iblk W c 2 ⟨n + 1, hn⟩) (iblk W c 3 ⟨n + 1, hn⟩) (iblk W c 4 ⟨n + 1, hn⟩) (iblk W c 5 ⟨n + 1, hn⟩) (iblk W c 6 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) ((hcond0_0 ⟨n + 1, hn⟩).mpr h0) (iblk W c 0 ⟨n + 1, hn⟩) (iblk W c 1 ⟨n + 1, hn⟩) (iblk W c 2 ⟨n + 1, hn⟩) (iblk W c 3 ⟨n + 1, hn⟩) (iblk W c 4 ⟨n + 1, hn⟩) (iblk W c 5 ⟨n + 1, hn⟩) (iblk W c 6 ⟨n + 1, hn⟩))
    else
      (out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) (fun h => h0 ((hcond0_0 ⟨n + 1, hn⟩).mp h)) (iblk W c 0 ⟨n + 1, hn⟩) (iblk W c 1 ⟨n + 1, hn⟩) (iblk W c 2 ⟨n + 1, hn⟩) (iblk W c 3 ⟨n + 1, hn⟩) (iblk W c 4 ⟨n + 1, hn⟩) (iblk W c 5 ⟨n + 1, hn⟩) (iblk W c 6 ⟨n + 1, hn⟩) (outsAt0 c n (Nat.lt_of_succ_lt hn)).2.2.2.2, out0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) (fun h => h0 ((hcond0_0 ⟨n + 1, hn⟩).mp h)) (iblk W c 0 ⟨n + 1, hn⟩) (iblk W c 1 ⟨n + 1, hn⟩) (iblk W c 2 ⟨n + 1, hn⟩) (iblk W c 3 ⟨n + 1, hn⟩) (iblk W c 4 ⟨n + 1, hn⟩) (iblk W c 5 ⟨n + 1, hn⟩) (iblk W c 6 ⟨n + 1, hn⟩) (outsAt0 c n (Nat.lt_of_succ_lt hn)).2.2.2.2, out0_B_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) (fun h => h0 ((hcond0_0 ⟨n + 1, hn⟩).mp h)) (iblk W c 0 ⟨n + 1, hn⟩) (iblk W c 1 ⟨n + 1, hn⟩) (iblk W c 2 ⟨n + 1, hn⟩) (iblk W c 3 ⟨n + 1, hn⟩) (iblk W c 4 ⟨n + 1, hn⟩) (iblk W c 5 ⟨n + 1, hn⟩) (iblk W c 6 ⟨n + 1, hn⟩) (outsAt0 c n (Nat.lt_of_succ_lt hn)).2.2.2.2, out0_B_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) (fun h => h0 ((hcond0_0 ⟨n + 1, hn⟩).mp h)) (iblk W c 0 ⟨n + 1, hn⟩) (iblk W c 1 ⟨n + 1, hn⟩) (iblk W c 2 ⟨n + 1, hn⟩) (iblk W c 3 ⟨n + 1, hn⟩) (iblk W c 4 ⟨n + 1, hn⟩) (iblk W c 5 ⟨n + 1, hn⟩) (iblk W c 6 ⟨n + 1, hn⟩) (outsAt0 c n (Nat.lt_of_succ_lt hn)).2.2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) (fun h => h0 ((hcond0_0 ⟨n + 1, hn⟩).mp h)) (iblk W c 0 ⟨n + 1, hn⟩) (iblk W c 1 ⟨n + 1, hn⟩) (iblk W c 2 ⟨n + 1, hn⟩) (iblk W c 3 ⟨n + 1, hn⟩) (iblk W c 4 ⟨n + 1, hn⟩) (iblk W c 5 ⟨n + 1, hn⟩) (iblk W c 6 ⟨n + 1, hn⟩) (outsAt0 c n (Nat.lt_of_succ_lt hn)).2.2.2.2)

/-- `outsAt0` at a point of case A: that case's contents. -/
theorem outsAt0_A (c : Dev nD) (t : Fin cfg0.N) (h0 : t.val % 4 = 0) :
    outsAt0 W c t.val t.isLt = (out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) ((hcond0_0 t).mpr h0) (iblk W c 0 t) (iblk W c 1 t) (iblk W c 2 t) (iblk W c 3 t) (iblk W c 4 t) (iblk W c 5 t) (iblk W c 6 t), out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) ((hcond0_0 t).mpr h0) (iblk W c 0 t) (iblk W c 1 t) (iblk W c 2 t) (iblk W c 3 t) (iblk W c 4 t) (iblk W c 5 t) (iblk W c 6 t), out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) ((hcond0_0 t).mpr h0) (iblk W c 0 t) (iblk W c 1 t) (iblk W c 2 t) (iblk W c 3 t) (iblk W c 4 t) (iblk W c 5 t) (iblk W c 6 t), out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) ((hcond0_0 t).mpr h0) (iblk W c 0 t) (iblk W c 1 t) (iblk W c 2 t) (iblk W c 3 t) (iblk W c 4 t) (iblk W c 5 t) (iblk W c 6 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) ((hcond0_0 t).mpr h0) (iblk W c 0 t) (iblk W c 1 t) (iblk W c 2 t) (iblk W c 3 t) (iblk W c 4 t) (iblk W c 5 t) (iblk W c 6 t)) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 4 = 0) :
    outsAt0 W c t.val t.isLt = (out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h => h0 ((hcond0_0 t).mp h)) (iblk W c 0 t) (iblk W c 1 t) (iblk W c 2 t) (iblk W c 3 t) (iblk W c 4 t) (iblk W c 5 t) (iblk W c 6 t) (outsAt0 W c (t.val - 1) (Nat.lt_of_le_of_lt (Nat.sub_le _ _) t.isLt)).2.2.2.2, out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h => h0 ((hcond0_0 t).mp h)) (iblk W c 0 t) (iblk W c 1 t) (iblk W c 2 t) (iblk W c 3 t) (iblk W c 4 t) (iblk W c 5 t) (iblk W c 6 t) (outsAt0 W c (t.val - 1) (Nat.lt_of_le_of_lt (Nat.sub_le _ _) t.isLt)).2.2.2.2, out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h => h0 ((hcond0_0 t).mp h)) (iblk W c 0 t) (iblk W c 1 t) (iblk W c 2 t) (iblk W c 3 t) (iblk W c 4 t) (iblk W c 5 t) (iblk W c 6 t) (outsAt0 W c (t.val - 1) (Nat.lt_of_le_of_lt (Nat.sub_le _ _) t.isLt)).2.2.2.2, out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h => h0 ((hcond0_0 t).mp h)) (iblk W c 0 t) (iblk W c 1 t) (iblk W c 2 t) (iblk W c 3 t) (iblk W c 4 t) (iblk W c 5 t) (iblk W c 6 t) (outsAt0 W c (t.val - 1) (Nat.lt_of_le_of_lt (Nat.sub_le _ _) t.isLt)).2.2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h => h0 ((hcond0_0 t).mp h)) (iblk W c 0 t) (iblk W c 1 t) (iblk W c 2 t) (iblk W c 3 t) (iblk W c 4 t) (iblk W c 5 t) (iblk W c 6 t) (outsAt0 W c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    plain one (every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 W c n hn).2.2.2.2)) ∗ Rg c)

/-- Before the first point the scratch holds anything. -/
theorem PhiS_zero (c : Dev nD) (n : ℕ) (h : n ≤ cfg0.N) (hz : n = 0) : PhiS W c n h = Pipeline.ΦA spec0 c := by
  subst hz; rfl

/-- After point `n` (before point `n + 1`): the carried scratch at that point's contents. -/
theorem PhiS_succ (c : Dev nD) (n : ℕ) (hn : n < cfg0.N) :
    PhiS W c (n + 1) hn = iprop(iprop(owns (c : Thread nD τ) scM0_0 fullShare ((outsAt0 W c n hn).2.2.2.2)) ∗ Rg c) := rfl

/-- Before a point that is not the first: the carried scratch at what the point before left. -/
theorem PhiS_pos (c : Dev nD) (n : ℕ) (h : n ≤ cfg0.N) (hz : n ≠ 0) :
    PhiS W c n h = iprop(iprop(owns (c : Thread nD τ) scM0_0 fullShare ((outsAt0 W c (n - 1) (by omega)).2.2.2.2)) ∗ Rg c) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dat (c : Dev nD) : Dat τ (Elt F) Unit ℕ (UR sig nD τ) ℕ cfg0 c where
  A w := V W c (Pipeline.arrRef spec0 w)
  after w t := match w with
    | ⟨0, _⟩ => iblk W c 0 t
    | ⟨1, _⟩ => iblk W c 1 t
    | ⟨2, _⟩ => iblk W c 2 t
    | ⟨3, _⟩ => iblk W c 3 t
    | ⟨4, _⟩ => iblk W c 4 t
    | ⟨5, _⟩ => iblk W c 5 t
    | ⟨6, _⟩ => iblk W c 6 t
    | ⟨7, _⟩ => (outsAt0 W c t.val t.isLt).1
    | ⟨8, _⟩ => (outsAt0 W c t.val t.isLt).2.1
    | ⟨9, _⟩ => (outsAt0 W c t.val t.isLt).2.2.1
    | ⟨10, _⟩ => (outsAt0 W c t.val t.isLt).2.2.2.1
  Φ t := PhiS W c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dat W c).A w = V W c (Pipeline.arrRef spec0 w) := by
  dsimp only [dat]

/-- The invariant at a point's start (the proof data at `t.castSucc`), restated at `t.val`. -/
theorem PhiS_castSucc (c : Dev nD) (t : Fin cfg0.N) :
    (dat W c).Φ t.castSucc = PhiS W c t.val (Nat.le_of_lt t.isLt) := by
  dsimp only [dat]; exact Pipeline.Dat.Φ_castSucc (PhiS W c) t

/-- What the body leaves, window by window (the proof data's `match` reduced by `dsimp`). -/
theorem after0_0 (c : Dev nD) (t : Fin cfg0.N) : (dat W c).after 0 t = iblk W c 0 t := by dsimp only [dat]

/-- What the body leaves in window 1's buffer. -/
theorem after0_1 (c : Dev nD) (t : Fin cfg0.N) : (dat W c).after 1 t = iblk W c 1 t := by dsimp only [dat]

/-- What the body leaves in window 2's buffer. -/
theorem after0_2 (c : Dev nD) (t : Fin cfg0.N) : (dat W c).after 2 t = iblk W c 2 t := by dsimp only [dat]

/-- What the body leaves in window 3's buffer. -/
theorem after0_3 (c : Dev nD) (t : Fin cfg0.N) : (dat W c).after 3 t = iblk W c 3 t := by dsimp only [dat]

/-- What the body leaves in window 4's buffer. -/
theorem after0_4 (c : Dev nD) (t : Fin cfg0.N) : (dat W c).after 4 t = iblk W c 4 t := by dsimp only [dat]

/-- What the body leaves in window 5's buffer. -/
theorem after0_5 (c : Dev nD) (t : Fin cfg0.N) : (dat W c).after 5 t = iblk W c 5 t := by dsimp only [dat]

/-- What the body leaves in window 6's buffer. -/
theorem after0_6 (c : Dev nD) (t : Fin cfg0.N) : (dat W c).after 6 t = iblk W c 6 t := by dsimp only [dat]

/-- What the body leaves in window 7's buffer. -/
theorem after0_7 (c : Dev nD) (t : Fin cfg0.N) : (dat W c).after 7 t = (outsAt0 W c t.val t.isLt).1 := by dsimp only [dat]

/-- What the body leaves in window 8's buffer. -/
theorem after0_8 (c : Dev nD) (t : Fin cfg0.N) : (dat W c).after 8 t = (outsAt0 W c t.val t.isLt).2.1 := by dsimp only [dat]

/-- What the body leaves in window 9's buffer. -/
theorem after0_9 (c : Dev nD) (t : Fin cfg0.N) : (dat W c).after 9 t = (outsAt0 W c t.val t.isLt).2.2.1 := by dsimp only [dat]

/-- What the body leaves in window 10's buffer. -/
theorem after0_10 (c : Dev nD) (t : Fin cfg0.N) : (dat W c).after 10 t = (outsAt0 W c t.val t.isLt).2.2.2.1 := by dsimp only [dat]

/-- Each input's current staging buffer holds its block at every point, fetched there or not (`beforeK_W_of`). -/
theorem before0_0 (c : Dev nD) (t : Fin cfg0.N) (d) : (dat W c).before 0 t d = iblk W c 0 t :=
  before0_0_of W (dat W c) (A_eq W c 0) (after0_0 W c) t d

/-- Window 1's buffer holds its block before the body. -/
theorem before0_1 (c : Dev nD) (t : Fin cfg0.N) (d) : (dat W c).before 1 t d = iblk W c 1 t :=
  before0_1_of W (dat W c) (A_eq W c 1) (after0_1 W c) t d

/-- Window 2's buffer holds its block before the body. -/
theorem before0_2 (c : Dev nD) (t : Fin cfg0.N) (d) : (dat W c).before 2 t d = iblk W c 2 t :=
  before0_2_of W (dat W c) (A_eq W c 2) (after0_2 W c) t d

/-- Window 3's buffer holds its block before the body. -/
theorem before0_3 (c : Dev nD) (t : Fin cfg0.N) (d) : (dat W c).before 3 t d = iblk W c 3 t :=
  before0_3_of W (dat W c) (A_eq W c 3) (after0_3 W c) t d

/-- Window 4's buffer holds its block before the body. -/
theorem before0_4 (c : Dev nD) (t : Fin cfg0.N) (d) : (dat W c).before 4 t d = iblk W c 4 t :=
  before0_4_of W (dat W c) (A_eq W c 4) (after0_4 W c) t d

/-- Window 5's buffer holds its block before the body. -/
theorem before0_5 (c : Dev nD) (t : Fin cfg0.N) (d) : (dat W c).before 5 t d = iblk W c 5 t :=
  before0_5_of W (dat W c) (A_eq W c 5) (after0_5 W c) t d

/-- Window 6's buffer holds its block before the body. -/
theorem before0_6 (c : Dev nD) (t : Fin cfg0.N) (d) : (dat W c).before 6 t d = iblk W c 6 t :=
  before0_6_of W (dat W c) (A_eq W c 6) (after0_6 W c) t d

/-! ## The body obligation, at a generic point -/

/-- What the body is called with at point `t` (the windows one by one), -/
def bodyPre (c : Dev nD) (t : Fin cfg0.N) : sProp 𝕄 :=
  iprop((dat W c).Φ t.castSucc ∗ (dat W c).owesAt () t.castSucc
    ∗ (∃ d, owns (c : Thread nD τ) (ms0_0 t) fullShare ((dat W c).before 0 t d))
    ∗ (∃ d, owns (c : Thread nD τ) (ms0_1 t) fullShare ((dat W c).before 1 t d))
    ∗ (∃ d, owns (c : Thread nD τ) (ms0_2 t) fullShare ((dat W c).before 2 t d))
    ∗ (∃ d, owns (c : Thread nD τ) (ms0_3 t) fullShare ((dat W c).before 3 t d))
    ∗ (∃ d, owns (c : Thread nD τ) (ms0_4 t) fullShare ((dat W c).before 4 t d))
    ∗ (∃ d, owns (c : Thread nD τ) (ms0_5 t) fullShare ((dat W c).before 5 t d))
    ∗ (∃ d, owns (c : Thread nD τ) (ms0_6 t) fullShare ((dat W c).before 6 t d))
    ∗ (∃ d, owns (c : Thread nD τ) (ms0_7 t) fullShare ((dat W c).before 7 t d))
    ∗ (∃ d, owns (c : Thread nD τ) (ms0_8 t) fullShare ((dat W c).before 8 t d))
    ∗ (∃ d, owns (c : Thread nD τ) (ms0_9 t) fullShare ((dat W c).before 9 t d))
    ∗ (∃ d, owns (c : Thread nD τ) (ms0_10 t) fullShare ((dat W c).before 10 t d)))

/-- and what it returns. -/
def bodyPost (c : Dev nD) (t : Fin cfg0.N) : sProp 𝕄 :=
  iprop((dat W c).Φ t.succ ∗ (dat W c).owesAt () t.succ
    ∗ owns (c : Thread nD τ) (ms0_0 t) fullShare ((dat W c).after 0 t)
    ∗ owns (c : Thread nD τ) (ms0_1 t) fullShare ((dat W c).after 1 t)
    ∗ owns (c : Thread nD τ) (ms0_2 t) fullShare ((dat W c).after 2 t)
    ∗ owns (c : Thread nD τ) (ms0_3 t) fullShare ((dat W c).after 3 t)
    ∗ owns (c : Thread nD τ) (ms0_4 t) fullShare ((dat W c).after 4 t)
    ∗ owns (c : Thread nD τ) (ms0_5 t) fullShare ((dat W c).after 5 t)
    ∗ owns (c : Thread nD τ) (ms0_6 t) fullShare ((dat W c).after 6 t)
    ∗ owns (c : Thread nD τ) (ms0_7 t) fullShare ((dat W c).after 7 t)
    ∗ owns (c : Thread nD τ) (ms0_8 t) fullShare ((dat W c).after 8 t)
    ∗ owns (c : Thread nD τ) (ms0_9 t) fullShare ((dat W c).after 9 t)
    ∗ owns (c : Thread nD τ) (ms0_10 t) fullShare ((dat W c).after 10 t))

set_option maxHeartbeats 9600000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre W c t ⊢ wp frame (wpE (defs₀ (F := F)) Variants.none c none) Set.univ (bodyAt0 t) (fun _ => bodyPost W c t) := by
  unfold bodyPre bodyPost bodyAt0
  simp only [before0_0, before0_1, before0_2, before0_3, before0_4, before0_5, before0_6]
  rw [show (dat W c).owesAt () t.succ = (dat W c).owesAt () t.castSucc from rfl,
    after0_0, after0_1, after0_2, after0_3, after0_4, after0_5, after0_6, after0_7, after0_8, after0_9, after0_10]
  rw [show (dat W c).Φ t.succ = PhiS W c (t.val + 1) t.isLt from rfl, PhiS_succ]
  have hN : t.val < 8 := lt_of_lt_of_eq t.isLt (show cfg0.N = 8 from N_0)
  by_cases h0 : t.val % 4 = 0
  · by_cases hz : t.val = 0
    · rw [PhiS_castSucc W c t, PhiS_zero W c _ _ hz, PhiA0_eq]
      rw [outsAt0_A W c t h0]
      unfold out0_A_7 out0_A_8 out0_A_9 out0_A_10 sout0_A_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((kernelRun0_A c (grid0.coords t) _ _ _ _ _ _ _ _ _ _ _ _ _ _ _ _ _ _ _ _ _ _ _ _ ((hcond0_0 t).mpr h0) (iblk W c 0 t) (iblk W c 1 t) (iblk W c 2 t) (iblk W c 3 t) (iblk W c 4 t) (iblk W c 5 t) (iblk W c 6 t)).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [H9]; · iexists _; iexact H9
      isplitl [H10]; · iexists _; iexact H10
      isplitl [HS0]; · iexact HS0
      iintro ⟨H0, H1, H2, H3, H4, H5, H6, ⟨%e7, H7⟩, ⟨%e8, H8⟩, ⟨%e9, H9⟩, ⟨%e10, H10⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · unfold owns; iexists _; isplitr
        swap; · iexact H7
        ipureintro; exact View.read_writes_of_cover _ _ _ _ _ (cover0_A_7 c _ _ _ _ _ _ _ _ _ _ _ _ _ _ _ _ _ _ _ _ _ _ _ _ _ _ _ _ _ _ _ _ _)
      isplitl [H8]
      · unfold owns; iexists _; isplitr
        swap; · iexact H8
        ipureintro; exact View.read_writes_of_cover _ _ _ _ _ (cover0_A_8 c _ _ _ _ _ _ _ _ _ _ _ _ _ _ _ _ _ _ _ _ _ _ _ _ _ _ _ _ _ _ _ _ _)
      isplitl [H9]
      · unfold owns; iexists _; isplitr
        swap; · iexact H9
        ipureintro; exact View.read_writes_of_cover _ _ _ _ _ (cover0_A_9 c _ _ _ _ _ _ _ _ _ _ _ _ _ _ _ _ _ _ _ _ _ _ _ _ _ _ _ _ _ _ _ _ _)
      unfold owns; iexists _; isplitr
      swap; · iexact H10
      ipureintro; exact View.read_writes_of_cover _ _ _ _ _ (cover0_A_10 c _ _ _ _ _ _ _ _ _ _ _ _ _ _ _ _ _ _ _ _ _ _ _ _ _ _ _ _ _ _ _ _ _)
    · rw [PhiS_castSucc W c t, PhiS_pos W c _ _ hz]
      rw [outsAt0_A W c t h0]
      unfold out0_A_7 out0_A_8 out0_A_9 out0_A_10 sout0_A_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((kernelRun0_A c (grid0.coords t) _ _ _ _ _ _ _ _ _ _ _ _ _ _ _ _ _ _ _ _ _ _ _ _ ((hcond0_0 t).mpr h0) (iblk W c 0 t) (iblk W c 1 t) (iblk W c 2 t) (iblk W c 3 t) (iblk W c 4 t) (iblk W c 5 t) (iblk W c 6 t)).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [H9]; · iexists _; iexact H9
      isplitl [H10]; · iexists _; iexact H10
      isplitl [HS0]; · iexists _; iexact HS0
      iintro ⟨H0, H1, H2, H3, H4, H5, H6, ⟨%e7, H7⟩, ⟨%e8, H8⟩, ⟨%e9, H9⟩, ⟨%e10, H10⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · unfold owns; iexists _; isplitr
        swap; · iexact H7
        ipureintro; exact View.read_writes_of_cover _ _ _ _ _ (cover0_A_7 c _ _ _ _ _ _ _ _ _ _ _ _ _ _ _ _ _ _ _ _ _ _ _ _ _ _ _ _ _ _ _ _ _)
      isplitl [H8]
      · unfold owns; iexists _; isplitr
        swap; · iexact H8
        ipureintro; exact View.read_writes_of_cover _ _ _ _ _ (cover0_A_8 c _ _ _ _ _ _ _ _ _ _ _ _ _ _ _ _ _ _ _ _ _ _ _ _ _ _ _ _ _ _ _ _ _)
      isplitl [H9]
      · unfold owns; iexists _; isplitr
        swap; · iexact H9
        ipureintro; exact View.read_writes_of_cover _ _ _ _ _ (cover0_A_9 c _ _ _ _ _ _ _ _ _ _ _ _ _ _ _ _ _ _ _ _ _ _ _ _ _ _ _ _ _ _ _ _ _)
      unfold owns; iexists _; isplitr
      swap; · iexact H10
      ipureintro; exact View.read_writes_of_cover _ _ _ _ _ (cover0_A_10 c _ _ _ _ _ _ _ _ _ _ _ _ _ _ _ _ _ _ _ _ _ _ _ _ _ _ _ _ _ _ _ _ _)
  · by_cases hz : t.val = 0
    · exfalso; have hN : t.val < 8 := lt_of_lt_of_eq t.isLt (show cfg0.N = 8 from N_0); omega
    · rw [PhiS_castSucc W c t, PhiS_pos W c _ _ hz]
      rw [outsAt0_B W c t h0]
      unfold out0_B_7 out0_B_8 out0_B_9 out0_B_10 sout0_B_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((kernelRun0_B c (grid0.coords t) _ _ _ _ _ _ _ _ _ _ _ _ _ _ _ _ _ _ _ _ _ _ _ _ (fun h => h0 ((hcond0_0 t).mp h)) (iblk W c 0 t) (iblk W c 1 t) (iblk W c 2 t) (iblk W c 3 t) (iblk W c 4 t) (iblk W c 5 t) (iblk W c 6 t) _).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [H9]; · iexists _; iexact H9
      isplitl [H10]; · iexists _; iexact H10
      isplitl [HS0]; · iexact HS0
      iintro ⟨H0, H1, H2, H3, H4, H5, H6, ⟨%e7, H7⟩, ⟨%e8, H8⟩, ⟨%e9, H9⟩, ⟨%e10, H10⟩, ⟨%es0, HS0⟩⟩
      isplitl [HS0 Hg]
      · isplitl [HS0]
        · unfold owns; iexists _; isplitr
          swap; · iexact HS0
          ipureintro; exact View.read_writes_of_cover _ _ _ _ _ (scover0_B_0 c _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · unfold owns; iexists _; isplitr
        swap; · iexact H7
        ipureintro; exact View.read_writes_of_cover _ _ _ _ _ (cover0_B_7 c _ _ _ _ _ _ _ _ _ _ _ _ _ _ _ _ _ _ _ _ _ _ _ _ _ _ _ _ _ _ _ _ _ _)
      isplitl [H8]
      · unfold owns; iexists _; isplitr
        swap; · iexact H8
        ipureintro; exact View.read_writes_of_cover _ _ _ _ _ (cover0_B_8 c _ _ _ _ _ _ _ _ _ _ _ _ _ _ _ _ _ _ _ _ _ _ _ _ _ _ _ _ _ _ _ _ _ _)
      isplitl [H9]
      · unfold owns; iexists _; isplitr
        swap; · iexact H9
        ipureintro; exact View.read_writes_of_cover _ _ _ _ _ (cover0_B_9 c _ _ _ _ _ _ _ _ _ _ _ _ _ _ _ _ _ _ _ _ _ _ _ _ _ _ _ _ _ _ _ _ _ _)
      unfold owns; iexists _; isplitr
      swap; · iexact H10
      ipureintro; exact View.read_writes_of_cover _ _ _ _ _ (cover0_B_10 c _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated. -/
theorem body_obligation (c : Dev nD) : BodyObligation (dat (F := F) W c) (defs₀ (F := F)) Variants.none () Set.univ := fun t => by
  rw [bigSep_W0, bigSep_W0, defs₀_row]
  exact triple_restated (sound_body W c t) rfl .rfl fun _ => .rfl

/-- What the launch hands the region (`ΦA`) is the invariant before the first point. -/
theorem hin (c : Dev nD) : Pipeline.ΦA spec0 c ⊢ (dat W c).Φ 0 := by
  rw [show (dat W c).Φ 0 = PhiS W c 0 (Nat.zero_le _) from rfl, PhiS_zero W c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dat W c).Φ t ⊢ Pipeline.ΦA spec0 c := by
  rw [show (dat W c).Φ t = PhiS W c t.val (Nat.le_of_lt_succ t.isLt) from rfl, PhiS_pos W c _ _ ht, PhiA0_eq]
  iintro ⟨HS0, Hg⟩
  isplitl [HS0]
  · iexists _; iexact HS0
  iexact Hg

/-- The same after the last point. -/
theorem hout (c : Dev nD) : (dat W c).Φ (Fin.last cfg0.N) ⊢ Pipeline.ΦA spec0 c :=
  Phi_out W c _ (by rw [Fin.val_last]; have : cfg0.N = 8 := N_0; omega)

/-! ## The run and the frame -/

end Cert.KernelIdeal.Front

end
-- ==== Proof.ScanRuns.lean ====
/- The selective scan as a region: the blocks its windows stage, the body condition and the memrefs of a point. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.Exec
public import Idealize.ShloMosaic.Lib.Ring
public import Idealize.ShloMosaic.Lib.Tactic
public import Idealize.ShloMosaic.Lib.WordCmp

@[expose] public section

set_option maxRecDepth 16384

noncomputable section

namespace Cert.KernelIdeal.Scan

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (W : Dev nD → Valuation τ sig (Elt F))

/-- Core `c`'s TensorCore buffers when the region is entered, at the valuation `W`. -/
abbrev V (c : Dev nD) (b : Ref sig .tc) : Buf (Elt F) ((c : Thread nD τ).loc b) := W c (Proc.devRef .tc b)

/-! ## @main up to the region -/

/-! ## The windows' blocks -/

/-- Window `w`'s block at point `t`, read off its array as the region finds it (`V`). -/
def iblk (c : Dev nD) (w : Fin cfg1.W) (t : Fin cfg1.N) : ((cfg1.win w).xblock (cfg1.grid.coords t)).Idx → Elt F (cfg1.win w).elt :=
  ((cfg1.win w).blk t).view.read (Elt F) (V W c (Pipeline.arrRef spec1 w))

/-- Input window 0's current staging buffer holds its block at every point, fetched there or not, for ANY proof
    data whose array is `V`'s (`hA`) and whose body leaves the block in place (`hafter`). -/
theorem before1_0_of {c : Dev nD} (dat : Dat τ (Elt F) Unit ℕ (UR sig nD τ) ℕ cfg1 c) (hA : dat.A 0 = V W c (Pipeline.arrRef spec1 0))
    (hafter : ∀ t, dat.after 0 t = iblk W c 0 t) (t : Fin cfg1.N) (d) : dat.before 0 t d = iblk W c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not, for ANY proof
    data whose array is `V`'s (`hA`) and whose body leaves the block in place (`hafter`). -/
theorem before1_1_of {c : Dev nD} (dat : Dat τ (Elt F) Unit ℕ (UR sig nD τ) ℕ cfg1 c) (hA : dat.A 1 = V W c (Pipeline.arrRef spec1 1))
    (hafter : ∀ t, dat.after 1 t = iblk W c 1 t) (t : Fin cfg1.N) (d) : dat.before 1 t d = iblk W c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not, for ANY proof
    data whose array is `V`'s (`hA`) and whose body leaves the block in place (`hafter`). -/
theorem before1_2_of {c : Dev nD} (dat : Dat τ (Elt F) Unit ℕ (UR sig nD τ) ℕ cfg1 c) (hA : dat.A 2 = V W c (Pipeline.arrRef spec1 2))
    (hafter : ∀ t, dat.after 2 t = iblk W c 2 t) (t : Fin cfg1.N) (d) : dat.before 2 t d = iblk W c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not, for ANY proof
    data whose array is `V`'s (`hA`) and whose body leaves the block in place (`hafter`). -/
theorem before1_3_of {c : Dev nD} (dat : Dat τ (Elt F) Unit ℕ (UR sig nD τ) ℕ cfg1 c) (hA : dat.A 3 = V W c (Pipeline.arrRef spec1 3))
    (hafter : ∀ t, dat.after 3 t = iblk W c 3 t) (t : Fin cfg1.N) (d) : dat.before 3 t d = iblk W c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not, for ANY proof
    data whose array is `V`'s (`hA`) and whose body leaves the block in place (`hafter`). -/
theorem before1_4_of {c : Dev nD} (dat : Dat τ (Elt F) Unit ℕ (UR sig nD τ) ℕ cfg1 c) (hA : dat.A 4 = V W c (Pipeline.arrRef spec1 4))
    (hafter : ∀ t, dat.after 4 t = iblk W c 4 t) (t : Fin cfg1.N) (d) : dat.before 4 t d = iblk W c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, fetched there or not, for ANY proof
    data whose array is `V`'s (`hA`) and whose body leaves the block in place (`hafter`). -/
theorem before1_5_of {c : Dev nD} (dat : Dat τ (Elt F) Unit ℕ (UR sig nD τ) ℕ cfg1 c) (hA : dat.A 5 = V W c (Pipeline.arrRef spec1 5))
    (hafter : ∀ t, dat.after 5 t = iblk W c 5 t) (t : Fin cfg1.N) (d) : dat.before 5 t d = iblk W c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-! ## The body's branch conditions -/

/-- The condition of the body's `scf.if` 0 (`k1_h1`), from the grid coordinates. -/
abbrev cond1_0 (i : grid1.Coords) : Prop := (Scalar.cmpi .ne (Scalar.extui (Scalar.cmpi .eq (BitVec.ofNat 32 (i 2).val) 0#32)) 0#32) = 1#1

/-- It holds at the points ≡ 0 (mod 8) — by arithmetic of the point. -/
theorem hcond1_0 : ∀ t : Fin cfg1.N, cond1_0 (grid1.coords t) ↔ t.val % 8 = 0 :=
  (fun t => by
    have ht : t.val < 64 := Nat.lt_of_lt_of_eq t.isLt N_1
    have e0 : (grid1.coords t 0).val = t.val / 32 % 2 := Pipeline.Grid.coords_val t 0 (by decide) rfl
    have e1 : (grid1.coords t 1).val = t.val / 8 % 4 := Pipeline.Grid.coords_val t 1 (by decide) rfl
    have e2 : (grid1.coords t 2).val = t.val / 1 % 8 := Pipeline.Grid.coords_val t 2 (by decide) rfl
    simp only [cond1_0, e0, e1, e2]
    word_cmp
   : ∀ t : Fin grid1.N, cond1_0 (grid1.coords t) ↔ t.val % 8 = 0)

/-! ## The kernel body on any staging memrefs: a subtype the run finds -/

/-- One staging buffer of output window 6, through which its contents are stated (`View.read_writes_of_cover`: the
    choice does not matter). -/
abbrev VO1_6 : View sig .tc .vmem S256x512 .f32 := (Memref.whole cc1_stg6_0 : Memref sig .tc .vmem S256x512 .f32).view

/-- Each window's current staging memref at point `t`, spelled as the pipeline passes it (`bodyAt1`), and its wholeness. -/
abbrev ms1_0 (t : Fin cfg1.N) : Memref sig .tc .vmem S256x512 .f32 := win1_0.stage (cfg1.slots t 0)

abbrev hs1_0 (t : Fin cfg1.N) : (ms1_0 t).IsWhole := hstage1_0 ((cfg1.slots t 0).cast nbuf1_0)

abbrev ms1_1 (t : Fin cfg1.N) : Memref sig .tc .vmem S256x512 .f32 := win1_1.stage (cfg1.slots t 1)

abbrev hs1_1 (t : Fin cfg1.N) : (ms1_1 t).IsWhole := hstage1_1 ((cfg1.slots t 1).cast nbuf1_1)

abbrev ms1_2 (t : Fin cfg1.N) : Memref sig .tc .vmem S16x256 .f32 := win1_2.stage (cfg1.slots t 2)

abbrev hs1_2 (t : Fin cfg1.N) : (ms1_2 t).IsWhole := hstage1_2 ((cfg1.slots t 2).cast nbuf1_2)

abbrev ms1_3 (t : Fin cfg1.N) : Memref sig .tc .vmem S16x256 .f32 := win1_3.stage (cfg1.slots t 3)

abbrev hs1_3 (t : Fin cfg1.N) : (ms1_3 t).IsWhole := hstage1_3 ((cfg1.slots t 3).cast nbuf1_3)

abbrev ms1_4 (t : Fin cfg1.N) : Memref sig .tc .vmem S16x512 .f32 := win1_4.stage (cfg1.slots t 4)

abbrev hs1_4 (t : Fin cfg1.N) : (ms1_4 t).IsWhole := hstage1_4 ((cfg1.slots t 4).cast nbuf1_4)

abbrev ms1_5 (t : Fin cfg1.N) : Memref sig .tc .vmem S1x512 .f32 := win1_5.stage (cfg1.slots t 5)

abbrev hs1_5 (t : Fin cfg1.N) : (ms1_5 t).IsWhole := hstage1_5 ((cfg1.slots t 5).cast nbuf1_5)

abbrev ms1_6 (t : Fin cfg1.N) : Memref sig .tc .vmem S256x512 .f32 := win1_6.stage (cfg1.slots t 6)

abbrev hs1_6 (t : Fin cfg1.N) : (ms1_6 t).IsWhole := hstage1_6 ((cfg1.slots t 6).cast nbuf1_6)

/-- The scratch operands: whole scoped buffers of the kernel's own, passed beside the windows. -/
abbrev scM1_0 : Memref sig .tc .vmem S16x512 .f32 := Memref.whole cc1_scratch0

/-- The scratch `arg10` the kernel carries between points, as a view: what it holds is stated through it. -/
abbrev VS1_0 : View sig .tc .vmem S16x512 .f32 := scM1_0.view

/-- What rides through the body unread: every scoped buffer but the windows' staging and the carried scratch, and the
    generator register at some state. -/
def Rg (c : Dev nD) : sProp 𝕄 :=
  iprop(Pipeline.scopedRestBut (Ix := Unit) (Name := ℕ) (U := UR sig nD τ) (Lvl := ℕ) (Val := Elt F) spec1 c [cc1_scratch0] ∗ ∃ r, prngReg c r)

/-- The class's invariant with the carried scratch as a memref owned at some contents. -/
theorem PhiA1_eq (c : Dev nD) :
    (Pipeline.ΦA spec1 c : sProp 𝕄)
      = iprop(iprop((∃ d, owns (c : Thread nD τ) scM1_0 fullShare d)) ∗ Rg c) := by
  unfold Pipeline.ΦA Rg
  rw [Pipeline.scopedRest_split_of_list spec1 c [cc1_scratch0] (by decide) (by decide)]
  simp only [scM1_0, owns_whole]
  exact Idealize.SL.BI.sep_assoc.antisymm Idealize.SL.BI.sep_assoc'

end Cert.KernelIdeal.Scan

end
-- ==== Proof.ScanRunA.lean ====
/- The selective scan: the run of the body at the first point of a sequence, where the carried scratch is reset. -/
module

public import proofs.«01_k».proof.Proof.ScanRuns

@[expose] public section

set_option maxRecDepth 16384

noncomputable section

namespace Cert.KernelIdeal.Scan

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (W : Dev nD → Valuation τ sig (Elt F))

set_option maxHeartbeats 3900000 in
/-- What the body's stores leave in each output's staging memref, as pieces (last first) IN CASE A (`scf.if` 0 taken: points 0, 8, … 56: 8 of 64), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written. Each `scf.if` is decided by the
    case's hypotheses `hc·`; the pieces are the ones the run finds. -/
noncomputable def kernelRun1_A (c : Dev nD) (i : grid1.Coords) (arg3 : Memref sig .tc .vmem S256x512 .f32) (harg3 : arg3.IsWhole) (arg4 : Memref sig .tc .vmem S256x512 .f32) (harg4 : arg4.IsWhole) (arg5 : Memref sig .tc .vmem S16x256 .f32) (harg5 : arg5.IsWhole) (arg6 : Memref sig .tc .vmem S16x256 .f32) (harg6 : arg6.IsWhole) (arg7 : Memref sig .tc .vmem S16x512 .f32) (harg7 : arg7.IsWhole) (arg8 : Memref sig .tc .vmem S1x512 .f32) (harg8 : arg8.IsWhole) (arg9 : Memref sig .tc .vmem S256x512 .f32) (harg9 : arg9.IsWhole) (arg10 : Memref sig .tc .vmem S16x512 .f32) (harg10 : arg10.IsWhole) (hc0 : cond1_0 i)
    (x0 : Vec F S256x512 .f32) (x1 : Vec F S256x512 .f32) (x2 : Vec F S16x256 .f32) (x3 : Vec F S16x256 .f32) (x4 : Vec F S16x512 .f32) (x5 : Vec F S1x512 .f32) :
    Σ' (L6 : List (View.Piece (Elt F) S256x512 .f32)), { LS0 : List (View.Piece (Elt F) S16x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f LS0)) -∗ K ⟨⟩))
          ⊢ wp frame (wpE (defs₀ (F := F)) Variants.none c none) E (cc1_mamba_scan i arg3 harg3 arg4 harg4 arg5 harg5 arg6 harg6 arg7 harg7 arg8 harg8 arg9 harg9 arg10 harg10) K } := by
  refine ⟨?_, ?_, fun E K => ?run⟩
  case run =>
    simp only [cc1_mamba_scan_eq_skeleton]; unfold cc1_mamba_scan_skel
    simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton, k1_part21_eq_skeleton, k1_part22_eq_skeleton, k1_part23_eq_skeleton, k1_part24_eq_skeleton, k1_part25_eq_skeleton, k1_part26_eq_skeleton, k1_part27_eq_skeleton, k1_part28_eq_skeleton, k1_part29_eq_skeleton, k1_part30_eq_skeleton, k1_part31_eq_skeleton, k1_part32_eq_skeleton, k1_part33_eq_skeleton, k1_part34_eq_skeleton, k1_part35_eq_skeleton, k1_part36_eq_skeleton, k1_part37_eq_skeleton, k1_part38_eq_skeleton, k1_part39_eq_skeleton, k1_part40_eq_skeleton, k1_part41_eq_skeleton, k1_part42_eq_skeleton, k1_part43_eq_skeleton, k1_part44_eq_skeleton, k1_part45_eq_skeleton, k1_part46_eq_skeleton, k1_part47_eq_skeleton, k1_part48_eq_skeleton, k1_part49_eq_skeleton, k1_part50_eq_skeleton, k1_part51_eq_skeleton, k1_part52_eq_skeleton, k1_part53_eq_skeleton, k1_part54_eq_skeleton, k1_part55_eq_skeleton, k1_part56_eq_skeleton, k1_part57_eq_skeleton, k1_part58_eq_skeleton, k1_part59_eq_skeleton, k1_part60_eq_skeleton, k1_part61_eq_skeleton, k1_part62_eq_skeleton, k1_part63_eq_skeleton, k1_part64_eq_skeleton, k1_part65_eq_skeleton, k1_part66_eq_skeleton, k1_part67_eq_skeleton, k1_part68_eq_skeleton, k1_part69_eq_skeleton, k1_part70_eq_skeleton, k1_part71_eq_skeleton, k1_part72_eq_skeleton, k1_part73_eq_skeleton, k1_part74_eq_skeleton, k1_part75_eq_skeleton, k1_part76_eq_skeleton, k1_part77_eq_skeleton, k1_part78_eq_skeleton, k1_part79_eq_skeleton, k1_part80_eq_skeleton, k1_part81_eq_skeleton, k1_part82_eq_skeleton, k1_part83_eq_skeleton, k1_part84_eq_skeleton, k1_part85_eq_skeleton, k1_part86_eq_skeleton, k1_part87_eq_skeleton, k1_part88_eq_skeleton, k1_part89_eq_skeleton, k1_part90_eq_skeleton, k1_part91_eq_skeleton, k1_part92_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec (disch := first | sl_exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]; · iexists _; iexact H6
    iexists _; iexact HS0

end Cert.KernelIdeal.Scan

end
-- ==== Proof.ScanRunB.lean ====
/- The selective scan: the run of the body at a later point, over what the point before left. -/
module

public import proofs.«01_k».proof.Proof.ScanRunA

@[expose] public section

set_option maxRecDepth 16384

noncomputable section

namespace Cert.KernelIdeal.Scan

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (W : Dev nD → Valuation τ sig (Elt F))

set_option maxHeartbeats 3888000 in
/-- What the body's stores leave in each output's staging memref, as pieces (last first) IN CASE B (`scf.if` 0 not taken: points 1, 2, … 63: 56 of 64), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written. Each `scf.if` is decided by the
    case's hypotheses `hc·`; the pieces are the ones the run finds. -/
noncomputable def kernelRun1_B (c : Dev nD) (i : grid1.Coords) (arg3 : Memref sig .tc .vmem S256x512 .f32) (harg3 : arg3.IsWhole) (arg4 : Memref sig .tc .vmem S256x512 .f32) (harg4 : arg4.IsWhole) (arg5 : Memref sig .tc .vmem S16x256 .f32) (harg5 : arg5.IsWhole) (arg6 : Memref sig .tc .vmem S16x256 .f32) (harg6 : arg6.IsWhole) (arg7 : Memref sig .tc .vmem S16x512 .f32) (harg7 : arg7.IsWhole) (arg8 : Memref sig .tc .vmem S1x512 .f32) (harg8 : arg8.IsWhole) (arg9 : Memref sig .tc .vmem S256x512 .f32) (harg9 : arg9.IsWhole) (arg10 : Memref sig .tc .vmem S16x512 .f32) (harg10 : arg10.IsWhole) (hc0 : ¬cond1_0 i)
    (x0 : Vec F S256x512 .f32) (x1 : Vec F S256x512 .f32) (x2 : Vec F S16x256 .f32) (x3 : Vec F S16x256 .f32) (x4 : Vec F S16x512 .f32) (x5 : Vec F S1x512 .f32) (xs0 : Vec F S16x512 .f32) :
    Σ' (L6 : List (View.Piece (Elt F) S256x512 .f32)), { LS0 : List (View.Piece (Elt F) S16x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ owns (c : Thread nD τ) arg10 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f LS0)) -∗ K ⟨⟩))
          ⊢ wp frame (wpE (defs₀ (F := F)) Variants.none c none) E (cc1_mamba_scan i arg3 harg3 arg4 harg4 arg5 harg5 arg6 harg6 arg7 harg7 arg8 harg8 arg9 harg9 arg10 harg10) K } := by
  refine ⟨?_, ?_, fun E K => ?run⟩
  case run =>
    simp only [cc1_mamba_scan_eq_skeleton]; unfold cc1_mamba_scan_skel
    simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton, k1_part21_eq_skeleton, k1_part22_eq_skeleton, k1_part23_eq_skeleton, k1_part24_eq_skeleton, k1_part25_eq_skeleton, k1_part26_eq_skeleton, k1_part27_eq_skeleton, k1_part28_eq_skeleton, k1_part29_eq_skeleton, k1_part30_eq_skeleton, k1_part31_eq_skeleton, k1_part32_eq_skeleton, k1_part33_eq_skeleton, k1_part34_eq_skeleton, k1_part35_eq_skeleton, k1_part36_eq_skeleton, k1_part37_eq_skeleton, k1_part38_eq_skeleton, k1_part39_eq_skeleton, k1_part40_eq_skeleton, k1_part41_eq_skeleton, k1_part42_eq_skeleton, k1_part43_eq_skeleton, k1_part44_eq_skeleton, k1_part45_eq_skeleton, k1_part46_eq_skeleton, k1_part47_eq_skeleton, k1_part48_eq_skeleton, k1_part49_eq_skeleton, k1_part50_eq_skeleton, k1_part51_eq_skeleton, k1_part52_eq_skeleton, k1_part53_eq_skeleton, k1_part54_eq_skeleton, k1_part55_eq_skeleton, k1_part56_eq_skeleton, k1_part57_eq_skeleton, k1_part58_eq_skeleton, k1_part59_eq_skeleton, k1_part60_eq_skeleton, k1_part61_eq_skeleton, k1_part62_eq_skeleton, k1_part63_eq_skeleton, k1_part64_eq_skeleton, k1_part65_eq_skeleton, k1_part66_eq_skeleton, k1_part67_eq_skeleton, k1_part68_eq_skeleton, k1_part69_eq_skeleton, k1_part70_eq_skeleton, k1_part71_eq_skeleton, k1_part72_eq_skeleton, k1_part73_eq_skeleton, k1_part74_eq_skeleton, k1_part75_eq_skeleton, k1_part76_eq_skeleton, k1_part77_eq_skeleton, k1_part78_eq_skeleton, k1_part79_eq_skeleton, k1_part80_eq_skeleton, k1_part81_eq_skeleton, k1_part82_eq_skeleton, k1_part83_eq_skeleton, k1_part84_eq_skeleton, k1_part85_eq_skeleton, k1_part86_eq_skeleton, k1_part87_eq_skeleton, k1_part88_eq_skeleton, k1_part89_eq_skeleton, k1_part90_eq_skeleton, k1_part91_eq_skeleton, k1_part92_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg10.eq_unread hfs0
    sl_exec (disch := first | sl_exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]; · iexists _; iexact H6
    iexists _; iexact HS0

end Cert.KernelIdeal.Scan

end
-- ==== Proof.Scan.lean ====
/- The selective scan as a region: what each point leaves, the proof data and the body obligation, for any entry contents. -/
module

public import proofs.«01_k».proof.Proof.ScanRunB

@[expose] public section

set_option maxRecDepth 16384

noncomputable section

namespace Cert.KernelIdeal.Scan

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (W : Dev nD → Valuation τ sig (Elt F))

/-- Case A's pieces for output 6 are of SEVERAL sizes (257 stores of `S1x512`, `S256x512`): cut into blocks of `![1, 512]` they tile its block, so they cover it. -/
theorem cover1_A_6 (c : Dev nD) (i : grid1.Coords) (arg3 : Memref sig .tc .vmem S256x512 .f32) (harg3 : arg3.IsWhole) (arg4 : Memref sig .tc .vmem S256x512 .f32) (harg4 : arg4.IsWhole) (arg5 : Memref sig .tc .vmem S16x256 .f32) (harg5 : arg5.IsWhole) (arg6 : Memref sig .tc .vmem S16x256 .f32) (harg6 : arg6.IsWhole) (arg7 : Memref sig .tc .vmem S16x512 .f32) (harg7 : arg7.IsWhole) (arg8 : Memref sig .tc .vmem S1x512 .f32) (harg8 : arg8.IsWhole) (arg9 : Memref sig .tc .vmem S256x512 .f32) (harg9 : arg9.IsWhole) (arg10 : Memref sig .tc .vmem S16x512 .f32) (harg10 : arg10.IsWhole) (hc0 : cond1_0 i)
    (x0 : Vec F S256x512 .f32) (x1 : Vec F S256x512 .f32) (x2 : Vec F S16x256 .f32) (x3 : Vec F S16x256 .f32) (x4 : Vec F S16x512 .f32) (x5 : Vec F S1x512 .f32) (y : S256x512.Idx) :
    ∃ pc ∈ (kernelRun1_A c i arg3 harg3 arg4 harg4 arg5 harg5 arg6 harg6 arg7 harg7 arg8 harg8 arg9 harg9 arg10 harg10 hc0 x0 x1 x2 x3 x4 x5).1, y ∈ pc.1.set :=
  View.cover_of_tiledBy (kernelRun1_A c i arg3 harg3 arg4 harg4 arg5 harg5 arg6 harg6 arg7 harg7 arg8 harg8 arg9 harg9 arg10 harg10 hc0 x0 x1 x2 x3 x4 x5).1 ![1, 512] (by sl_kernel_rfl) y

/-- What case A leaves in output 6's staging buffer: its pieces read back over junk. -/
def out1_A_6 (c : Dev nD) (i : grid1.Coords) (arg3 : Memref sig .tc .vmem S256x512 .f32) (harg3 : arg3.IsWhole) (arg4 : Memref sig .tc .vmem S256x512 .f32) (harg4 : arg4.IsWhole) (arg5 : Memref sig .tc .vmem S16x256 .f32) (harg5 : arg5.IsWhole) (arg6 : Memref sig .tc .vmem S16x256 .f32) (harg6 : arg6.IsWhole) (arg7 : Memref sig .tc .vmem S16x512 .f32) (harg7 : arg7.IsWhole) (arg8 : Memref sig .tc .vmem S1x512 .f32) (harg8 : arg8.IsWhole) (arg9 : Memref sig .tc .vmem S256x512 .f32) (harg9 : arg9.IsWhole) (arg10 : Memref sig .tc .vmem S16x512 .f32) (harg10 : arg10.IsWhole) (hc0 : cond1_0 i)
    (x0 : Vec F S256x512 .f32) (x1 : Vec F S256x512 .f32) (x2 : Vec F S16x256 .f32) (x3 : Vec F S16x256 .f32) (x4 : Vec F S16x512 .f32) (x5 : Vec F S1x512 .f32) : Vec F S256x512 .f32 :=
  VO1_6.read (Elt F) (VO1_6.writes (Elt F) VO1_6.junk (kernelRun1_A c i arg3 harg3 arg4 harg4 arg5 harg5 arg6 harg6 arg7 harg7 arg8 harg8 arg9 harg9 arg10 harg10 hc0 x0 x1 x2 x3 x4 x5).1)

/-- Case A's pieces for scratch `arg10`, which the kernel carries between points, cover it: 2 pieces of `S16x512` tiling it. -/
theorem scover1_A_0 (c : Dev nD) (i : grid1.Coords) (arg3 : Memref sig .tc .vmem S256x512 .f32) (harg3 : arg3.IsWhole) (arg4 : Memref sig .tc .vmem S256x512 .f32) (harg4 : arg4.IsWhole) (arg5 : Memref sig .tc .vmem S16x256 .f32) (harg5 : arg5.IsWhole) (arg6 : Memref sig .tc .vmem S16x256 .f32) (harg6 : arg6.IsWhole) (arg7 : Memref sig .tc .vmem S16x512 .f32) (harg7 : arg7.IsWhole) (arg8 : Memref sig .tc .vmem S1x512 .f32) (harg8 : arg8.IsWhole) (arg9 : Memref sig .tc .vmem S256x512 .f32) (harg9 : arg9.IsWhole) (arg10 : Memref sig .tc .vmem S16x512 .f32) (harg10 : arg10.IsWhole) (hc0 : cond1_0 i)
    (x0 : Vec F S256x512 .f32) (x1 : Vec F S256x512 .f32) (x2 : Vec F S16x256 .f32) (x3 : Vec F S16x256 .f32) (x4 : Vec F S16x512 .f32) (x5 : Vec F S1x512 .f32) (y : S16x512.Idx) :
    ∃ pc ∈ (kernelRun1_A c i arg3 harg3 arg4 harg4 arg5 harg5 arg6 harg6 arg7 harg7 arg8 harg8 arg9 harg9 arg10 harg10 hc0 x0 x1 x2 x3 x4 x5).2.1, y ∈ pc.1.set :=
  View.cover_of_tiledL (kernelRun1_A c i arg3 harg3 arg4 harg4 arg5 harg5 arg6 harg6 arg7 harg7 arg8 harg8 arg9 harg9 arg10 harg10 hc0 x0 x1 x2 x3 x4 x5).2.1 S16x512.size (by sl_kernel_rfl) y

/-- What case A leaves in scratch `arg10`: its pieces read back over junk. -/
def sout1_A_0 (c : Dev nD) (i : grid1.Coords) (arg3 : Memref sig .tc .vmem S256x512 .f32) (harg3 : arg3.IsWhole) (arg4 : Memref sig .tc .vmem S256x512 .f32) (harg4 : arg4.IsWhole) (arg5 : Memref sig .tc .vmem S16x256 .f32) (harg5 : arg5.IsWhole) (arg6 : Memref sig .tc .vmem S16x256 .f32) (harg6 : arg6.IsWhole) (arg7 : Memref sig .tc .vmem S16x512 .f32) (harg7 : arg7.IsWhole) (arg8 : Memref sig .tc .vmem S1x512 .f32) (harg8 : arg8.IsWhole) (arg9 : Memref sig .tc .vmem S256x512 .f32) (harg9 : arg9.IsWhole) (arg10 : Memref sig .tc .vmem S16x512 .f32) (harg10 : arg10.IsWhole) (hc0 : cond1_0 i)
    (x0 : Vec F S256x512 .f32) (x1 : Vec F S256x512 .f32) (x2 : Vec F S16x256 .f32) (x3 : Vec F S16x256 .f32) (x4 : Vec F S16x512 .f32) (x5 : Vec F S1x512 .f32) : Vec F S16x512 .f32 :=
  VS1_0.read (Elt F) (VS1_0.writes (Elt F) VS1_0.junk (kernelRun1_A c i arg3 harg3 arg4 harg4 arg5 harg5 arg6 harg6 arg7 harg7 arg8 harg8 arg9 harg9 arg10 harg10 hc0 x0 x1 x2 x3 x4 x5).2.1)

/-- Case B's pieces for output 6 are of SEVERAL sizes (257 stores of `S1x512`, `S256x512`): cut into blocks of `![1, 512]` they tile its block, so they cover it. -/
theorem cover1_B_6 (c : Dev nD) (i : grid1.Coords) (arg3 : Memref sig .tc .vmem S256x512 .f32) (harg3 : arg3.IsWhole) (arg4 : Memref sig .tc .vmem S256x512 .f32) (harg4 : arg4.IsWhole) (arg5 : Memref sig .tc .vmem S16x256 .f32) (harg5 : arg5.IsWhole) (arg6 : Memref sig .tc .vmem S16x256 .f32) (harg6 : arg6.IsWhole) (arg7 : Memref sig .tc .vmem S16x512 .f32) (harg7 : arg7.IsWhole) (arg8 : Memref sig .tc .vmem S1x512 .f32) (harg8 : arg8.IsWhole) (arg9 : Memref sig .tc .vmem S256x512 .f32) (harg9 : arg9.IsWhole) (arg10 : Memref sig .tc .vmem S16x512 .f32) (harg10 : arg10.IsWhole) (hc0 : ¬cond1_0 i)
    (x0 : Vec F S256x512 .f32) (x1 : Vec F S256x512 .f32) (x2 : Vec F S16x256 .f32) (x3 : Vec F S16x256 .f32) (x4 : Vec F S16x512 .f32) (x5 : Vec F S1x512 .f32) (xs0 : Vec F S16x512 .f32) (y : S256x512.Idx) :
    ∃ pc ∈ (kernelRun1_B c i arg3 harg3 arg4 harg4 arg5 harg5 arg6 harg6 arg7 harg7 arg8 harg8 arg9 harg9 arg10 harg10 hc0 x0 x1 x2 x3 x4 x5 xs0).1, y ∈ pc.1.set :=
  View.cover_of_tiledBy (kernelRun1_B c i arg3 harg3 arg4 harg4 arg5 harg5 arg6 harg6 arg7 harg7 arg8 harg8 arg9 harg9 arg10 harg10 hc0 x0 x1 x2 x3 x4 x5 xs0).1 ![1, 512] (by sl_kernel_rfl) y

/-- What case B leaves in output 6's staging buffer: its pieces read back over junk. -/
def out1_B_6 (c : Dev nD) (i : grid1.Coords) (arg3 : Memref sig .tc .vmem S256x512 .f32) (harg3 : arg3.IsWhole) (arg4 : Memref sig .tc .vmem S256x512 .f32) (harg4 : arg4.IsWhole) (arg5 : Memref sig .tc .vmem S16x256 .f32) (harg5 : arg5.IsWhole) (arg6 : Memref sig .tc .vmem S16x256 .f32) (harg6 : arg6.IsWhole) (arg7 : Memref sig .tc .vmem S16x512 .f32) (harg7 : arg7.IsWhole) (arg8 : Memref sig .tc .vmem S1x512 .f32) (harg8 : arg8.IsWhole) (arg9 : Memref sig .tc .vmem S256x512 .f32) (harg9 : arg9.IsWhole) (arg10 : Memref sig .tc .vmem S16x512 .f32) (harg10 : arg10.IsWhole) (hc0 : ¬cond1_0 i)
    (x0 : Vec F S256x512 .f32) (x1 : Vec F S256x512 .f32) (x2 : Vec F S16x256 .f32) (x3 : Vec F S16x256 .f32) (x4 : Vec F S16x512 .f32) (x5 : Vec F S1x512 .f32) (xs0 : Vec F S16x512 .f32) : Vec F S256x512 .f32 :=
  VO1_6.read (Elt F) (VO1_6.writes (Elt F) VO1_6.junk (kernelRun1_B c i arg3 harg3 arg4 harg4 arg5 harg5 arg6 harg6 arg7 harg7 arg8 harg8 arg9 harg9 arg10 harg10 hc0 x0 x1 x2 x3 x4 x5 xs0).1)

/-- Case B's pieces for scratch `arg10`, which the kernel carries between points, cover it: 1 piece of `S16x512` tiling it. -/
theorem scover1_B_0 (c : Dev nD) (i : grid1.Coords) (arg3 : Memref sig .tc .vmem S256x512 .f32) (harg3 : arg3.IsWhole) (arg4 : Memref sig .tc .vmem S256x512 .f32) (harg4 : arg4.IsWhole) (arg5 : Memref sig .tc .vmem S16x256 .f32) (harg5 : arg5.IsWhole) (arg6 : Memref sig .tc .vmem S16x256 .f32) (harg6 : arg6.IsWhole) (arg7 : Memref sig .tc .vmem S16x512 .f32) (harg7 : arg7.IsWhole) (arg8 : Memref sig .tc .vmem S1x512 .f32) (harg8 : arg8.IsWhole) (arg9 : Memref sig .tc .vmem S256x512 .f32) (harg9 : arg9.IsWhole) (arg10 : Memref sig .tc .vmem S16x512 .f32) (harg10 : arg10.IsWhole) (hc0 : ¬cond1_0 i)
    (x0 : Vec F S256x512 .f32) (x1 : Vec F S256x512 .f32) (x2 : Vec F S16x256 .f32) (x3 : Vec F S16x256 .f32) (x4 : Vec F S16x512 .f32) (x5 : Vec F S1x512 .f32) (xs0 : Vec F S16x512 .f32) (y : S16x512.Idx) :
    ∃ pc ∈ (kernelRun1_B c i arg3 harg3 arg4 harg4 arg5 harg5 arg6 harg6 arg7 harg7 arg8 harg8 arg9 harg9 arg10 harg10 hc0 x0 x1 x2 x3 x4 x5 xs0).2.1, y ∈ pc.1.set :=
  View.cover_of_tiledL (kernelRun1_B c i arg3 harg3 arg4 harg4 arg5 harg5 arg6 harg6 arg7 harg7 arg8 harg8 arg9 harg9 arg10 harg10 hc0 x0 x1 x2 x3 x4 x5 xs0).2.1 S16x512.size (by sl_kernel_rfl) y

/-- What case B leaves in scratch `arg10`: its pieces read back over junk. -/
def sout1_B_0 (c : Dev nD) (i : grid1.Coords) (arg3 : Memref sig .tc .vmem S256x512 .f32) (harg3 : arg3.IsWhole) (arg4 : Memref sig .tc .vmem S256x512 .f32) (harg4 : arg4.IsWhole) (arg5 : Memref sig .tc .vmem S16x256 .f32) (harg5 : arg5.IsWhole) (arg6 : Memref sig .tc .vmem S16x256 .f32) (harg6 : arg6.IsWhole) (arg7 : Memref sig .tc .vmem S16x512 .f32) (harg7 : arg7.IsWhole) (arg8 : Memref sig .tc .vmem S1x512 .f32) (harg8 : arg8.IsWhole) (arg9 : Memref sig .tc .vmem S256x512 .f32) (harg9 : arg9.IsWhole) (arg10 : Memref sig .tc .vmem S16x512 .f32) (harg10 : arg10.IsWhole) (hc0 : ¬cond1_0 i)
    (x0 : Vec F S256x512 .f32) (x1 : Vec F S256x512 .f32) (x2 : Vec F S16x256 .f32) (x3 : Vec F S16x256 .f32) (x4 : Vec F S16x512 .f32) (x5 : Vec F S1x512 .f32) (xs0 : Vec F S16x512 .f32) : Vec F S16x512 .f32 :=
  VS1_0.read (Elt F) (VS1_0.writes (Elt F) VS1_0.junk (kernelRun1_B c i arg3 harg3 arg4 harg4 arg5 harg5 arg6 harg6 arg7 harg7 arg8 harg8 arg9 harg9 arg10 harg10 hc0 x0 x1 x2 x3 x4 x5 xs0).2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before1_W_κ`). An assignment of the conditions no point meets is no case (`False.elim`). -/
def outsAt1 (c : Dev nD) : (n : ℕ) → n < cfg1.N → Vec F S256x512 .f32 × Vec F S16x512 .f32
  | 0, hn => (out1_A_6 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) ((hcond1_0 ⟨0, hn⟩).mpr (Nat.zero_mod _)) (iblk W c 0 ⟨0, hn⟩) (iblk W c 1 ⟨0, hn⟩) (iblk W c 2 ⟨0, hn⟩) (iblk W c 3 ⟨0, hn⟩) (iblk W c 4 ⟨0, hn⟩) (iblk W c 5 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) ((hcond1_0 ⟨0, hn⟩).mpr (Nat.zero_mod _)) (iblk W c 0 ⟨0, hn⟩) (iblk W c 1 ⟨0, hn⟩) (iblk W c 2 ⟨0, hn⟩) (iblk W c 3 ⟨0, hn⟩) (iblk W c 4 ⟨0, hn⟩) (iblk W c 5 ⟨0, hn⟩))
  | n + 1, hn =>
    if h0 : (n + 1) % 8 = 0 then
      (out1_A_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) ((hcond1_0 ⟨n + 1, hn⟩).mpr h0) (iblk W c 0 ⟨n + 1, hn⟩) (iblk W c 1 ⟨n + 1, hn⟩) (iblk W c 2 ⟨n + 1, hn⟩) (iblk W c 3 ⟨n + 1, hn⟩) (iblk W c 4 ⟨n + 1, hn⟩) (iblk W c 5 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) ((hcond1_0 ⟨n + 1, hn⟩).mpr h0) (iblk W c 0 ⟨n + 1, hn⟩) (iblk W c 1 ⟨n + 1, hn⟩) (iblk W c 2 ⟨n + 1, hn⟩) (iblk W c 3 ⟨n + 1, hn⟩) (iblk W c 4 ⟨n + 1, hn⟩) (iblk W c 5 ⟨n + 1, hn⟩))
    else
      (out1_B_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) (fun h => h0 ((hcond1_0 ⟨n + 1, hn⟩).mp h)) (iblk W c 0 ⟨n + 1, hn⟩) (iblk W c 1 ⟨n + 1, hn⟩) (iblk W c 2 ⟨n + 1, hn⟩) (iblk W c 3 ⟨n + 1, hn⟩) (iblk W c 4 ⟨n + 1, hn⟩) (iblk W c 5 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) (fun h => h0 ((hcond1_0 ⟨n + 1, hn⟩).mp h)) (iblk W c 0 ⟨n + 1, hn⟩) (iblk W c 1 ⟨n + 1, hn⟩) (iblk W c 2 ⟨n + 1, hn⟩) (iblk W c 3 ⟨n + 1, hn⟩) (iblk W c 4 ⟨n + 1, hn⟩) (iblk W c 5 ⟨n + 1, hn⟩) (outsAt1 c n (Nat.lt_of_succ_lt hn)).2)

/-- `outsAt1` at a point of case A: that case's contents. -/
theorem outsAt1_A (c : Dev nD) (t : Fin cfg1.N) (h0 : t.val % 8 = 0) :
    outsAt1 W c t.val t.isLt = (out1_A_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) ((hcond1_0 t).mpr h0) (iblk W c 0 t) (iblk W c 1 t) (iblk W c 2 t) (iblk W c 3 t) (iblk W c 4 t) (iblk W c 5 t), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) ((hcond1_0 t).mpr h0) (iblk W c 0 t) (iblk W c 1 t) (iblk W c 2 t) (iblk W c 3 t) (iblk W c 4 t) (iblk W c 5 t)) := by
  obtain ⟨n, hn⟩ := t
  cases n with
  | zero => exact rfl
  | succ n => exact (dif_pos h0).trans rfl

/-- `outsAt1` at a point of case B: that case's contents, over what the point before left. -/
theorem outsAt1_B (c : Dev nD) (t : Fin cfg1.N) (h0 : ¬t.val % 8 = 0) :
    outsAt1 W c t.val t.isLt = (out1_B_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) (iblk W c 0 t) (iblk W c 1 t) (iblk W c 2 t) (iblk W c 3 t) (iblk W c 4 t) (iblk W c 5 t) (outsAt1 W c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) (iblk W c 0 t) (iblk W c 1 t) (iblk W c 2 t) (iblk W c 3 t) (iblk W c 4 t) (iblk W c 5 t) (outsAt1 W c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    plain one (every scratch at anything); afterwards the scoped rest with each carried scratch
    at what the point before left in it (`outsAt1`'s scratch components), the others at anything, and the generator register
    at some state. -/
def PhiS (c : Dev nD) : (n : ℕ) → n ≤ cfg1.N → sProp 𝕄
  | 0, _ => Pipeline.ΦA spec1 c
  | n + 1, hn => iprop(iprop(owns (c : Thread nD τ) scM1_0 fullShare ((outsAt1 W c n hn).2)) ∗ Rg c)

/-- Before the first point the scratch holds anything. -/
theorem PhiS_zero (c : Dev nD) (n : ℕ) (h : n ≤ cfg1.N) (hz : n = 0) : PhiS W c n h = Pipeline.ΦA spec1 c := by
  subst hz; rfl

/-- After point `n` (before point `n + 1`): the carried scratch at that point's contents. -/
theorem PhiS_succ (c : Dev nD) (n : ℕ) (hn : n < cfg1.N) :
    PhiS W c (n + 1) hn = iprop(iprop(owns (c : Thread nD τ) scM1_0 fullShare ((outsAt1 W c n hn).2)) ∗ Rg c) := rfl

/-- Before a point that is not the first: the carried scratch at what the point before left. -/
theorem PhiS_pos (c : Dev nD) (n : ℕ) (h : n ≤ cfg1.N) (hz : n ≠ 0) :
    PhiS W c n h = iprop(iprop(owns (c : Thread nD τ) scM1_0 fullShare ((outsAt1 W c (n - 1) (by omega)).2)) ∗ Rg c) := by
  cases n with
  | zero => exact absurd rfl hz
  | succ n => rfl

/-! ## The pipeline's proof data -/

/-- The proof data of the one pipeline on core `c`: the arrays as the region finds them (`V`); after the body at
    point `t` each input's buffer at its block and the outputs' at `outsAt1`; the invariant the class's
    (`PhiS`: the class's `ΦA` before the first point, then the scoped rest with the carried scratch at `outsAt1`'s component);
    nothing owed; full shares. -/
def dat (c : Dev nD) : Dat τ (Elt F) Unit ℕ (UR sig nD τ) ℕ cfg1 c where
  A w := V W c (Pipeline.arrRef spec1 w)
  after w t := match w with
    | ⟨0, _⟩ => iblk W c 0 t
    | ⟨1, _⟩ => iblk W c 1 t
    | ⟨2, _⟩ => iblk W c 2 t
    | ⟨3, _⟩ => iblk W c 3 t
    | ⟨4, _⟩ => iblk W c 4 t
    | ⟨5, _⟩ => iblk W c 5 t
    | ⟨6, _⟩ => (outsAt1 W c t.val t.isLt).1
  Φ t := PhiS W c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg1.W) : (dat W c).A w = V W c (Pipeline.arrRef spec1 w) := by
  dsimp only [dat]

/-- The invariant at a point's start (the proof data at `t.castSucc`), restated at `t.val`. -/
theorem PhiS_castSucc (c : Dev nD) (t : Fin cfg1.N) :
    (dat W c).Φ t.castSucc = PhiS W c t.val (Nat.le_of_lt t.isLt) := by
  dsimp only [dat]; exact Pipeline.Dat.Φ_castSucc (PhiS W c) t

/-- What the body leaves, window by window (the proof data's `match` reduced by `dsimp`). -/
theorem after1_0 (c : Dev nD) (t : Fin cfg1.N) : (dat W c).after 0 t = iblk W c 0 t := by dsimp only [dat]

/-- What the body leaves in window 1's buffer. -/
theorem after1_1 (c : Dev nD) (t : Fin cfg1.N) : (dat W c).after 1 t = iblk W c 1 t := by dsimp only [dat]

/-- What the body leaves in window 2's buffer. -/
theorem after1_2 (c : Dev nD) (t : Fin cfg1.N) : (dat W c).after 2 t = iblk W c 2 t := by dsimp only [dat]

/-- What the body leaves in window 3's buffer. -/
theorem after1_3 (c : Dev nD) (t : Fin cfg1.N) : (dat W c).after 3 t = iblk W c 3 t := by dsimp only [dat]

/-- What the body leaves in window 4's buffer. -/
theorem after1_4 (c : Dev nD) (t : Fin cfg1.N) : (dat W c).after 4 t = iblk W c 4 t := by dsimp only [dat]

/-- What the body leaves in window 5's buffer. -/
theorem after1_5 (c : Dev nD) (t : Fin cfg1.N) : (dat W c).after 5 t = iblk W c 5 t := by dsimp only [dat]

/-- What the body leaves in window 6's buffer. -/
theorem after1_6 (c : Dev nD) (t : Fin cfg1.N) : (dat W c).after 6 t = (outsAt1 W c t.val t.isLt).1 := by dsimp only [dat]

/-- Each input's current staging buffer holds its block at every point, fetched there or not (`beforeK_W_of`). -/
theorem before1_0 (c : Dev nD) (t : Fin cfg1.N) (d) : (dat W c).before 0 t d = iblk W c 0 t :=
  before1_0_of W (dat W c) (A_eq W c 0) (after1_0 W c) t d

/-- Window 1's buffer holds its block before the body. -/
theorem before1_1 (c : Dev nD) (t : Fin cfg1.N) (d) : (dat W c).before 1 t d = iblk W c 1 t :=
  before1_1_of W (dat W c) (A_eq W c 1) (after1_1 W c) t d

/-- Window 2's buffer holds its block before the body. -/
theorem before1_2 (c : Dev nD) (t : Fin cfg1.N) (d) : (dat W c).before 2 t d = iblk W c 2 t :=
  before1_2_of W (dat W c) (A_eq W c 2) (after1_2 W c) t d

/-- Window 3's buffer holds its block before the body. -/
theorem before1_3 (c : Dev nD) (t : Fin cfg1.N) (d) : (dat W c).before 3 t d = iblk W c 3 t :=
  before1_3_of W (dat W c) (A_eq W c 3) (after1_3 W c) t d

/-- Window 4's buffer holds its block before the body. -/
theorem before1_4 (c : Dev nD) (t : Fin cfg1.N) (d) : (dat W c).before 4 t d = iblk W c 4 t :=
  before1_4_of W (dat W c) (A_eq W c 4) (after1_4 W c) t d

/-- Window 5's buffer holds its block before the body. -/
theorem before1_5 (c : Dev nD) (t : Fin cfg1.N) (d) : (dat W c).before 5 t d = iblk W c 5 t :=
  before1_5_of W (dat W c) (A_eq W c 5) (after1_5 W c) t d

/-! ## The body obligation, at a generic point -/

/-- What the body is called with at point `t` (the windows one by one), -/
def bodyPre (c : Dev nD) (t : Fin cfg1.N) : sProp 𝕄 :=
  iprop((dat W c).Φ t.castSucc ∗ (dat W c).owesAt () t.castSucc
    ∗ (∃ d, owns (c : Thread nD τ) (ms1_0 t) fullShare ((dat W c).before 0 t d))
    ∗ (∃ d, owns (c : Thread nD τ) (ms1_1 t) fullShare ((dat W c).before 1 t d))
    ∗ (∃ d, owns (c : Thread nD τ) (ms1_2 t) fullShare ((dat W c).before 2 t d))
    ∗ (∃ d, owns (c : Thread nD τ) (ms1_3 t) fullShare ((dat W c).before 3 t d))
    ∗ (∃ d, owns (c : Thread nD τ) (ms1_4 t) fullShare ((dat W c).before 4 t d))
    ∗ (∃ d, owns (c : Thread nD τ) (ms1_5 t) fullShare ((dat W c).before 5 t d))
    ∗ (∃ d, owns (c : Thread nD τ) (ms1_6 t) fullShare ((dat W c).before 6 t d)))

/-- and what it returns. -/
def bodyPost (c : Dev nD) (t : Fin cfg1.N) : sProp 𝕄 :=
  iprop((dat W c).Φ t.succ ∗ (dat W c).owesAt () t.succ
    ∗ owns (c : Thread nD τ) (ms1_0 t) fullShare ((dat W c).after 0 t)
    ∗ owns (c : Thread nD τ) (ms1_1 t) fullShare ((dat W c).after 1 t)
    ∗ owns (c : Thread nD τ) (ms1_2 t) fullShare ((dat W c).after 2 t)
    ∗ owns (c : Thread nD τ) (ms1_3 t) fullShare ((dat W c).after 3 t)
    ∗ owns (c : Thread nD τ) (ms1_4 t) fullShare ((dat W c).after 4 t)
    ∗ owns (c : Thread nD τ) (ms1_5 t) fullShare ((dat W c).after 5 t)
    ∗ owns (c : Thread nD τ) (ms1_6 t) fullShare ((dat W c).after 6 t))

set_option maxHeartbeats 8000000 in
/-- The body at any point: the inputs' memrefs hold their blocks (`before1_W`); the closed forms say which case the point is in (`by_cases`), an output the case reads before covering holds what the point before left (`before1_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg1.N) :
    bodyPre W c t ⊢ wp frame (wpE (defs₀ (F := F)) Variants.none c none) Set.univ (bodyAt1 t) (fun _ => bodyPost W c t) := by
  unfold bodyPre bodyPost bodyAt1
  simp only [before1_0, before1_1, before1_2, before1_3, before1_4, before1_5]
  rw [show (dat W c).owesAt () t.succ = (dat W c).owesAt () t.castSucc from rfl,
    after1_0, after1_1, after1_2, after1_3, after1_4, after1_5, after1_6]
  rw [show (dat W c).Φ t.succ = PhiS W c (t.val + 1) t.isLt from rfl, PhiS_succ]
  have hN : t.val < 64 := lt_of_lt_of_eq t.isLt (show cfg1.N = 64 from N_1)
  by_cases h0 : t.val % 8 = 0
  · by_cases hz : t.val = 0
    · rw [PhiS_castSucc W c t, PhiS_zero W c _ _ hz, PhiA1_eq]
      rw [outsAt1_A W c t h0]
      unfold out1_A_6 sout1_A_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_A c (grid1.coords t) _ _ _ _ _ _ _ _ _ _ _ _ _ _ _ _ ((hcond1_0 t).mpr h0) (iblk W c 0 t) (iblk W c 1 t) (iblk W c 2 t) (iblk W c 3 t) (iblk W c 4 t) (iblk W c 5 t)).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      iintro ⟨H0, H1, H2, H3, H4, H5, ⟨%e6, H6⟩, ⟨%es0, HS0⟩⟩
      isplitl [HS0 Hg]
      · isplitl [HS0]
        · unfold owns; iexists _; isplitr
          swap; · iexact HS0
          ipureintro; exact View.read_writes_of_cover _ _ _ _ _ (scover1_A_0 c _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover1_A_6 c _ _ _ _ _ _ _ _ _ _ _ _ _ _ _ _ _ _ _ _ _ _ _ _)
    · rw [PhiS_castSucc W c t, PhiS_pos W c _ _ hz]
      rw [outsAt1_A W c t h0]
      unfold out1_A_6 sout1_A_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_A c (grid1.coords t) _ _ _ _ _ _ _ _ _ _ _ _ _ _ _ _ ((hcond1_0 t).mpr h0) (iblk W c 0 t) (iblk W c 1 t) (iblk W c 2 t) (iblk W c 3 t) (iblk W c 4 t) (iblk W c 5 t)).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexists _; iexact HS0
      iintro ⟨H0, H1, H2, H3, H4, H5, ⟨%e6, H6⟩, ⟨%es0, HS0⟩⟩
      isplitl [HS0 Hg]
      · isplitl [HS0]
        · unfold owns; iexists _; isplitr
          swap; · iexact HS0
          ipureintro; exact View.read_writes_of_cover _ _ _ _ _ (scover1_A_0 c _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover1_A_6 c _ _ _ _ _ _ _ _ _ _ _ _ _ _ _ _ _ _ _ _ _ _ _ _)
  · by_cases hz : t.val = 0
    · exfalso; have hN : t.val < 64 := lt_of_lt_of_eq t.isLt (show cfg1.N = 64 from N_1); omega
    · rw [PhiS_castSucc W c t, PhiS_pos W c _ _ hz]
      rw [outsAt1_B W c t h0]
      unfold out1_B_6 sout1_B_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_B c (grid1.coords t) _ _ _ _ _ _ _ _ _ _ _ _ _ _ _ _ (fun h => h0 ((hcond1_0 t).mp h)) (iblk W c 0 t) (iblk W c 1 t) (iblk W c 2 t) (iblk W c 3 t) (iblk W c 4 t) (iblk W c 5 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      iintro ⟨H0, H1, H2, H3, H4, H5, ⟨%e6, H6⟩, ⟨%es0, HS0⟩⟩
      isplitl [HS0 Hg]
      · isplitl [HS0]
        · unfold owns; iexists _; isplitr
          swap; · iexact HS0
          ipureintro; exact View.read_writes_of_cover _ _ _ _ _ (scover1_B_0 c _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover1_B_6 c _ _ _ _ _ _ _ _ _ _ _ _ _ _ _ _ _ _ _ _ _ _ _ _ _)

/-- The body table's row at point `t`'s slots is the body as `bodyAt1` spells it. -/
theorem defs₀_row (t : Fin cfg1.N) :
    defs₀ (F := F) .tc cfg1.body (cfg1.bodyArgs t (cfg1.slots t)) = bodyAt1 t := by
  unfold defs₀; rw [Defs.onTc_tc]

/-- The library's body obligation, at every point: the body's triple restated. -/
theorem body_obligation (c : Dev nD) : BodyObligation (dat (F := F) W c) (defs₀ (F := F)) Variants.none () Set.univ := fun t => by
  rw [bigSep_W1, bigSep_W1, defs₀_row]
  exact triple_restated (sound_body W c t) rfl .rfl fun _ => .rfl

/-- What the launch hands the region (`ΦA`) is the invariant before the first point. -/
theorem hin (c : Dev nD) : Pipeline.ΦA spec1 c ⊢ (dat W c).Φ 0 := by
  rw [show (dat W c).Φ 0 = PhiS W c 0 (Nat.zero_le _) from rfl, PhiS_zero W c 0 _ rfl]
  try exact Idealize.SL.BI.Entails.refl _

/-- After any point but the first the invariant gives `ΦA` back: the carried scratch's named contents are forgotten. -/
theorem Phi_out (c : Dev nD) (t : Fin (cfg1.N + 1)) (ht : t.val ≠ 0) : (dat W c).Φ t ⊢ Pipeline.ΦA spec1 c := by
  rw [show (dat W c).Φ t = PhiS W c t.val (Nat.le_of_lt_succ t.isLt) from rfl, PhiS_pos W c _ _ ht, PhiA1_eq]
  iintro ⟨HS0, Hg⟩
  isplitl [HS0]
  · iexists _; iexact HS0
  iexact Hg

/-- The same after the last point. -/
theorem hout (c : Dev nD) : (dat W c).Φ (Fin.last cfg1.N) ⊢ Pipeline.ΦA spec1 c :=
  Phi_out W c _ (by rw [Fin.val_last]; have : cfg1.N = 64 := N_1; omega)

/-! ## The run and the frame -/

end Cert.KernelIdeal.Scan

end
-- ==== Proof.Out.lean ====
/- The output projection as a region: what its body leaves, the proof data and the body obligation, for any entry contents. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.Exec
public import Idealize.ShloMosaic.Lib.Ring
public import Idealize.ShloMosaic.Lib.Tactic
public import Idealize.ShloMosaic.Lib.WordCmp

@[expose] public section

set_option maxRecDepth 16384

noncomputable section

namespace Cert.KernelIdeal.Out

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (W : Dev nD → Valuation τ sig (Elt F))

/-- Core `c`'s TensorCore buffers when the region is entered, at the valuation `W`. -/
abbrev V (c : Dev nD) (b : Ref sig .tc) : Buf (Elt F) ((c : Thread nD τ).loc b) := W c (Proc.devRef .tc b)

/-! ## @main up to the region -/

/-! ## The windows' blocks -/

/-- Window `w`'s block at point `t`, read off its array as the region finds it (`V`). -/
def iblk (c : Dev nD) (w : Fin cfg2.W) (t : Fin cfg2.N) : ((cfg2.win w).xblock (cfg2.grid.coords t)).Idx → Elt F (cfg2.win w).elt :=
  ((cfg2.win w).blk t).view.read (Elt F) (V W c (Pipeline.arrRef spec2 w))

/-- Input window 0's current staging buffer holds its block at every point, fetched there or not, for ANY proof
    data whose array is `V`'s (`hA`) and whose body leaves the block in place (`hafter`). -/
theorem before2_0_of {c : Dev nD} (dat : Dat τ (Elt F) Unit ℕ (UR sig nD τ) ℕ cfg2 c) (hA : dat.A 0 = V W c (Pipeline.arrRef spec2 0))
    (hafter : ∀ t, dat.after 0 t = iblk W c 0 t) (t : Fin cfg2.N) (d) : dat.before 0 t d = iblk W c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not, for ANY proof
    data whose array is `V`'s (`hA`) and whose body leaves the block in place (`hafter`). -/
theorem before2_1_of {c : Dev nD} (dat : Dat τ (Elt F) Unit ℕ (UR sig nD τ) ℕ cfg2 c) (hA : dat.A 1 = V W c (Pipeline.arrRef spec2 1))
    (hafter : ∀ t, dat.after 1 t = iblk W c 1 t) (t : Fin cfg2.N) (d) : dat.before 1 t d = iblk W c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not, for ANY proof
    data whose array is `V`'s (`hA`) and whose body leaves the block in place (`hafter`). -/
theorem before2_2_of {c : Dev nD} (dat : Dat τ (Elt F) Unit ℕ (UR sig nD τ) ℕ cfg2 c) (hA : dat.A 2 = V W c (Pipeline.arrRef spec2 2))
    (hafter : ∀ t, dat.after 2 t = iblk W c 2 t) (t : Fin cfg2.N) (d) : dat.before 2 t d = iblk W c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not, for ANY proof
    data whose array is `V`'s (`hA`) and whose body leaves the block in place (`hafter`). -/
theorem before2_3_of {c : Dev nD} (dat : Dat τ (Elt F) Unit ℕ (UR sig nD τ) ℕ cfg2 c) (hA : dat.A 3 = V W c (Pipeline.arrRef spec2 3))
    (hafter : ∀ t, dat.after 3 t = iblk W c 3 t) (t : Fin cfg2.N) (d) : dat.before 3 t d = iblk W c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-! ## The body's accesses -/

abbrev r2_0 : Rect S1x512x1024 := Rect.unit (s := S1x512x1024) ![0, 0, 0] S1x512x1024.size inb_S1x512x1024_S1x512x1024_0_0_0

abbrev r2_1 : Rect S1024x2048 := Rect.unit (s := S1024x2048) ![0, 0] S1024x2048.size inb_S1024x2048_S1024x2048_0_0

abbrev r2_2 : Rect S512x2048 := Rect.unit (s := S512x2048) ![0, 0] S512x2048.size inb_S512x2048_S512x2048_0_0

abbrev r2_3 : Rect S2048x1024 := Rect.unit (s := S2048x1024) ![0, 0] S2048x1024.size inb_S2048x1024_S2048x1024_0_0

/-! ## What the body leaves in each output window's buffer -/

/-- Window 4's staging buffer after the body, from the input windows' blocks: its 1 store as pieces, LAST
    FIRST. -/
def out2_4 (x0 : Vec F S1x512x1024 .f32) (x1 : Vec F S1024x2048 .f32) (x2 : Vec F S512x2048 .f32) (x3 : Vec F S2048x1024 .f32) : Vec F S1x512x1024 .f32 :=
  View.canon [⟨r2_0, k2_pay1 (View.ld x0 r2_0) (View.ld x1 r2_1) (View.ld x2 r2_2) (View.ld x3 r2_3)⟩]

/-- Its stores tile the buffer (checked by evaluation), so they cover it. -/
theorem cover2_4 (p0 : Vec F S1x512x1024 .f32) (y : S1x512x1024.Idx) :
    ∃ pc ∈ ([⟨r2_0, p0⟩] : List (View.Piece (Elt F) S1x512x1024 .f32)), y ∈ pc.1.set :=
  View.cover_of_tiled [⟨r2_0, p0⟩] S1x512x1024.size (by rfl) y

/-! ## The body's triple -/

set_option maxHeartbeats 1000000 in
/-- The kernel body on whole staging memrefs, the inputs' at read contents `xW` and the outputs' at anything, runs to
    the continuation holding the inputs' as they were and each output's at `out2_W` of the inputs': the printed functions
    are unfolded through every part call. -/
theorem sound_kernel (c : Dev nD) (E : Set ℕ) (i : grid2.Coords) (arg2 : Memref sig .tc .vmem S1x512x1024 .f32) (harg2 : arg2.IsWhole) (arg3 : Memref sig .tc .vmem S1024x2048 .f32) (harg3 : arg3.IsWhole) (arg4 : Memref sig .tc .vmem S512x2048 .f32) (harg4 : arg4.IsWhole) (arg5 : Memref sig .tc .vmem S2048x1024 .f32) (harg5 : arg5.IsWhole) (arg6 : Memref sig .tc .vmem S1x512x1024 .f32) (harg6 : arg6.IsWhole)
    (x0 : Vec F S1x512x1024 .f32) (x1 : Vec F S1024x2048 .f32) (x2 : Vec F S512x2048 .f32) (x3 : Vec F S2048x1024 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (out2_4 x0 x1 x2 x3)) -∗ K ⟨⟩))
      ⊢ wp frame (wpE (defs₀ (F := F)) Variants.none c none) E (cc2_mamba_out i arg2 harg2 arg3 harg3 arg4 harg4 arg5 harg5 arg6 harg6) K := by
  simp only [cc2_mamba_out_eq_skeleton]; unfold cc2_mamba_out_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover2_4 _)

/-! ## The pipeline's proof data -/

/-- The proof data of the one pipeline on core `c`: the arrays as the region finds them (`V`); after the body at
    point `t` each input's buffer at its block and each output's at `out2_W` of the input blocks; the invariant the
    plain one (the scoped rest and the generator register, untouched); nothing owed;
    full shares. -/
def dat (c : Dev nD) : Dat τ (Elt F) Unit ℕ (UR sig nD τ) ℕ cfg2 c where
  A w := V W c (Pipeline.arrRef spec2 w)
  after w t := match w with
    | ⟨0, _⟩ => iblk W c 0 t
    | ⟨1, _⟩ => iblk W c 1 t
    | ⟨2, _⟩ => iblk W c 2 t
    | ⟨3, _⟩ => iblk W c 3 t
    | ⟨4, _⟩ => out2_4 (iblk W c 0 t) (iblk W c 1 t) (iblk W c 2 t) (iblk W c 3 t)
  Φ _ := Pipeline.ΦA spec2 c
  q _ := fullShare
  owed _ := 0

/-- The proof data's arrays are the region-entry contents: the proof data's definition projected (`dsimp`), so that
    `V` — a fold over @main's host prefix, long for some programs — is never unfolded to check it. -/
theorem A_eq (c : Dev nD) (w : Fin cfg2.W) : (dat W c).A w = V W c (Pipeline.arrRef spec2 w) := by
  dsimp only [dat]

/-- What the body leaves, window by window. -/
theorem after2_0 (c : Dev nD) (t : Fin cfg2.N) : (dat W c).after 0 t = iblk W c 0 t := by dsimp only [dat]

/-- What the body leaves in window 1's buffer. -/
theorem after2_1 (c : Dev nD) (t : Fin cfg2.N) : (dat W c).after 1 t = iblk W c 1 t := by dsimp only [dat]

/-- What the body leaves in window 2's buffer. -/
theorem after2_2 (c : Dev nD) (t : Fin cfg2.N) : (dat W c).after 2 t = iblk W c 2 t := by dsimp only [dat]

/-- What the body leaves in window 3's buffer. -/
theorem after2_3 (c : Dev nD) (t : Fin cfg2.N) : (dat W c).after 3 t = iblk W c 3 t := by dsimp only [dat]

/-- What the body leaves in window 4's buffer. -/
theorem after2_4 (c : Dev nD) (t : Fin cfg2.N) : (dat W c).after 4 t = out2_4 (iblk W c 0 t) (iblk W c 1 t) (iblk W c 2 t) (iblk W c 3 t) := by dsimp only [dat]

/-- Each input's current staging buffer holds its block at every point, fetched there or not (`beforeK_W_of`). -/
theorem before2_0 (c : Dev nD) (t : Fin cfg2.N) (d) : (dat W c).before 0 t d = iblk W c 0 t :=
  before2_0_of W (dat W c) (A_eq W c 0) (after2_0 W c) t d

/-- Window 1's buffer holds its block before the body. -/
theorem before2_1 (c : Dev nD) (t : Fin cfg2.N) (d) : (dat W c).before 1 t d = iblk W c 1 t :=
  before2_1_of W (dat W c) (A_eq W c 1) (after2_1 W c) t d

/-- Window 2's buffer holds its block before the body. -/
theorem before2_2 (c : Dev nD) (t : Fin cfg2.N) (d) : (dat W c).before 2 t d = iblk W c 2 t :=
  before2_2_of W (dat W c) (A_eq W c 2) (after2_2 W c) t d

/-- Window 3's buffer holds its block before the body. -/
theorem before2_3 (c : Dev nD) (t : Fin cfg2.N) (d) : (dat W c).before 3 t d = iblk W c 3 t :=
  before2_3_of W (dat W c) (A_eq W c 3) (after2_3 W c) t d

/-! ## The body obligation, at a generic point -/

/-- What the body is called with at point `t` (the windows one by one), -/
def bodyPre (c : Dev nD) (t : Fin cfg2.N) : sProp 𝕄 :=
  iprop((dat W c).Φ t.castSucc ∗ (dat W c).owesAt () t.castSucc
    ∗ (∃ d, owns (c : Thread nD τ) (st2_0 t) fullShare ((dat W c).before 0 t d))
    ∗ (∃ d, owns (c : Thread nD τ) (st2_1 t) fullShare ((dat W c).before 1 t d))
    ∗ (∃ d, owns (c : Thread nD τ) (st2_2 t) fullShare ((dat W c).before 2 t d))
    ∗ (∃ d, owns (c : Thread nD τ) (st2_3 t) fullShare ((dat W c).before 3 t d))
    ∗ (∃ d, owns (c : Thread nD τ) (st2_4 t) fullShare ((dat W c).before 4 t d)))

/-- and what it returns. -/
def bodyPost (c : Dev nD) (t : Fin cfg2.N) : sProp 𝕄 :=
  iprop((dat W c).Φ t.succ ∗ (dat W c).owesAt () t.succ
    ∗ owns (c : Thread nD τ) (st2_0 t) fullShare ((dat W c).after 0 t)
    ∗ owns (c : Thread nD τ) (st2_1 t) fullShare ((dat W c).after 1 t)
    ∗ owns (c : Thread nD τ) (st2_2 t) fullShare ((dat W c).after 2 t)
    ∗ owns (c : Thread nD τ) (st2_3 t) fullShare ((dat W c).after 3 t)
    ∗ owns (c : Thread nD τ) (st2_4 t) fullShare ((dat W c).after 4 t))

/-- The body at any point: the inputs' memrefs hold their blocks (`before2_W`), so `sound_kernel` applies; the invariant and
    the core's `owes` pass through unread. -/
theorem sound_body (c : Dev nD) (t : Fin cfg2.N) :
    bodyPre W c t ⊢ wp frame (wpE (defs₀ (F := F)) Variants.none c none) Set.univ (bodyAt2 t) (fun _ => bodyPost W c t) := by
  unfold bodyPre bodyPost bodyAt2
  simp only [before2_0, before2_1, before2_2, before2_3]
  rw [show (dat W c).Φ t.succ = (dat W c).Φ t.castSucc from rfl,
    show (dat W c).owesAt () t.succ = (dat W c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel c Set.univ (grid2.coords t) _ _ _ _ _ _ _ _ _ _ (iblk W c 0 t) (iblk W c 1 t) (iblk W c 2 t) (iblk W c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body table's row at point `t`'s slots is the body as `bodyAt2` spells it. -/
theorem defs₀_row (t : Fin cfg2.N) :
    defs₀ (F := F) .tc cfg2.body (cfg2.bodyArgs t (cfg2.slots t)) = bodyAt2 t := by
  unfold defs₀; rw [Defs.onTc_tc]

/-- The library's body obligation, at every point: the body's triple restated. -/
theorem body_obligation (c : Dev nD) : BodyObligation (dat (F := F) W c) (defs₀ (F := F)) Variants.none () Set.univ := fun t => by
  rw [bigSep_W2, bigSep_W2, defs₀_row]
  exact triple_restated (sound_body W c t) rfl .rfl fun _ => .rfl

/-! ## The run and the frame -/

end Cert.KernelIdeal.Out

end
-- ==== Proof.Whole.lean ====
/- The three regions in sequence: the contents between them, the run of the whole program and the frame at any float type. -/
module

public import proofs.«01_k».proof.Proof.Gen.KernelIdeal.Regions
public import proofs.«01_k».proof.Proof.Front
public import proofs.«01_k».proof.Proof.Scan
public import proofs.«01_k».proof.Proof.Out
public import Idealize.ShloMosaic.Lib.Pipeline.RegionArraysS
public import Idealize.ShloMosaic.Lib.Pipeline.FrameTail

@[expose] public section

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F] [Named F]

local notation "𝕄" => MT nD τ sig Unit (Elt F) ℕ (UR sig nD τ) ℕ

variable (m : (ℓ : Loc nD τ sig) → Buf (Elt F) ℓ)

/-! ## The contents between the items -/

/-- Core `c`'s buffers after the host operations. -/
abbrev W1 (c : Dev nD) : Valuation τ sig (Elt F) := V1 m c
/-- Core `c`'s buffers after the front. -/
def W2 (c : Dev nD) : Valuation τ sig (Elt F) := Pipeline.afterRegion (Front.dat (W1 m) c) (W1 m c)
/-- Core `c`'s buffers after the scan. -/
def W3 (c : Dev nD) : Valuation τ sig (Elt F) := Pipeline.afterRegion (Scan.dat (W2 m) c) (W2 m c)
/-- Core `c`'s buffers after the output projection. -/
def W4 (c : Dev nD) : Valuation τ sig (Elt F) := Pipeline.afterRegion (Out.dat (W3 m) c) (W3 m c)

/-- The proof data of the three pipelines, each entered at what the items before it left. -/
def pdats : (p : Fin 3) → (c : Dev nD) → Dat τ (Elt F) Unit ℕ (UR sig nD τ) ℕ (cfgs p) c
  | ⟨0, _⟩ => fun c => Front.dat (W1 m) c
  | ⟨1, _⟩ => fun c => Scan.dat (W2 m) c
  | ⟨2, _⟩ => fun c => Out.dat (W3 m) c
  | ⟨_ + 3, h⟩ => absurd h (Nat.not_lt.2 (Nat.le_add_left _ _))

/-! ## The regions' records -/

/-- Every cell of a TensorCore may be waited on at the one index; no other thread waits. -/
def L (g : GSem nD τ sig) : Finset Unit := match g.1.2 with
  | .tc => {()}
  | _ => ∅

/-- Every wait is at the one level. -/
abbrev lv : GSem nD τ sig → Unit → ℕ := fun _ _ => 0

/-- The generator register at some state: what a region takes beside its buffers, and gives back. -/
abbrev Pr (c : Dev nD) : sProp 𝕄 := iprop(∃ r, prngReg c r)

/-- What rides beside the buffers between two items: nothing owed, and the generator register. -/
abbrev E (c : Dev nD) : sProp 𝕄 :=
  iprop((∃ Wd, owes (c : Thread nD τ) (0 : CellTallies nD τ sig Unit) Wd) ∗ Pr c ∗ emp)

/-- No core owes anything, so any wait is allowed. -/
theorem cut (p : Fin 3) : Pipeline.LevelCut (pcfgs (F := F)) adm () L lv p (fun _ => 0) (fun _ => 0) where
  hι _ _ _ := Finset.mem_singleton_self _
  hιb _ _ _ := le_refl _
  hD _ _ _ h := absurd h (lt_irrefl _)

set_option backward.isDefEq.respectTransparency.types false in
/-- The front as a segment of the whole program. -/
def R0 : RegionSeg (pcfgs (F := F)) adm (pdats m) () defs₀ Variants.none L lv 0 :=
  RegionSeg.ofHeldIn (pcfgs (F := F)) adm (pdats m) () defs₀ Variants.none L lv 0 (fun _ => 0)
    (Pipeline.ucRefs τ sig) Pr Pr launch0.toP rfl
    (fun c => (Front.body_obligation (W1 m) c).loose) (fun _ _ => rfl) (fun _ => rfl)
    (fun c => (Front.dat (W1 m) c).share_full fun _ => rfl)
    (fun c => Front.hin (W1 m) c) (fun c => Front.hout (W1 m) c)
    (fun _ => 0) (cut 0) (fun _ => iprop(emp)) (W1 m) (fun c w => Front.A_eq (W1 m) c w)

set_option backward.isDefEq.respectTransparency.types false in
/-- The scan as a segment of the whole program. -/
def R1 : RegionSeg (pcfgs (F := F)) adm (pdats m) () defs₀ Variants.none L lv 1 :=
  RegionSeg.ofHeldIn (pcfgs (F := F)) adm (pdats m) () defs₀ Variants.none L lv 1 (fun _ => 0)
    (Pipeline.ucRefs τ sig) Pr Pr launch1.toP rfl
    (fun c => (Scan.body_obligation (W2 m) c).loose) (fun _ _ => rfl) (fun _ => rfl)
    (fun c => (Scan.dat (W2 m) c).share_full fun _ => rfl)
    (fun c => Scan.hin (W2 m) c) (fun c => Scan.hout (W2 m) c)
    (fun _ => 0) (cut 1) (fun _ => iprop(emp)) (W2 m) (fun c w => Scan.A_eq (W2 m) c w)

set_option backward.isDefEq.respectTransparency.types false in
/-- The output projection as a segment of the whole program. -/
def R2 : RegionSeg (pcfgs (F := F)) adm (pdats m) () defs₀ Variants.none L lv 2 :=
  RegionSeg.ofHeldIn (pcfgs (F := F)) adm (pdats m) () defs₀ Variants.none L lv 2 (fun _ => 0)
    (Pipeline.ucRefs τ sig) Pr Pr launch2.toP rfl
    (fun c => (Out.body_obligation (W3 m) c).loose) (fun _ _ => rfl) (fun _ => rfl)
    (fun c => (Out.dat (W3 m) c).share_full fun _ => rfl)
    (fun c => .rfl) (fun c => .rfl)
    (fun _ => 0) (cut 2) (fun _ => iprop(emp)) (W3 m) (fun c w => Out.A_eq (W3 m) c w)

/-! ## The run -/

/-- The arrays of region 0 are unscoped buffers. -/
theorem arrs0 : Pipeline.arrRefs (τ := τ) (pcfgs (F := F) 0).spec ⊆ Pipeline.ucRefs τ sig :=
  Pipeline.arrRefs_sub_ucRefs (τ := τ) spec0 (by decide)

set_option backward.isDefEq.respectTransparency.types false in
set_option maxHeartbeats 400000 in
/-- Region 0 is entered with every unscoped buffer at `W1`. -/
theorem R0_pre (c : Dev nD) : iprop(StableHlo.held (c : Thread nD τ) (Pipeline.ucRefs τ sig) (W1 m c) ∗ E c) ⊢ (R0 m).pre c := by
  unfold R0 E
  exact RegionSeg.ofHeldIn_pre (pcs := pcfgs (F := F)) (a := adm) (pdats := pdats m) (p := 0) (D := fun _ => 0) (S := Pipeline.ucRefs τ sig)
    (X := Pr) (Y := Pr) (R := fun _ => iprop(emp)) (W := W1 m) (arrs0 (F := F)) c

set_option backward.isDefEq.respectTransparency.types false in
set_option maxHeartbeats 400000 in
/-- Region 0 is left with every unscoped buffer at `W2`. -/
theorem R0_post (c : Dev nD) : (R0 m).post c ⊢ iprop(StableHlo.held (c : Thread nD τ) (Pipeline.ucRefs τ sig) (W2 m c) ∗ E c) := by
  unfold R0 E
  exact RegionSeg.ofHeldIn_post (pcs := pcfgs (F := F)) (a := adm) (pdats := pdats m) (p := 0) (D := fun _ => 0) (S := Pipeline.ucRefs τ sig)
    (X := Pr) (Y := Pr) (R := fun _ => iprop(emp)) (W := W1 m) (arrs0 (F := F)) c

/-- The arrays of region 1 are unscoped buffers. -/
theorem arrs1 : Pipeline.arrRefs (τ := τ) (pcfgs (F := F) 1).spec ⊆ Pipeline.ucRefs τ sig :=
  Pipeline.arrRefs_sub_ucRefs (τ := τ) spec1 (by decide)

set_option backward.isDefEq.respectTransparency.types false in
set_option maxHeartbeats 400000 in
/-- Region 1 is entered with every unscoped buffer at `W2`. -/
theorem R1_pre (c : Dev nD) : iprop(StableHlo.held (c : Thread nD τ) (Pipeline.ucRefs τ sig) (W2 m c) ∗ E c) ⊢ (R1 m).pre c := by
  unfold R1 E
  exact RegionSeg.ofHeldIn_pre (pcs := pcfgs (F := F)) (a := adm) (pdats := pdats m) (p := 1) (D := fun _ => 0) (S := Pipeline.ucRefs τ sig)
    (X := Pr) (Y := Pr) (R := fun _ => iprop(emp)) (W := W2 m) (arrs1 (F := F)) c

set_option backward.isDefEq.respectTransparency.types false in
set_option maxHeartbeats 400000 in
/-- Region 1 is left with every unscoped buffer at `W3`. -/
theorem R1_post (c : Dev nD) : (R1 m).post c ⊢ iprop(StableHlo.held (c : Thread nD τ) (Pipeline.ucRefs τ sig) (W3 m c) ∗ E c) := by
  unfold R1 E
  exact RegionSeg.ofHeldIn_post (pcs := pcfgs (F := F)) (a := adm) (pdats := pdats m) (p := 1) (D := fun _ => 0) (S := Pipeline.ucRefs τ sig)
    (X := Pr) (Y := Pr) (R := fun _ => iprop(emp)) (W := W2 m) (arrs1 (F := F)) c

/-- The arrays of region 2 are unscoped buffers. -/
theorem arrs2 : Pipeline.arrRefs (τ := τ) (pcfgs (F := F) 2).spec ⊆ Pipeline.ucRefs τ sig :=
  Pipeline.arrRefs_sub_ucRefs (τ := τ) spec2 (by decide)

set_option backward.isDefEq.respectTransparency.types false in
set_option maxHeartbeats 400000 in
/-- Region 2 is entered with every unscoped buffer at `W3`. -/
theorem R2_pre (c : Dev nD) : iprop(StableHlo.held (c : Thread nD τ) (Pipeline.ucRefs τ sig) (W3 m c) ∗ E c) ⊢ (R2 m).pre c := by
  unfold R2 E
  exact RegionSeg.ofHeldIn_pre (pcs := pcfgs (F := F)) (a := adm) (pdats := pdats m) (p := 2) (D := fun _ => 0) (S := Pipeline.ucRefs τ sig)
    (X := Pr) (Y := Pr) (R := fun _ => iprop(emp)) (W := W3 m) (arrs2 (F := F)) c

set_option backward.isDefEq.respectTransparency.types false in
set_option maxHeartbeats 400000 in
/-- Region 2 is left with every unscoped buffer at `W4`. -/
theorem R2_post (c : Dev nD) : (R2 m).post c ⊢ iprop(StableHlo.held (c : Thread nD τ) (Pipeline.ucRefs τ sig) (W4 m c) ∗ E c) := by
  unfold R2 E
  exact RegionSeg.ofHeldIn_post (pcs := pcfgs (F := F)) (a := adm) (pdats := pdats m) (p := 2) (D := fun _ => 0) (S := Pipeline.ucRefs τ sig)
    (X := Pr) (Y := Pr) (R := fun _ => iprop(emp)) (W := W3 m) (arrs2 (F := F)) c

set_option backward.isDefEq.respectTransparency.types false in
/-- Every weakly fair execution of the program from any memory with zero counters ends, with every unscoped buffer
    of a core at `W4` and every counter at zero. -/
theorem run (ρ : Dev nD → PrngReg) :
    θ_run defs (onTc (τ := τ) (main (F := F))) ⟨m, fun _ => 0, ρ⟩ (fun r =>
      (∀ c : Dev nD, ∀ b ∈ Pipeline.ucRefs τ sig, r.2.mem ((c.tc : Thread nD τ).1, b) = W4 m c b)
        ∧ r.2.sem = fun _ => 0) := by
  refine Pipeline.θ_run_regions_kit_dev_sems (pcfgs (F := F)) adm (pdats m) () cellOf_inj emb₁ defs₀ Variants.none L lv m ρ main
    (segs m Variants.none L lv (fun _ => E) () (pdats m) (R0 m) (R1 m) (R2 m))
    (fun c Q => by
      rewrite [main_chain c, Seg.run_eq_chain,
        show (segs m Variants.none L lv (fun _ => E) () (pdats m) (R0 m) (R1 m) (R2 m) c).map Seg.prog = [
          StableHlo.seq hostOps0,
          Prog.lift (.customCall (Pipeline.entry 0) ()),
          Prog.lift (.customCall (Pipeline.entry 1) ()),
          Prog.lift (.customCall (Pipeline.entry 2) ()) ] from rfl]
      dsimp (config := { failIfUnchanged := false }) only
      exact .rfl)
    (fun c => by simp only [segs, Seg.pipes_host, Seg.pipes_region, Seg.pipes_nil]; decide) 0 ?_
    (fun _ => iprop(emp)) (initOf (Pipeline.cells cfgs cellOf_inj) (Pipeline.launchToks cfgs cellOf_inj)) ?_
    (T₀ := fun c => iprop(StableHlo.held (c : Thread nD τ) (Pipeline.ucRefs τ sig) (V0 m c) ∗ E c))
    (Tₙ := fun c => StableHlo.held (c : Thread nD τ) (Pipeline.ucRefs τ sig) (W4 m c))
    (hch := fun c => ⟨.rfl, ?_, ?_, ?_, ?_⟩)
    (hinit := ?_) (QY := fun c s => ∀ b ∈ Pipeline.ucRefs τ sig, s.mem ((c.tc : Thread nD τ).1, b) = W4 m c b)
    (hfin := fun c s' => ?_) (hQ := fun _ h hz => ⟨h, funext fun g => hz g (.inr (regions_no_unscoped g.2))⟩)
  · rintro ⟨⟨d, p⟩, s⟩ h
    cases p <;> first | exact absurd rfl h | rfl
  · iintro Hu; imodintro
    isplitl [Hu]
    · iapply (show (ownU _ : sProp 𝕄) ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  · exact R0_pre m c
  · exact (R0_post m c).trans (R1_pre m c)
  · exact (R1_post m c).trans (R2_pre m c)
  · refine (R2_post m c).trans ?_
    show iprop(StableHlo.held (c : Thread nD τ) (Pipeline.ucRefs τ sig) (W4 m c) ∗ E c) ⊢ _
    iintro ⟨Hh, HO, -⟩
    isplitl [Hh]; · iexact Hh
    iexact HO
  · refine Pipeline.initEach L lv fun c => ?_
    rw [show unscopedBufs c (fun b => m ((c.tc : Thread nD τ).loc b)) = StableHlo.held (c.tc : Thread nD τ) (Pipeline.ucRefs τ sig) (V0 m c)
      from Pipeline.unscopedBufs_held (Ix := Unit) (Name := ℕ) (U := UR sig nD τ) (Lvl := ℕ) c (V0 m c)]
    iintro ⟨⟨Hh, -, HO, -, Hp, -⟩, -⟩
    imodintro
    isplitl [Hh]; · iexact Hh
    isplitl [HO]; · iexists _; iexact HO
    isplitl [Hp]; · iexists _; iexact Hp
    iempintro
  · unfold StableHlo.held
    iintro ⟨Hh, HSI⟩
    ihave Hr := (pointsTo_read_all (Pipeline.ucRefs τ sig) (fun b => ((c.tc : Thread nD τ).1, b)) (W4 m c) s') $$ [Hh HSI]
    · isplitl [Hh] <;> iassumption
    imodintro; iexact Hr

/-! ## What the regions leave unchanged -/

/-- A buffer that is no output of a region and is written by no host operation ends as launched. -/
theorem W4_keeps (c : Dev nD) (r : Ref sig .tc) (h0 : r ∉ hostOps0_W)
    (h1 : ∀ w, Pipeline.arrRef spec0 w = r → (cfg0.win w).isOut = false)
    (h2 : ∀ w, Pipeline.arrRef spec1 w = r → (cfg1.win w).isOut = false)
    (h3 : ∀ w, Pipeline.arrRef spec2 w = r → (cfg2.win w).isOut = false) :
    W4 m c (Proc.devRef .tc r) = m ((c : Thread nD τ).loc r) :=
  (Pipeline.afterRegion_keeps (Out.dat (W3 m) c) (W3 m c) launch2.win.arr_inj (Out.A_eq (W3 m) c) r h3).trans <|
  (Pipeline.afterRegion_keeps (Scan.dat (W2 m) c) (W2 m c) launch1.win.arr_inj (Scan.A_eq (W2 m) c) r h2).trans <|
  (Pipeline.afterRegion_keeps (Front.dat (W1 m) c) (W1 m c) launch0.win.arr_inj (Front.A_eq (W1 m) c) r h1).trans <|
  V1_of m c r h0

/-- An unscoped reference is among the buffers the run speaks of. -/
theorem mem_uc (r : Ref sig .tc) (h : ¬ (Proc.devRef .tc r : DevRef τ sig).isScoped) : (Proc.devRef .tc r : DevRef τ sig) ∈ Pipeline.ucRefs τ sig :=
  Finset.mem_filter.mpr ⟨StableHlo.devRef_mem_tcRefs r, h⟩

/-- What the frame claims of one core: each argument array as launched. -/
abbrev Kept (c : Dev nD) (m m' : (ℓ : Loc nD τ sig) → Buf (Elt F) ℓ) : Prop :=
  m' ((c.tc : Thread nD τ).loc main_arg0) = m ((c.tc : Thread nD τ).loc main_arg0)
  ∧ m' ((c.tc : Thread nD τ).loc main_arg1) = m ((c.tc : Thread nD τ).loc main_arg1)
  ∧ m' ((c.tc : Thread nD τ).loc main_arg2) = m ((c.tc : Thread nD τ).loc main_arg2)
  ∧ m' ((c.tc : Thread nD τ).loc main_arg3) = m ((c.tc : Thread nD τ).loc main_arg3)
  ∧ m' ((c.tc : Thread nD τ).loc main_arg4) = m ((c.tc : Thread nD τ).loc main_arg4)
  ∧ m' ((c.tc : Thread nD τ).loc main_arg5) = m ((c.tc : Thread nD τ).loc main_arg5)
  ∧ m' ((c.tc : Thread nD τ).loc main_arg6) = m ((c.tc : Thread nD τ).loc main_arg6)
  ∧ m' ((c.tc : Thread nD τ).loc main_arg7) = m ((c.tc : Thread nD τ).loc main_arg7)
  ∧ m' ((c.tc : Thread nD τ).loc main_arg8) = m ((c.tc : Thread nD τ).loc main_arg8)
  ∧ m' ((c.tc : Thread nD τ).loc main_arg9) = m ((c.tc : Thread nD τ).loc main_arg9)

/-- Where every unscoped buffer ends at `W4`, the arguments end as launched. -/
theorem kept_of (c : Dev nD) (m' : (ℓ : Loc nD τ sig) → Buf (Elt F) ℓ)
    (h : ∀ b ∈ Pipeline.ucRefs τ sig, m' ((c.tc : Thread nD τ).1, b) = W4 m c b) : Kept c m m' := by
  have key : ∀ r : Ref sig .tc, r ∈ [main_arg0, main_arg1, main_arg2, main_arg3, main_arg4, main_arg5, main_arg6, main_arg7, main_arg8, main_arg9] →
      m' ((c.tc : Thread nD τ).loc r) = m ((c.tc : Thread nD τ).loc r) := fun r hr =>
    (h (Proc.devRef .tc r) (mem_uc r (by revert r; decide))).trans
      (W4_keeps m c r (by revert r; decide) (by revert r; decide) (by revert r; decide) (by revert r; decide))
  exact ⟨key _ (by decide), key _ (by decide), key _ (by decide), key _ (by decide), key _ (by decide), key _ (by decide),
    key _ (by decide), key _ (by decide), key _ (by decide), key _ (by decide)⟩

/-- The frame at any float type: the program ends, its arguments are as launched, every counter is at zero. -/
theorem frame (ρ : Dev nD → PrngReg) :
    θ_run defs (onTc (τ := τ) (main (F := F))) ⟨m, fun _ => 0, ρ⟩ (fun r =>
      (∀ c : Dev nD, Kept c m r.2.mem) ∧ r.2.sem = fun _ => 0) :=
  (θ_run defs _ _).mono (fun r h => ⟨fun c => kept_of m c r.2.mem (h.1 c), h.2⟩) (run m ρ)

end Cert.KernelIdeal.Whole

end
-- ==== Proof.Bits.lean ====
/- The printed program and the one with named constants are one program at bit patterns: a named constant read as its
   bits is the constant it replaced. The frame of the first is therefore the frame of the second. -/
module

public import proofs.«01_k».proof.Kernel
public import proofs.«01_k».proof.Defs
public import proofs.«01_k».proof.Proof.Whole
public import proofs.«01_k».proof.Proof.Gen.Kernel
public import Idealize.ShloMosaic.Lib.Tactic
public import Idealize.ShloMosaic.Lib.Claim

@[expose] public section

set_option maxRecDepth 16384

noncomputable section

namespace Cert.Proof

open Idealize.ShloMosaic Idealize.ShloMosaic.Tactic Idealize.ShloMosaic.TcCoe
open Idealize.SL Idealize.SL.RA Idealize.SL.BI Idealize.SL.Sem

/-- At bit patterns a named constant is the bits it was printed with. -/
@[reducible] def litNamed : Named Bits := ⟨fun _ _ {φ} bits => Scalar.ofBits φ bits⟩

attribute [local instance] litNamed

set_option maxHeartbeats 4000000 in
/-- The frame of the program with named constants, each read as its bits, is the printed program's frame. -/
theorem frame_eq : (∀ (m : (ℓ : Loc Cert.KernelIdeal.nD Cert.KernelIdeal.τ Cert.KernelIdeal.sig) → Buf (Elt Bits) ℓ)
      (g : Dev Cert.KernelIdeal.nD → PrngReg), True →
    θ_run (Cert.KernelIdeal.defs (F := Bits)) (onTc (τ := Cert.KernelIdeal.τ) (Cert.KernelIdeal.main (F := Bits))) ⟨m, fun _ => 0, g⟩
      (fun r => (∀ c : Dev Cert.KernelIdeal.nD, Cert.KernelIdeal.Whole.Kept c m r.2.mem) ∧ r.2.sem = fun _ => 0))
    = Cert.quiescent_Kernel (hKernel := Cert.Kernel.Gen.facts) := by sl_kernel_rfl

/-- The printed program ends, keeps its arguments, and leaves every counter at zero. -/
theorem quiescent_kernel : Cert.quiescent_Kernel (hKernel := Cert.Kernel.Gen.facts) :=
  cast frame_eq fun m g _ => Cert.KernelIdeal.Whole.frame m g

end Cert.Proof

end
-- ==== Proof.RefFrame.lean ====
/- The reference program: every argument ends as launched, and every counter is at zero. -/
module

public import proofs.«01_k».proof.Proof.Gen.ReferenceIdeal.Run
public import Idealize.ShloMosaic.Lib.Quiescent

@[expose] public section

set_option maxRecDepth 16384

noncomputable section

namespace Cert.ReferenceIdeal.Fold

open Idealize.ShloMosaic Idealize.ShloMosaic.TcCoe Idealize.ShloMosaic.StableHlo
open Idealize.SL Idealize.SL.RA Idealize.SL.BI Idealize.SL.Sem
open Cert.ReferenceIdeal.Gen Cert.ReferenceIdeal.Value

variable {F : FTy → Type} [FloatOps F]
variable (m : (ℓ : Loc nD τ sig) → Buf (Elt F) ℓ) (ρ : Dev nD → PrngReg)

/-- What a run before the loop writes. -/
abbrev preW : List (Ref sig .tc) := hostOps0_W ++ (hostOps0_1_W ++ (hostOps0_2_W ++ (hostOps0_3_W ++ hostOps0_4_W)))
/-- What one trip of the loop writes, the condition's operations included. -/
abbrev tripW : List (Ref sig .tc) :=
  condOps_W ++ (while0Ops0_W ++ (while0Ops0_1_W ++ (while0Ops0_2_W ++ (while0Ops0_3_W ++ (while0Ops0_4_W ++ (while0Ops0_5_W ++ while0Ops0_6_W))))))
/-- What the operations after the loop write. -/
abbrev postW : List (Ref sig .tc) := [main_v61, main_v62, main_v63, main_v64, main_v65, main_v66, main_v67, main_cst_5, main_v68, main_v69,
  main_cst_6, main_v70, main_v71, main_v72, main_v73, main_v74]

/-- What the operations after the loop write. -/
theorem hostOps0_5_writes : (hostOps0_5 : List (HloOp τ sig (Elt F))).Forall fun op => op.writes ⊆ (postW.map (Proc.devRef (τ := τ) .tc)).toFinset :=
  StableHlo.forall_writes_sub_of_map rfl

/-- A buffer nothing before the loop writes enters the loop as launched. -/
theorem entry_keeps (c : Dev nD) (r : Ref sig .tc) (h : r ∉ preW) :
    entryContents preI m c (Proc.devRef .tc r) = m ((c.tc : Thread nD τ).loc r) := by
  simp only [preW, List.mem_append, not_or] at h
  obtain ⟨h0, h1, h2, h3, h4⟩ := h
  simp only [entryContents, preI, afterL_cons, afterL_nil]
  rw [after_of_writes_sub hostOps0_4 _ hostOps0_4_writes h4, after_of_writes_sub hostOps0_3 _ hostOps0_3_writes h3,
    after_of_writes_sub hostOps0_2 _ hostOps0_2_writes h2, after_of_writes_sub hostOps0_1 _ hostOps0_1_writes h1,
    after_of_writes_sub hostOps0 _ hostOps0_writes h0]

/-- A buffer no trip writes is before any condition as it entered the loop. -/
theorem atK_keeps (c : Dev nD) (r : Ref sig .tc) (h : r ∉ tripW) : ∀ k,
    atK m k c (Proc.devRef .tc r) = entryContents preI m c (Proc.devRef .tc r)
  | 0 => rfl
  | k + 1 => by
    have h' := h
    simp only [tripW, List.mem_append, not_or] at h'
    obtain ⟨hc, h0, h1, h2, h3, h4, h5, h6⟩ := h'
    rw [show atK m (k + 1) c = afterL bodyI (after condOps (atK m k c)) from rfl]
    simp only [bodyI, afterL_cons, afterL_nil]
    rw [after_of_writes_sub while0Ops0_6 _ while0Ops0_6_writes h6, after_of_writes_sub while0Ops0_5 _ while0Ops0_5_writes h5,
      after_of_writes_sub while0Ops0_4 _ while0Ops0_4_writes h4, after_of_writes_sub while0Ops0_3 _ while0Ops0_3_writes h3,
      after_of_writes_sub while0Ops0_2 _ while0Ops0_2_writes h2, after_of_writes_sub while0Ops0_1 _ while0Ops0_1_writes h1,
      after_of_writes_sub while0Ops0 _ while0Ops0_writes h0, after_of_writes_sub condOps _ condOps_writes hc, atK_keeps c r h k]
    rfl

/-- Every buffer as the loop leaves it. -/
abbrev exit (c : Dev nD) : Valuation τ sig (Elt F) := after condOps (atK m 2048 c)

/-- A buffer no trip writes leaves the loop as it entered. -/
theorem exit_keeps (c : Dev nD) (r : Ref sig .tc) (h : r ∉ tripW) :
    exit m c (Proc.devRef .tc r) = entryContents preI m c (Proc.devRef .tc r) := by
  have h' := h
  simp only [tripW, List.mem_append, not_or] at h'
  rw [exit, after_of_writes_sub condOps _ condOps_writes h'.1, atK_keeps m c r h]

/-- A buffer the program does not write ends as launched. -/
theorem final_keeps (c : Dev nD) (r : Ref sig .tc) (h0 : r ∉ preW) (h1 : r ∉ tripW) (h2 : r ∉ postW) :
    finalContents condOps preI bodyI postI 2048 m c (Proc.devRef .tc r) = m ((c.tc : Thread nD τ).loc r) := by
  show afterL postI (exit m c) _ = _
  simp only [postI, afterL_cons, afterL_nil]
  rw [after_of_writes_sub hostOps0_5 _ hostOps0_5_writes h2, exit_keeps m c r h1, entry_keeps m c r h0]

/-- What the frame claims of one core: each argument array as launched. -/
abbrev Kept (c : Dev nD) (m m' : (ℓ : Loc nD τ sig) → Buf (Elt F) ℓ) : Prop :=
  m' ((c.tc : Thread nD τ).loc main_arg0) = m ((c.tc : Thread nD τ).loc main_arg0)
  ∧ m' ((c.tc : Thread nD τ).loc main_arg1) = m ((c.tc : Thread nD τ).loc main_arg1)
  ∧ m' ((c.tc : Thread nD τ).loc main_arg2) = m ((c.tc : Thread nD τ).loc main_arg2)
  ∧ m' ((c.tc : Thread nD τ).loc main_arg3) = m ((c.tc : Thread nD τ).loc main_arg3)
  ∧ m' ((c.tc : Thread nD τ).loc main_arg4) = m ((c.tc : Thread nD τ).loc main_arg4)
  ∧ m' ((c.tc : Thread nD τ).loc main_arg5) = m ((c.tc : Thread nD τ).loc main_arg5)
  ∧ m' ((c.tc : Thread nD τ).loc main_arg6) = m ((c.tc : Thread nD τ).loc main_arg6)
  ∧ m' ((c.tc : Thread nD τ).loc main_arg7) = m ((c.tc : Thread nD τ).loc main_arg7)
  ∧ m' ((c.tc : Thread nD τ).loc main_arg8) = m ((c.tc : Thread nD τ).loc main_arg8)
  ∧ m' ((c.tc : Thread nD τ).loc main_arg9) = m ((c.tc : Thread nD τ).loc main_arg9)

/-- Where every unscoped buffer ends at the fold, the arguments end as launched. -/
theorem kept_of (c : Dev nD) (m' : (ℓ : Loc nD τ sig) → Buf (Elt F) ℓ)
    (h : ∀ b : Ref sig .tc, (Proc.devRef .tc b : DevRef τ sig).isScoped = false →
      m' ((c.tc : Thread nD τ).loc b) = finalContents condOps preI bodyI postI 2048 m c (Proc.devRef .tc b)) : Kept c m m' := by
  have key : ∀ r : Ref sig .tc, r ∈ [main_arg0, main_arg1, main_arg2, main_arg3, main_arg4, main_arg5, main_arg6, main_arg7, main_arg8, main_arg9] →
      m' ((c.tc : Thread nD τ).loc r) = m ((c.tc : Thread nD τ).loc r) := fun r hr =>
    (h r (by revert r; decide)).trans
      (final_keeps m c r (by revert r; decide +kernel) (by revert r; decide +kernel) (by revert r; decide +kernel))
  exact ⟨key _ (by decide), key _ (by decide), key _ (by decide), key _ (by decide), key _ (by decide), key _ (by decide),
    key _ (by decide), key _ (by decide), key _ (by decide), key _ (by decide)⟩

/-- The reference's frame: it ends, its arguments are as launched, every counter is at zero. -/
theorem frame : θ_run (defs (F := F)) (onTc (τ := τ) (main (F := F))) ⟨m, fun _ => 0, ρ⟩ (fun r =>
    (∀ c : Dev nD, Kept c m r.2.mem) ∧ r.2.sem = fun _ => 0) :=
  (θ_run defs _ _).mono (fun r h => ⟨fun c => kept_of m c r.2.mem (h c), sem_eq_zero_of_no_sems rfl r.2⟩) (run_fold m ρ)

end Cert.ReferenceIdeal.Fold

end
-- ==== Proof.FrontSteps.lean ====
/- The front's run: its stores as five values over the input blocks and the carried rows. -/
module

public import proofs.«01_k».proof.Proof.Front
public import Idealize.ShloMosaic.Lib.Pipeline.ValueKit
public import Idealize.ShloMosaic.Lib.Pointwise

@[expose] public section

set_option maxRecDepth 16384

noncomputable section

namespace Cert.KernelIdeal.Front

open Cert.KernelIdeal Cert.KernelIdeal.Gen
open Idealize.ShloMosaic Idealize.ShloMosaic.TcCoe Idealize.ShloMosaic.Tactic
open Idealize.SL Idealize.SL.RA

variable {F : FTy → Type} [FloatOps F] [Named F]

/-- Reading covered pieces back through a view is reading their contents. -/
theorem readCov_ld {sp : Space} {s : Shape} {e : EltTy} {Val : EltTy → Type} [∀ e, Nonempty (Val e)] (v : View sig .tc sp s e)
    (L : List (View.Piece Val s e)) (r : Rect s) : v.readCov L r.toLoadRect = View.ld (View.canon L) r :=
  View.readCov_eq_canon' v L r.toLoadRect

/-- The zero offsets of a matrix. -/
theorem zero2 : ∀ a : Fin 2, (![0, 0] : Fin 2 → Nat) a = 0 := by decide

/-- The zero offsets of a stack. -/
theorem zero3 : ∀ a : Fin 3, (![0, 0, 0] : Fin 3 → Nat) a = 0 := by decide

/-- The activated channels of a block: four rows of taps `w0 … w3`, a bias `b`, the rows `h0` carried in. -/
def bU (x0 : Vec F S1x512x1024 .f32) (x1 : Vec F S1024x2048 .f32) (w0 w1 w2 w3 b : Vec F S1x2048 .f32) (h0 : Vec F S8x2048 .f32) :
    FVec F S512x2048 .f32 :=
  k0_pay7 (k0_pay3 x0 x1 h0) (k0_pay5 x0 x1 h0 b w0 w1) (k0_pay6 x0 x1 h0 w2) w3

/-- Their projection. -/
def bX (x0 : Vec F S1x512x1024 .f32) (x1 : Vec F S1024x2048 .f32) (x2 : Vec F S2048x96 .f32) (w0 w1 w2 w3 b : Vec F S1x2048 .f32)
    (h0 : Vec F S8x2048 .f32) : FVec F S512x96 .f32 :=
  k0_pay8 (k0_pay3 x0 x1 h0) (k0_pay5 x0 x1 h0 b w0 w1) (k0_pay6 x0 x1 h0 w2) w3 x2

/-- The step sizes. -/
def bT (x0 : Vec F S1x512x1024 .f32) (x1 : Vec F S1024x2048 .f32) (x2 : Vec F S2048x96 .f32) (x3 : Vec F S64x2048 .f32)
    (w0 w1 w2 w3 b bd : Vec F S1x2048 .f32) (h0 : Vec F S8x2048 .f32) : FVec F S512x2048 .f32 :=
  k0_pay9 (k0_pay3 x0 x1 h0) (k0_pay5 x0 x1 h0 b w0 w1) (k0_pay6 x0 x1 h0 w2) w3 x2 x3 bd

/-- The input map, transposed. -/
def bB (x0 : Vec F S1x512x1024 .f32) (x1 : Vec F S1024x2048 .f32) (x2 : Vec F S2048x96 .f32) (w0 w1 w2 w3 b : Vec F S1x2048 .f32)
    (h0 : Vec F S8x2048 .f32) : FVec F S16x512 .f32 :=
  k0_pay10 (k0_pay3 x0 x1 h0) (k0_pay5 x0 x1 h0 b w0 w1) (k0_pay6 x0 x1 h0 w2) w3 x2

/-- Row `k` of the taps. -/
def wrow (x4 : Vec F S4x2048 .f32) : Fin 4 → Vec F S1x2048 .f32
  | 0 => View.ld x4 (Rect.unit (s := S4x2048) ![0, 0] S1x2048.size inb_S4x2048_S1x2048_0_0)
  | 1 => View.ld x4 (Rect.unit (s := S4x2048) ![1, 0] S1x2048.size inb_S4x2048_S1x2048_1_0)
  | 2 => View.ld x4 (Rect.unit (s := S4x2048) ![2, 0] S1x2048.size inb_S4x2048_S1x2048_2_0)
  | 3 => View.ld x4 (Rect.unit (s := S4x2048) ![3, 0] S1x2048.size inb_S4x2048_S1x2048_3_0)

/-- What a point leaves in its four output blocks and in the carried rows. -/
def blk (x0 : Vec F S1x512x1024 .f32) (x1 : Vec F S1024x2048 .f32) (x2 : Vec F S2048x96 .f32) (x3 : Vec F S64x2048 .f32)
    (x4 : Vec F S4x2048 .f32) (x5 x6 : Vec F S1x2048 .f32) (h0 : Vec F S8x2048 .f32) :
    Vec F S512x2048 .f32 × Vec F S512x2048 .f32 × Vec F S16x512 .f32 × Vec F S16x512 .f32 × Vec F S8x2048 .f32 :=
  (bU x0 x1 (wrow x4 0) (wrow x4 1) (wrow x4 2) (wrow x4 3) x5 h0, bT x0 x1 x2 x3 (wrow x4 0) (wrow x4 1) (wrow x4 2) (wrow x4 3) x5 x6 h0,
    bB x0 x1 x2 (wrow x4 0) (wrow x4 1) (wrow x4 2) (wrow x4 3) x5 h0, k0_pay1 (bX x0 x1 x2 (wrow x4 0) (wrow x4 1) (wrow x4 2) (wrow x4 3) x5 h0),
    k0_pay4 x0 x1 h0)

/-- The loads' and stores' rectangles: whole blocks, and one row of the taps. -/
abbrev rX : Rect S1x512x1024 := Rect.unit ![0, 0, 0] S1x512x1024.size inb_S1x512x1024_S1x512x1024_0_0_0
@[inherit_doc rX] abbrev rWu : Rect S1024x2048 := Rect.unit ![0, 0] S1024x2048.size inb_S1024x2048_S1024x2048_0_0
@[inherit_doc rX] abbrev rWx : Rect S2048x96 := Rect.unit ![0, 0] S2048x96.size inb_S2048x96_S2048x96_0_0
@[inherit_doc rX] abbrev rWd : Rect S64x2048 := Rect.unit ![0, 0] S64x2048.size inb_S64x2048_S64x2048_0_0
@[inherit_doc rX] abbrev rT0 : Rect S4x2048 := Rect.unit ![0, 0] S1x2048.size inb_S4x2048_S1x2048_0_0
@[inherit_doc rX] abbrev rT1 : Rect S4x2048 := Rect.unit ![1, 0] S1x2048.size inb_S4x2048_S1x2048_1_0
@[inherit_doc rX] abbrev rT2 : Rect S4x2048 := Rect.unit ![2, 0] S1x2048.size inb_S4x2048_S1x2048_2_0
@[inherit_doc rX] abbrev rT3 : Rect S4x2048 := Rect.unit ![3, 0] S1x2048.size inb_S4x2048_S1x2048_3_0
@[inherit_doc rX] abbrev rRow : Rect S1x2048 := Rect.unit ![0, 0] S1x2048.size inb_S1x2048_S1x2048_0_0
@[inherit_doc rX] abbrev rU : Rect S512x2048 := Rect.unit ![0, 0] S512x2048.size inb_S512x2048_S512x2048_0_0
@[inherit_doc rX] abbrev rB : Rect S16x512 := Rect.unit ![0, 0] S16x512.size inb_S16x512_S16x512_0_0
@[inherit_doc rX] abbrev rS : Rect S8x2048 := Rect.unit ![0, 0] S8x2048.size inb_S8x2048_S8x2048_0_0

/-- What a load of `r` reads from a buffer that holds `x`. -/
abbrev got {s : Shape} (v : Memref sig .tc .vmem s .f32) (h : v.IsWhole) (x : Vec F s .f32) (r : Rect s) :=
  View.readAt (Elt F) v.view r.toLoadRect (h.unread x)

/-- What a load of the carried rows reads after they were zeroed. -/
abbrev gotZero (v : Memref sig .tc .vmem S8x2048 .f32) := v.view.readCov (Val := Elt F) [⟨rS, k0_pay2⟩] rS.toLoadRect

/-- Over junk, stores whose last one fills the block leave that store's value. -/
theorem leaves {sp : Space} {s : Shape} (v : View sig .tc sp s .f32) {off : Fin s.rank → Nat} {inb : ∀ a, off a + s.size a ≤ s.size a}
    {w : s.Idx → Elt F .f32} {L L' : List (View.Piece (Elt F) s .f32)} (e : L = ⟨Rect.unit off s.size inb, w⟩ :: L') (h : ∀ a, off a = 0) :
    v.read (Elt F) (v.writes (Elt F) v.junk L) = w := by
  rw [View.read_writes_junk_eq_canon, e]; exact View.canon_cons_unit_lit inb w L' h

variable (c : Dev nD) (i : grid0.Coords)
  (arg2 : Memref sig .tc .vmem S1x512x1024 .f32) (harg2 : arg2.IsWhole) (arg3 : Memref sig .tc .vmem S1024x2048 .f32) (harg3 : arg3.IsWhole)
  (arg4 : Memref sig .tc .vmem S2048x96 .f32) (harg4 : arg4.IsWhole) (arg5 : Memref sig .tc .vmem S64x2048 .f32) (harg5 : arg5.IsWhole)
  (arg6 : Memref sig .tc .vmem S4x2048 .f32) (harg6 : arg6.IsWhole) (arg7 : Memref sig .tc .vmem S1x2048 .f32) (harg7 : arg7.IsWhole)
  (arg8 : Memref sig .tc .vmem S1x2048 .f32) (harg8 : arg8.IsWhole) (arg9 : Memref sig .tc .vmem S512x2048 .f32) (harg9 : arg9.IsWhole)
  (arg10 : Memref sig .tc .vmem S512x2048 .f32) (harg10 : arg10.IsWhole) (arg11 : Memref sig .tc .vmem S16x512 .f32) (harg11 : arg11.IsWhole)
  (arg12 : Memref sig .tc .vmem S16x512 .f32) (harg12 : arg12.IsWhole) (arg13 : Memref sig .tc .vmem S8x2048 .f32) (harg13 : arg13.IsWhole)
  (x0 : Vec F S1x512x1024 .f32) (x1 : Vec F S1024x2048 .f32) (x2 : Vec F S2048x96 .f32) (x3 : Vec F S64x2048 .f32)
  (x4 : Vec F S4x2048 .f32) (x5 x6 : Vec F S1x2048 .f32)

/-- The five values a point stores, over what it loads: `h0` is what it loads of the carried rows. -/
abbrev loaded (h0 : Vec F S8x2048 .f32) :
    Vec F S512x2048 .f32 × Vec F S512x2048 .f32 × Vec F S16x512 .f32 × Vec F S16x512 .f32 × Vec F S8x2048 .f32 :=
  (bU (got arg2 harg2 x0 rX) (got arg3 harg3 x1 rWu) (got arg6 harg6 x4 rT0) (got arg6 harg6 x4 rT1) (got arg6 harg6 x4 rT2)
      (got arg6 harg6 x4 rT3) (got arg7 harg7 x5 rRow) h0,
    bT (got arg2 harg2 x0 rX) (got arg3 harg3 x1 rWu) (got arg4 harg4 x2 rWx) (got arg5 harg5 x3 rWd) (got arg6 harg6 x4 rT0)
      (got arg6 harg6 x4 rT1) (got arg6 harg6 x4 rT2) (got arg6 harg6 x4 rT3) (got arg7 harg7 x5 rRow) (got arg8 harg8 x6 rRow) h0,
    bB (got arg2 harg2 x0 rX) (got arg3 harg3 x1 rWu) (got arg4 harg4 x2 rWx) (got arg6 harg6 x4 rT0) (got arg6 harg6 x4 rT1)
      (got arg6 harg6 x4 rT2) (got arg6 harg6 x4 rT3) (got arg7 harg7 x5 rRow) h0,
    k0_pay1 (bX (got arg2 harg2 x0 rX) (got arg3 harg3 x1 rWu) (got arg4 harg4 x2 rWx) (got arg6 harg6 x4 rT0) (got arg6 harg6 x4 rT1)
      (got arg6 harg6 x4 rT2) (got arg6 harg6 x4 rT3) (got arg7 harg7 x5 rRow) h0),
    k0_pay4 (got arg2 harg2 x0 rX) (got arg3 harg3 x1 rWu) h0)

/-- What is loaded are the blocks themselves, so the five values are the block's. -/
theorem loaded_eq (h0 : Vec F S8x2048 .f32) :
    loaded arg2 harg2 arg3 harg3 arg4 harg4 arg5 harg5 arg6 harg6 arg7 harg7 arg8 harg8 x0 x1 x2 x3 x4 x5 x6 h0 = blk x0 x1 x2 x3 x4 x5 x6 h0 := by
  simp only [loaded, blk, wrow, got, View.readAt_eq_ld, Memref.IsWhole.read_unread, View.ld_unit_lit (S := S1x512x1024) _ _ zero3,
    View.ld_unit_lit (S := S1024x2048) _ _ zero2, View.ld_unit_lit (S := S2048x96) _ _ zero2, View.ld_unit_lit (S := S64x2048) _ _ zero2,
    View.ld_unit_lit (S := S1x2048) _ _ zero2]

/-- A first point of a batch stores the five values, having zeroed the carried rows. -/
theorem pieces_A (hc0 : cond0_0 i) :
    let run := kernelRun0_A c i arg2 harg2 arg3 harg3 arg4 harg4 arg5 harg5 arg6 harg6 arg7 harg7 arg8 harg8 arg9 harg9 arg10 harg10 arg11 harg11
      arg12 harg12 arg13 harg13 hc0 x0 x1 x2 x3 x4 x5 x6
    let val := loaded arg2 harg2 arg3 harg3 arg4 harg4 arg5 harg5 arg6 harg6 arg7 harg7 arg8 harg8 x0 x1 x2 x3 x4 x5 x6 (gotZero arg13)
    run.1 = [⟨rU, val.1⟩] ∧ run.2.1 = [⟨rU, val.2.1⟩] ∧ run.2.2.1 = [⟨rB, val.2.2.1⟩] ∧ run.2.2.2.1 = [⟨rB, val.2.2.2.1⟩]
      ∧ run.2.2.2.2.1 = [⟨rS, val.2.2.2.2⟩, ⟨rS, k0_pay2⟩] := by
  refine ⟨?_, ?_, ?_, ?_, ?_⟩ <;> sl_kernel_rfl

/-- A later point stores the five values over the carried rows. -/
theorem pieces_B (hc0 : ¬cond0_0 i) (xs0 : Vec F S8x2048 .f32) :
    let run := kernelRun0_B c i arg2 harg2 arg3 harg3 arg4 harg4 arg5 harg5 arg6 harg6 arg7 harg7 arg8 harg8 arg9 harg9 arg10 harg10 arg11 harg11
      arg12 harg12 arg13 harg13 hc0 x0 x1 x2 x3 x4 x5 x6 xs0
    let val := loaded arg2 harg2 arg3 harg3 arg4 harg4 arg5 harg5 arg6 harg6 arg7 harg7 arg8 harg8 x0 x1 x2 x3 x4 x5 x6 (got arg13 harg13 xs0 rS)
    run.1 = [⟨rU, val.1⟩] ∧ run.2.1 = [⟨rU, val.2.1⟩] ∧ run.2.2.1 = [⟨rB, val.2.2.1⟩] ∧ run.2.2.2.1 = [⟨rB, val.2.2.2.1⟩]
      ∧ run.2.2.2.2.1 = [⟨rS, val.2.2.2.2⟩] := by
  refine ⟨?_, ?_, ?_, ?_, ?_⟩ <;> sl_kernel_rfl

/-- A first point of a batch leaves the block's five values, over rows of zeros. -/
theorem outs_A (hc0 : cond0_0 i) :
    (out0_A_7 c i arg2 harg2 arg3 harg3 arg4 harg4 arg5 harg5 arg6 harg6 arg7 harg7 arg8 harg8 arg9 harg9 arg10 harg10 arg11 harg11 arg12 harg12 arg13 harg13 hc0 x0 x1 x2 x3 x4 x5 x6,
      out0_A_8 c i arg2 harg2 arg3 harg3 arg4 harg4 arg5 harg5 arg6 harg6 arg7 harg7 arg8 harg8 arg9 harg9 arg10 harg10 arg11 harg11 arg12 harg12 arg13 harg13 hc0 x0 x1 x2 x3 x4 x5 x6,
      out0_A_9 c i arg2 harg2 arg3 harg3 arg4 harg4 arg5 harg5 arg6 harg6 arg7 harg7 arg8 harg8 arg9 harg9 arg10 harg10 arg11 harg11 arg12 harg12 arg13 harg13 hc0 x0 x1 x2 x3 x4 x5 x6,
      out0_A_10 c i arg2 harg2 arg3 harg3 arg4 harg4 arg5 harg5 arg6 harg6 arg7 harg7 arg8 harg8 arg9 harg9 arg10 harg10 arg11 harg11 arg12 harg12 arg13 harg13 hc0 x0 x1 x2 x3 x4 x5 x6,
      sout0_A_0 c i arg2 harg2 arg3 harg3 arg4 harg4 arg5 harg5 arg6 harg6 arg7 harg7 arg8 harg8 arg9 harg9 arg10 harg10 arg11 harg11 arg12 harg12 arg13 harg13 hc0 x0 x1 x2 x3 x4 x5 x6)
      = blk x0 x1 x2 x3 x4 x5 x6 k0_pay2 := by
  have e := pieces_A c i arg2 harg2 arg3 harg3 arg4 harg4 arg5 harg5 arg6 harg6 arg7 harg7 arg8 harg8 arg9 harg9 arg10 harg10 arg11 harg11 arg12 harg12 arg13 harg13 x0 x1 x2 x3 x4 x5 x6 hc0
  have z : gotZero (F := F) arg13 = k0_pay2 := by
    simp only [gotZero, readCov_ld, View.canon_cons_unit_lit (S := S8x2048) _ _ _ zero2, View.ld_unit_lit (S := S8x2048) _ _ zero2]
  refine Eq.trans ?_ ((loaded_eq arg2 harg2 arg3 harg3 arg4 harg4 arg5 harg5 arg6 harg6 arg7 harg7 arg8 harg8 x0 x1 x2 x3 x4 x5 x6 _).trans
    (congrArg (blk x0 x1 x2 x3 x4 x5 x6) z))
  exact congrArg₂ Prod.mk (leaves _ e.1 zero2) (congrArg₂ Prod.mk (leaves _ e.2.1 zero2) (congrArg₂ Prod.mk (leaves _ e.2.2.1 zero2)
    (congrArg₂ Prod.mk (leaves _ e.2.2.2.1 zero2) (leaves _ e.2.2.2.2 zero2))))

/-- A later point leaves the block's five values, over the carried rows. -/
theorem outs_B (hc0 : ¬cond0_0 i) (xs0 : Vec F S8x2048 .f32) :
    (out0_B_7 c i arg2 harg2 arg3 harg3 arg4 harg4 arg5 harg5 arg6 harg6 arg7 harg7 arg8 harg8 arg9 harg9 arg10 harg10 arg11 harg11 arg12 harg12 arg13 harg13 hc0 x0 x1 x2 x3 x4 x5 x6 xs0,
      out0_B_8 c i arg2 harg2 arg3 harg3 arg4 harg4 arg5 harg5 arg6 harg6 arg7 harg7 arg8 harg8 arg9 harg9 arg10 harg10 arg11 harg11 arg12 harg12 arg13 harg13 hc0 x0 x1 x2 x3 x4 x5 x6 xs0,
      out0_B_9 c i arg2 harg2 arg3 harg3 arg4 harg4 arg5 harg5 arg6 harg6 arg7 harg7 arg8 harg8 arg9 harg9 arg10 harg10 arg11 harg11 arg12 harg12 arg13 harg13 hc0 x0 x1 x2 x3 x4 x5 x6 xs0,
      out0_B_10 c i arg2 harg2 arg3 harg3 arg4 harg4 arg5 harg5 arg6 harg6 arg7 harg7 arg8 harg8 arg9 harg9 arg10 harg10 arg11 harg11 arg12 harg12 arg13 harg13 hc0 x0 x1 x2 x3 x4 x5 x6 xs0,
      sout0_B_0 c i arg2 harg2 arg3 harg3 arg4 harg4 arg5 harg5 arg6 harg6 arg7 harg7 arg8 harg8 arg9 harg9 arg10 harg10 arg11 harg11 arg12 harg12 arg13 harg13 hc0 x0 x1 x2 x3 x4 x5 x6 xs0)
      = blk x0 x1 x2 x3 x4 x5 x6 xs0 := by
  have e := pieces_B c i arg2 harg2 arg3 harg3 arg4 harg4 arg5 harg5 arg6 harg6 arg7 harg7 arg8 harg8 arg9 harg9 arg10 harg10 arg11 harg11 arg12 harg12 arg13 harg13 x0 x1 x2 x3 x4 x5 x6 hc0 xs0
  have z : got arg13 harg13 xs0 rS = xs0 := by
    simp only [got, View.readAt_eq_ld, Memref.IsWhole.read_unread, View.ld_unit_lit (S := S8x2048) _ _ zero2]
  refine Eq.trans ?_ ((loaded_eq arg2 harg2 arg3 harg3 arg4 harg4 arg5 harg5 arg6 harg6 arg7 harg7 arg8 harg8 x0 x1 x2 x3 x4 x5 x6 _).trans
    (congrArg (blk x0 x1 x2 x3 x4 x5 x6) z))
  exact congrArg₂ Prod.mk (leaves _ e.1 zero2) (congrArg₂ Prod.mk (leaves _ e.2.1 zero2) (congrArg₂ Prod.mk (leaves _ e.2.2.1 zero2)
    (congrArg₂ Prod.mk (leaves _ e.2.2.2.1 zero2) (leaves _ e.2.2.2.2 zero2))))

end Cert.KernelIdeal.Front
-- ==== Proof.Spec.lean ====
/- The block's mathematics over the extended reals, element by element, and the scalar equations the two programs differ by. -/
module

public import Idealize.ShloMosaic.Lib.Pointwise
public import Mathlib.Analysis.SpecialFunctions.Log.Basic
public import Mathlib.Analysis.SpecialFunctions.Pow.Real
public import Mathlib.Tactic.FieldSimp
public import Mathlib.Tactic.Positivity

@[expose] public section

noncomputable section

namespace Cert.Spec

open Idealize.ShloMosaic

/-- The ten argument arrays. -/
structure Args where
  x : (⟨3, ![2, 2048, 1024]⟩ : Shape).Idx → EReal
  Win : (⟨2, ![1024, 4096]⟩ : Shape).Idx → EReal
  cw : (⟨2, ![2048, 4]⟩ : Shape).Idx → EReal
  cb : (⟨1, ![2048]⟩ : Shape).Idx → EReal
  Wx : (⟨2, ![2048, 96]⟩ : Shape).Idx → EReal
  Wdt : (⟨2, ![64, 2048]⟩ : Shape).Idx → EReal
  bdt : (⟨1, ![2048]⟩ : Shape).Idx → EReal
  Alog : (⟨2, ![2048, 16]⟩ : Shape).Idx → EReal
  D : (⟨1, ![2048]⟩ : Shape).Idx → EReal
  Wo : (⟨2, ![2048, 1024]⟩ : Shape).Idx → EReal

/-- `v` times the logistic function of `v`. -/
def silu (v : EReal) : EReal := Ideal.div v (1 + Ideal.exp (-v))

/-- The logarithm of `1 + eᵛ`. -/
def softplus (v : EReal) : EReal := Ideal.log (1 + Ideal.exp v)

variable (a : Args)

/-- The first half of the input projection. -/
def uraw (b : Fin 2) (l : Fin 2048) (d : Fin 2048) : EReal :=
  ∑ k : Fin 1024, a.x (ix3 b l k) * a.Win (ix2 k ⟨d.val, by omega⟩)

/-- The second half of the input projection: the gate. -/
def res (b : Fin 2) (l : Fin 2048) (d : Fin 2048) : EReal :=
  ∑ k : Fin 1024, a.x (ix3 b l k) * a.Win (ix2 k ⟨2048 + d.val, by omega⟩)

/-- Position `i` of the sequence with three zeros in front of it. -/
def tap (b : Fin 2) (i : ℕ) (d : Fin 2048) : EReal :=
  if h : 3 ≤ i ∧ i < 2051 then uraw a b ⟨i - 3, by omega⟩ d else 0

/-- The causal convolution of four taps per channel, with its bias. -/
def conv (b : Fin 2) (l : Fin 2048) (d : Fin 2048) : EReal :=
  tap a b l.val d * a.cw (ix2 d 0) + tap a b (l.val + 1) d * a.cw (ix2 d 1) + tap a b (l.val + 2) d * a.cw (ix2 d 2)
    + tap a b (l.val + 3) d * a.cw (ix2 d 3) + a.cb (ix1 d)

/-- The activated channels. -/
def u (b : Fin 2) (l : Fin 2048) (d : Fin 2048) : EReal := silu (conv a b l d)

/-- The projection to the step size's low rank, the input map and the output map. -/
def xd (b : Fin 2) (l : Fin 2048) (e : Fin 96) : EReal := ∑ d : Fin 2048, u a b l d * a.Wx (ix2 d e)

/-- The step size. -/
def dt (b : Fin 2) (l : Fin 2048) (d : Fin 2048) : EReal :=
  softplus (∑ r : Fin 64, xd a b l ⟨r.val, by omega⟩ * a.Wdt (ix2 r d) + a.bdt (ix1 d))

/-- The input map of the recurrence. -/
def Bm (b : Fin 2) (l : Fin 2048) (n : Fin 16) : EReal := xd a b l ⟨64 + n.val, by omega⟩

/-- The output map of the recurrence. -/
def Cm (b : Fin 2) (l : Fin 2048) (n : Fin 16) : EReal := xd a b l ⟨80 + n.val, by omega⟩

/-- The recurrence's rates. -/
def A (d : Fin 2048) (n : Fin 16) : EReal := -Ideal.exp (a.Alog (ix2 d n))

/-- The recurrence's state before position `k`. -/
def h (b : Fin 2) (d : Fin 2048) (n : Fin 16) : ℕ → EReal
  | 0 => 0
  | k + 1 => if hk : k < 2048 then
      Ideal.exp (dt a b ⟨k, hk⟩ d * A a d n) * h b d n k + dt a b ⟨k, hk⟩ d * Bm a b ⟨k, hk⟩ n * u a b ⟨k, hk⟩ d else 0

/-- What the recurrence reads out at position `l`. -/
def y (b : Fin 2) (l : Fin 2048) (d : Fin 2048) : EReal := ∑ n : Fin 16, h a b d n (l.val + 1) * Cm a b l n

/-- The block's result. -/
def out (b : Fin 2) (l : Fin 2048) (e : Fin 1024) : EReal :=
  ∑ d : Fin 2048, (y a b l d + u a b l d * a.D (ix1 d)) * silu (res a b l d) * a.Wo (ix2 d e)

/-! ## Scalar equations -/

/-- A power of two at a multiple of `1 / log 2` is a power of `e`. -/
theorem exp2_scaled (v : EReal) : Ideal.exp2 (v * (((Real.log 2)⁻¹ : ℝ) : EReal)) = Ideal.exp v := by
  have hl : 0 < (Real.log 2)⁻¹ := inv_pos.mpr (Real.log_pos (by norm_num))
  induction v using EReal.rec with
  | bot => rw [EReal.bot_mul_coe_of_pos hl]; rfl
  | top => rw [EReal.top_mul_coe_of_pos hl]; rfl
  | coe r =>
    rw [← EReal.coe_mul, Ideal.exp2_coe]
    show ((Real.rpow 2 _ : ℝ) : EReal) = ((Real.exp r : ℝ) : EReal)
    congr 1
    show (2 : ℝ) ^ (r * (Real.log 2)⁻¹) = _
    rw [Real.rpow_def_of_pos (by norm_num)]
    congr 1
    field_simp

/-- The same at the negated constant. -/
theorem exp2_neg_scaled (v : EReal) : Ideal.exp2 (v * ((-(Real.log 2)⁻¹ : ℝ) : EReal)) = Ideal.exp (-v) := by
  rw [← exp2_scaled, EReal.coe_neg, mul_neg, neg_mul]

/-- Multiplying by `1 / log 2` and then by `log 2` changes nothing. -/
theorem scale_unscale (v : EReal) : v * (((Real.log 2)⁻¹ : ℝ) : EReal) * ((Real.log 2 : ℝ) : EReal) = v := by
  rw [mul_assoc, ← EReal.coe_mul, inv_mul_cancel₀ (Real.log_pos (by norm_num)).ne', EReal.coe_one, mul_one]

/-- The exponential is not negative. -/
theorem exp_nonneg (v : EReal) : 0 ≤ Ideal.exp v := by
  induction v using EReal.rec with
  | bot => exact le_refl _
  | top => exact le_top
  | coe r => exact EReal.coe_nonneg.mpr (Real.exp_pos r).le

/-- One plus an exponential is not zero. -/
theorem one_add_exp_ne_zero (v : EReal) : 1 + Ideal.exp v ≠ 0 := by
  have h : (1 : EReal) ≤ 1 + Ideal.exp v := by simpa using add_le_add_right (exp_nonneg v) 1
  exact (lt_of_lt_of_le zero_lt_one h).ne'

/-- The product with the reciprocal is the quotient. -/
theorem mul_div_one (v : EReal) : v * Ideal.div 1 (1 + Ideal.exp (-v)) = silu v := by
  unfold silu Ideal.div
  rw [if_neg (one_add_exp_ne_zero _), if_neg (one_add_exp_ne_zero _), one_mul]

/-- At a real number `log(1 + exp r)` is the real one. -/
theorem log_one_add_exp_coe (r : ℝ) : Ideal.log (1 + Ideal.exp (r : EReal)) = ((Real.log (1 + Real.exp r) : ℝ) : EReal) := by
  show Ideal.log ((1 : EReal) + ((Real.exp r : ℝ) : EReal)) = _
  rw [← EReal.coe_one, ← EReal.coe_add]
  show (if (1 + Real.exp r : ℝ) ≤ 0 then (⊥ : EReal) else ((Real.log (1 + Real.exp r) : ℝ) : EReal)) = _
  rw [if_neg (not_le.mpr (add_pos one_pos (Real.exp_pos r)))]

/-- The stable form of the softplus is the plain one. -/
theorem softplus_stable (v : EReal) : max v 0 + Ideal.log1p (Ideal.exp (-(max v (-v)))) = softplus v := by
  have log_one : Ideal.log 1 = 0 := by
    have := log_one_add_exp_coe
    show (if (1 : ℝ) ≤ 0 then (⊥ : EReal) else ((Real.log 1 : ℝ) : EReal)) = 0
    rw [if_neg (by norm_num), Real.log_one]; rfl
  have exp_bot : Ideal.exp ⊥ = 0 := rfl
  have exp_top : Ideal.exp ⊤ = ⊤ := rfl
  have log_top : Ideal.log ⊤ = ⊤ := rfl
  unfold softplus Ideal.log1p
  induction v using EReal.rec with
  | bot => simp [exp_bot, log_one]
  | top =>
    have h1 : (1 : EReal) + ⊤ = ⊤ := EReal.add_top_of_ne_bot (EReal.coe_ne_bot 1)
    simp [exp_bot, exp_top, log_top, log_one, h1]
  | coe r =>
    rw [log_one_add_exp_coe]
    rcases le_total 0 r with h | h
    · rw [max_eq_left (EReal.coe_nonneg.mpr h), ← EReal.coe_neg,
        max_eq_left (EReal.coe_le_coe_iff.mpr (by linarith)), ← EReal.coe_neg, log_one_add_exp_coe, ← EReal.coe_add]
      congr 1
      have e : (1 + Real.exp r) = Real.exp r * (1 + Real.exp (-r)) := by
        rw [mul_add, ← Real.exp_add]; simp [add_comm]
      rw [e, Real.log_mul (Real.exp_pos r).ne' (by positivity), Real.log_exp]
    · rw [max_eq_right (EReal.coe_nonpos.mpr h), ← EReal.coe_neg,
        max_eq_right (EReal.coe_le_coe_iff.mpr (by linarith)), ← EReal.coe_neg, neg_neg, log_one_add_exp_coe, zero_add]

end Cert.Spec
-- ==== Proof.FrontValue.lean ====
/- The front's result arrays, element by element, over any entry contents that hold the arguments. -/
module

public import proofs.«01_k».proof.Proof.FrontSteps
public import proofs.«01_k».proof.Proof.Spec
public import Idealize.ShloMosaic.Lib.Pipeline.ValueKit
public import Idealize.ShloMosaic.Lib.Pointwise

@[expose] public section

set_option maxRecDepth 16384

noncomputable section

namespace Cert.KernelIdeal.Front

open Cert.KernelIdeal Cert.KernelIdeal.Gen
open Idealize.ShloMosaic Idealize.ShloMosaic.TcCoe Idealize.ShloMosaic.Tactic
open Idealize.SL Idealize.SL.RA

variable (W : Dev nD → Valuation τ sig (Elt Ideal)) (a : Spec.Args)

/-- The blocks' places at each point, by inspection of the points. -/
theorem idx : ∀ t : Fin cfg0.N,
    win0_0.index t = ![t.val / 4, t.val % 4, 0] ∧ win0_1.index t = ![0, 0] ∧ win0_2.index t = ![0, 0] ∧ win0_3.index t = ![0, 0]
      ∧ win0_4.index t = ![0, 0] ∧ win0_5.index t = ![0, 0] ∧ win0_6.index t = ![0, 0]
      ∧ win0_7.index t = ![t.val % 4, t.val / 4] ∧ win0_8.index t = ![t.val % 4, t.val / 4]
      ∧ win0_9.index t = ![t.val / 4, t.val % 4] ∧ win0_10.index t = ![t.val / 4, t.val % 4] :=
  (by decide +kernel : ∀ t : Fin grid0.N, _)

/-- The carried rows and the block's projection, one above the other. -/
theorem full_eq (x0 : Vec Ideal S1x512x1024 .f32) (x1 : Vec Ideal S1024x2048 .f32) (h0 : Vec Ideal S8x2048 .f32)
    (b : Fin 2) (j : ℕ) (hj : j < 4) (d : Fin 2048)
    (hx : ∀ (l : Fin 512) (k : Fin 1024), x0 (ix3 0 l k) = a.x (ix3 b ⟨512 * j + l.val, by omega⟩ k))
    (hw : ∀ k : Fin 1024, x1 (ix2 k d) = a.Win (ix2 k ⟨d.val, by omega⟩))
    (hh : ∀ r : Fin 8, 5 ≤ r.val → h0 (ix2 r d) = Spec.tap a b (512 * j + r.val - 5) d) (f : Fin 520) (hf : 5 ≤ f.val) :
    k0_pay3 x0 x1 h0 (ix2 f d) = Spec.tap a b (512 * j + f.val - 5) d := by
  pointwise [k0_pay3]
  by_cases h8 : f.val < 8
  · rw [dif_pos h8]
    exact hh ⟨f.val, h8⟩ hf
  · have hf' := f.isLt
    have e : (⟨f.val - 8 + 512 * j, by omega⟩ : Fin 2048) = ⟨512 * j + f.val - 5 - 3, by omega⟩ := Fin.ext (show f.val - 8 + 512 * j = 512 * j + f.val - 5 - 3 by omega)
    rw [dif_neg h8, Spec.tap, dif_pos (by omega), ← e, Spec.uraw]
    refine Finset.sum_congr rfl fun k _ => ?_
    rw [hx, hw]
    simp only [add_comm]

/-- What the blocks of a point are, beside the arguments: batch `b`, positions from `512 * j` on, the carried rows the
    three positions before. -/
structure At (b : Fin 2) (j : ℕ) (hj : j < 4) (x0 : Vec Ideal S1x512x1024 .f32) (x1 : Vec Ideal S1024x2048 .f32) (x2 : Vec Ideal S2048x96 .f32)
    (x3 : Vec Ideal S64x2048 .f32) (w0 w1 w2 w3 x5 x6 : Vec Ideal S1x2048 .f32) (h0 : Vec Ideal S8x2048 .f32) : Prop where
  x : ∀ (l : Fin 512) (k : Fin 1024), x0 (ix3 0 l k) = a.x (ix3 b ⟨512 * j + l.val, by omega⟩ k)
  win : ∀ (k : Fin 1024) (d : Fin 2048), x1 (ix2 k d) = a.Win (ix2 k ⟨d.val, by omega⟩)
  wx : ∀ (d : Fin 2048) (e : Fin 96), x2 (ix2 d e) = a.Wx (ix2 d e)
  wdt : ∀ (r : Fin 64) (d : Fin 2048), x3 (ix2 r d) = a.Wdt (ix2 r d)
  c0 : ∀ d : Fin 2048, w0 (ix2 0 d) = a.cw (ix2 d 0)
  c1 : ∀ d : Fin 2048, w1 (ix2 0 d) = a.cw (ix2 d 1)
  c2 : ∀ d : Fin 2048, w2 (ix2 0 d) = a.cw (ix2 d 2)
  c3 : ∀ d : Fin 2048, w3 (ix2 0 d) = a.cw (ix2 d 3)
  cb : ∀ d : Fin 2048, x5 (ix2 0 d) = a.cb (ix1 d)
  bdt : ∀ d : Fin 2048, x6 (ix2 0 d) = a.bdt (ix1 d)
  carry : ∀ (r : Fin 8) (d : Fin 2048), 5 ≤ r.val → h0 (ix2 r d) = Spec.tap a b (512 * j + r.val - 5) d

section Block
variable {a}
variable {b : Fin 2} {j : ℕ} {hj : j < 4} {x0 : Vec Ideal S1x512x1024 .f32} {x1 : Vec Ideal S1024x2048 .f32} {x2 : Vec Ideal S2048x96 .f32}
    {x3 : Vec Ideal S64x2048 .f32} {w0 w1 w2 w3 x5 x6 : Vec Ideal S1x2048 .f32} {h0 : Vec Ideal S8x2048 .f32}
    (H : At a b j hj x0 x1 x2 x3 w0 w1 w2 w3 x5 x6 h0)
include H

/-- The raw channels with the rows carried in before them. -/
theorem At.full (d : Fin 2048) (f : Fin 520) (hf : 5 ≤ f.val) : k0_pay3 x0 x1 h0 (ix2 f d) = Spec.tap a b (512 * j + f.val - 5) d :=
  full_eq a x0 x1 h0 b j hj d H.x (fun k => H.win k d) (fun r => H.carry r d) f hf

/-- The activated channels of a block are the block's mathematics at its positions. -/
theorem At.u (l : Fin 512) (d : Fin 2048) : bU x0 x1 w0 w1 w2 w3 x5 h0 (ix2 l d) = Spec.u a b ⟨512 * j + l.val, by omega⟩ d := by
  have hF := H.full d
  have hl := l.isLt
  have t0 : k0_pay3 x0 x1 h0 (ix2 (⟨5 + l.val, by omega⟩ : Fin 520) d) = Spec.tap a b (512 * j + l.val) d := by
    rw [hF _ (show 5 ≤ 5 + l.val by omega)]
    exact congrArg (Spec.tap a b · d) (show 512 * j + (5 + l.val) - 5 = 512 * j + l.val by omega)
  have t1 : k0_pay3 x0 x1 h0 (ix2 (⟨6 + l.val, by omega⟩ : Fin 520) d) = Spec.tap a b (512 * j + l.val + 1) d := by
    rw [hF _ (show 5 ≤ 6 + l.val by omega)]
    exact congrArg (Spec.tap a b · d) (show 512 * j + (6 + l.val) - 5 = 512 * j + l.val + 1 by omega)
  have t2 : k0_pay3 x0 x1 h0 (ix2 (⟨7 + l.val, by omega⟩ : Fin 520) d) = Spec.tap a b (512 * j + l.val + 2) d := by
    rw [hF _ (show 5 ≤ 7 + l.val by omega)]
    exact congrArg (Spec.tap a b · d) (show 512 * j + (7 + l.val) - 5 = 512 * j + l.val + 2 by omega)
  have t3 : k0_pay3 x0 x1 h0 (ix2 (⟨8 + l.val, by omega⟩ : Fin 520) d) = Spec.tap a b (512 * j + l.val + 3) d := by
    rw [hF _ (show 5 ≤ 8 + l.val by omega)]
    exact congrArg (Spec.tap a b · d) (show 512 * j + (8 + l.val) - 5 = 512 * j + l.val + 3 by omega)
  unfold bU
  pointwise [k0_pay7, k0_pay5, k0_pay6]
  rw [t0, t1, t2, t3, H.c0, H.c1, H.c2, H.c3, H.cb]
  have e : a.cb (ix1 d) + Spec.tap a b (512 * j + l.val) d * a.cw (ix2 d 0) + Spec.tap a b (512 * j + l.val + 1) d * a.cw (ix2 d 1)
      + Spec.tap a b (512 * j + l.val + 2) d * a.cw (ix2 d 2) + Spec.tap a b (512 * j + l.val + 3) d * a.cw (ix2 d 3)
      = Spec.conv a b ⟨512 * j + l.val, by omega⟩ d := by
    unfold Spec.conv
    have key : ∀ p q r s e : EReal, e + p + q + r + s = p + q + r + s + e := fun p q r s e => by ac_rfl
    exact key _ _ _ _ _
  rw [e, show (Named.named κ "neg_log2e" 0xBFB8AA3B#32 : Ideal .f32) = ((-(Real.log 2)⁻¹ : ℝ) : EReal) from rfl]
  unfold Spec.u Spec.silu
  rw [← Spec.exp2_neg_scaled]
  rfl

/-- So are their projections. -/
theorem At.xd (l : Fin 512) (e : Fin 96) : bX x0 x1 x2 w0 w1 w2 w3 x5 h0 (ix2 l e) = Spec.xd a b ⟨512 * j + l.val, by omega⟩ e := by
  have hu := H.u l
  unfold bU at hu
  unfold bX Spec.xd
  pointwise [k0_pay8]
  refine Finset.sum_congr rfl fun d _ => ?_
  rw [hu, H.wx]

/-- So are the step sizes. -/
theorem At.dt (l : Fin 512) (d : Fin 2048) :
    bT x0 x1 x2 x3 w0 w1 w2 w3 x5 x6 h0 (ix2 l d) = Spec.dt a b ⟨512 * j + l.val, by omega⟩ d := by
  have hx := H.xd l
  unfold bX at hx
  unfold bT Spec.dt Spec.softplus
  pointwise [k0_pay9]
  simp only [hx, H.wdt, H.bdt]
  rw [show (Named.named κ "log2e" 0x3FB8AA3B#32 : Ideal .f32) = (((Real.log 2)⁻¹ : ℝ) : EReal) from rfl]
  rw [← Spec.exp2_scaled]
  refine Eq.trans ?_ (Spec.scale_unscale _)
  rfl

/-- So is the input map, transposed. -/
theorem At.B (n : Fin 16) (l : Fin 512) : bB x0 x1 x2 w0 w1 w2 w3 x5 h0 (ix2 n l) = Spec.Bm a b ⟨512 * j + l.val, by omega⟩ n := by
  have hx := H.xd l
  unfold bX at hx
  unfold bB Spec.Bm
  pointwise [k0_pay10]
  exact hx _

/-- So is the output map, transposed. -/
theorem At.C (n : Fin 16) (l : Fin 512) :
    k0_pay1 (bX x0 x1 x2 w0 w1 w2 w3 x5 h0) (ix2 n l) = Spec.Cm a b ⟨512 * j + l.val, by omega⟩ n := by
  have hx := H.xd l
  unfold Spec.Cm
  pointwise [k0_pay1]
  exact hx _

/-- The rows carried out are the last ones of the block. -/
theorem At.next (r : Fin 8) (d : Fin 2048) : k0_pay4 x0 x1 h0 (ix2 r d) = Spec.tap a b (512 * (j + 1) + r.val - 5) d := by
  pointwise [k0_pay4]
  rw [H.full d _ (show 5 ≤ 512 + r.val by omega)]
  exact congrArg (Spec.tap a b · d) (show 512 * j + (512 + r.val) - 5 = 512 * (j + 1) + r.val - 5 by omega)

end Block

/-- Row `k` of the taps at an index. -/
theorem wrow_apply (x4 : Vec Ideal S4x2048 .f32) (k : Fin 4) (d : Fin 2048) : wrow x4 k (ix2 0 d) = x4 (ix2 k d) := by
  unfold wrow
  fin_cases k
  all_goals
    refine congrArg x4 (funext fun e => ?_)
    fin_cases e
    · rfl
    · exact Fin.ext (show 0 + 1 * d.val = d.val by omega)

/-- The entry contents hold the arguments. -/
structure Reads (c : Dev nD) : Prop where
  x : V W c main_arg0 = a.x
  win : V W c main_arg1 = a.Win
  wx : V W c main_arg4 = a.Wx
  wdt : V W c main_arg5 = a.Wdt
  cw : ∀ (k : Fin 4) (d : Fin 2048), V W c main_v0 (ix2 k d) = a.cw (ix2 d k)
  cb : ∀ d : Fin 2048, V W c main_v1 (ix2 (0 : Fin 1) d) = a.cb (ix1 d)
  bdt : ∀ d : Fin 2048, V W c main_v2 (ix2 (0 : Fin 1) d) = a.bdt (ix1 d)

/-- The batch of a point. -/
def batch (t : Fin cfg0.N) : Fin 2 := ⟨t.val / 4, by have h : t.val < 8 := t.isLt; omega⟩

variable {W a}

/-- A point's blocks are the arguments' there, given the rows carried in. -/
theorem at_point {c : Dev nD} (R : Reads W a c) (t : Fin cfg0.N) (h0 : Vec Ideal S8x2048 .f32)
    (hh : ∀ (r : Fin 8) (d : Fin 2048), 5 ≤ r.val → h0 (ix2 r d) = Spec.tap a (batch t) (512 * (t.val % 4) + r.val - 5) d) :
    At a (batch t) (t.val % 4) (by omega) (iblk W c 0 t) (iblk W c 1 t) (iblk W c 2 t) (iblk W c 3 t)
      (wrow (iblk W c 4 t) 0) (wrow (iblk W c 4 t) 1) (wrow (iblk W c 4 t) 2) (wrow (iblk W c 4 t) 3) (iblk W c 5 t) (iblk W c 6 t) h0 := by
  obtain ⟨e0, e1, e2, e3, e4, e5, e6, -⟩ := idx t
  have r4 : ∀ (k : Fin 4) (d : Fin 2048), iblk W c 4 t (ix2 k d) = V W c main_v0 (ix2 k d) := fun k d => by blk_ext [iblk, V, e4]
  have r5 : ∀ d : Fin 2048, iblk W c 5 t (ix2 (0 : Fin 1) d) = V W c main_v1 (ix2 (0 : Fin 1) d) := fun d => by blk_ext [iblk, V, e5]
  have r6 : ∀ d : Fin 2048, iblk W c 6 t (ix2 (0 : Fin 1) d) = V W c main_v2 (ix2 (0 : Fin 1) d) := fun d => by blk_ext [iblk, V, e6]
  refine ⟨fun l k => ?_, fun k d => ?_, fun d e => ?_, fun r d => ?_, fun d => ?_, fun d => ?_, fun d => ?_, fun d => ?_, fun d => ?_, fun d => ?_, hh⟩
  · rw [← R.x]; blk_ext [iblk, V, e0, batch]
  · rw [← R.win]; blk_ext [iblk, V, e1]
  · rw [← R.wx]; blk_ext [iblk, V, e2]
  · rw [← R.wdt]; blk_ext [iblk, V, e3]
  · rw [wrow_apply]; exact (r4 0 d).trans (R.cw 0 d)
  · rw [wrow_apply]; exact (r4 1 d).trans (R.cw 1 d)
  · rw [wrow_apply]; exact (r4 2 d).trans (R.cw 2 d)
  · rw [wrow_apply]; exact (r4 3 d).trans (R.cw 3 d)
  · exact (r5 d).trans (R.cb d)
  · exact (r6 d).trans (R.bdt d)

/-- Every point starts from the three positions before its block. -/
theorem point {c : Dev nD} (R : Reads W a c) (m : ℕ) (hm : m < cfg0.N) : ∃ h0 : FVec Ideal S8x2048 .f32,
    outsAt0 W c m hm = blk (iblk W c 0 ⟨m, hm⟩) (iblk W c 1 ⟨m, hm⟩) (iblk W c 2 ⟨m, hm⟩) (iblk W c 3 ⟨m, hm⟩) (iblk W c 4 ⟨m, hm⟩)
      (iblk W c 5 ⟨m, hm⟩) (iblk W c 6 ⟨m, hm⟩) h0
    ∧ ∀ (r : Fin 8) (d : Fin 2048), 5 ≤ r.val → h0 (ix2 r d) = Spec.tap a (batch ⟨m, hm⟩) (512 * (m % 4) + r.val - 5) d := by
  have first : ∀ (b : Fin 2) (r : Fin 8) (d : Fin 2048), k0_pay2 (F := Ideal) (ix2 r d) = Spec.tap a b (512 * 0 + r.val - 5) d := fun b r d => by
    rw [Spec.tap, dif_neg (by omega)]
    pointwise [k0_pay2]
    try rfl
  induction m with
  | zero =>
    refine ⟨k0_pay2 (F := Ideal), ?_, fun r d _ => first (batch ⟨0, hm⟩) r d⟩
    exact (outsAt0_A W c ⟨0, hm⟩ (Nat.zero_mod _)).trans (outs_A ..)
  | succ m ih =>
    by_cases h4 : (m + 1) % 4 = 0
    · refine ⟨k0_pay2 (F := Ideal), ?_, fun r d _ => by rw [h4]; exact first (batch ⟨m + 1, hm⟩) r d⟩
      exact (outsAt0_A W c ⟨m + 1, hm⟩ h4).trans (outs_A ..)
    · obtain ⟨h0, e, hst⟩ := ih (by omega)
      refine ⟨(outsAt0 W c m (by omega)).2.2.2.2, ?_, fun r d hr => ?_⟩
      · exact (outsAt0_B W c ⟨m + 1, hm⟩ h4).trans (outs_B ..)
      · rw [e]
        refine ((at_point R ⟨m, by omega⟩ h0 hst).next r d).trans ?_
        have e1 : batch ⟨m, by omega⟩ = batch ⟨m + 1, hm⟩ := Fin.ext (show m / 4 = (m + 1) / 4 by omega)
        show Spec.tap a _ (512 * (m % 4 + 1) + r.val - 5) d = _
        rw [e1, show m % 4 + 1 = (m + 1) % 4 by omega]

/-- The channel of column `q` of the arrays. -/
def ch (q : Fin 4096) : Fin 2048 := ⟨q.val % 2048, by omega⟩

/-- The batch of column `q`. -/
def ba (q : Fin 4096) : Fin 2 := ⟨q.val / 2048, by omega⟩

/-- The activated channels after the region. -/
theorem final_u {c : Dev nD} (R : Reads W a c) : (dat W c).arrAt 7 cfg0.N = fun i => Spec.u a (ba (i 1)) (i 0) (ch (i 1)) := by
  refine (dat W c).arrAt_eq_of_covers 7 _ (by decide +kernel) fun t hf y => ?_
  have e7 := (idx t).2.2.2.2.2.2.2.1
  have ht : t.val < 8 := t.isLt
  blk_simp
  rw [after0_7]
  idx_vars y
  have hi : ((View.whole main_v8_0).slice (win0_7.rect t)).emb (ix2 y0 y1)
      = (ix2 (⟨512 * (t.val % 4) + y0.val, by omega⟩ : Fin 2048) (⟨t.val / 4 * 2048 + y1.val, by omega⟩ : Fin 4096) : S2048x4096.Idx) := by
    blk_ext [e7]
  obtain ⟨h0, e, hst⟩ := point R t.val t.isLt
  rw [hi, e]
  refine ((at_point R t h0 hst).u y0 y1).trans ?_
  have e1 : batch t = ba ⟨t.val / 4 * 2048 + y1.val, by omega⟩ := Fin.ext (show t.val / 4 = (t.val / 4 * 2048 + y1.val) / 2048 by omega)
  have e2 : y1 = ch ⟨t.val / 4 * 2048 + y1.val, by omega⟩ := Fin.ext (show y1.val = (t.val / 4 * 2048 + y1.val) % 2048 by omega)
  rw [e1]
  exact congrArg (Spec.u a _ _) e2

/-- The step sizes after the region. -/
theorem final_dt {c : Dev nD} (R : Reads W a c) : (dat W c).arrAt 8 cfg0.N = fun i => Spec.dt a (ba (i 1)) (i 0) (ch (i 1)) := by
  refine (dat W c).arrAt_eq_of_covers 8 _ (by decide +kernel) fun t hf y => ?_
  have e8 := (idx t).2.2.2.2.2.2.2.2.1
  have ht : t.val < 8 := t.isLt
  blk_simp
  rw [after0_8]
  idx_vars y
  have hi : ((View.whole main_v8_1).slice (win0_8.rect t)).emb (ix2 y0 y1)
      = (ix2 (⟨512 * (t.val % 4) + y0.val, by omega⟩ : Fin 2048) (⟨t.val / 4 * 2048 + y1.val, by omega⟩ : Fin 4096) : S2048x4096.Idx) := by
    blk_ext [e8]
  obtain ⟨h0, e, hst⟩ := point R t.val t.isLt
  rw [hi, e]
  refine ((at_point R t h0 hst).dt y0 y1).trans ?_
  have e1 : batch t = ba ⟨t.val / 4 * 2048 + y1.val, by omega⟩ := Fin.ext (show t.val / 4 = (t.val / 4 * 2048 + y1.val) / 2048 by omega)
  have e2 : y1 = ch ⟨t.val / 4 * 2048 + y1.val, by omega⟩ := Fin.ext (show y1.val = (t.val / 4 * 2048 + y1.val) % 2048 by omega)
  rw [e1]
  exact congrArg (Spec.dt a _ _) e2

/-- The batch of row `p` of the transposed maps. -/
def bp (p : Fin 32) : Fin 2 := ⟨p.val / 16, by omega⟩

/-- The state index of row `p`. -/
def np (p : Fin 32) : Fin 16 := ⟨p.val % 16, by omega⟩

/-- The input maps after the region. -/
theorem final_B {c : Dev nD} (R : Reads W a c) : (dat W c).arrAt 9 cfg0.N = fun i => Spec.Bm a (bp (i 0)) (i 1) (np (i 0)) := by
  refine (dat W c).arrAt_eq_of_covers 9 _ (by decide +kernel) fun t hf y => ?_
  have e9 := (idx t).2.2.2.2.2.2.2.2.2.1
  have ht : t.val < 8 := t.isLt
  blk_simp
  rw [after0_9]
  idx_vars y
  have hi : ((View.whole main_v8_2).slice (win0_9.rect t)).emb (ix2 y0 y1)
      = (ix2 (⟨t.val / 4 * 16 + y0.val, by omega⟩ : Fin 32) (⟨512 * (t.val % 4) + y1.val, by omega⟩ : Fin 2048) : S32x2048.Idx) := by
    blk_ext [e9]
  obtain ⟨h0, e, hst⟩ := point R t.val t.isLt
  rw [hi, e]
  refine ((at_point R t h0 hst).B y0 y1).trans ?_
  have e1 : batch t = bp ⟨t.val / 4 * 16 + y0.val, by omega⟩ := Fin.ext (show t.val / 4 = (t.val / 4 * 16 + y0.val) / 16 by omega)
  have e2 : y0 = np ⟨t.val / 4 * 16 + y0.val, by omega⟩ := Fin.ext (show y0.val = (t.val / 4 * 16 + y0.val) % 16 by omega)
  rw [e1]
  exact congrArg (Spec.Bm a _ _) e2

/-- The output maps after the region. -/
theorem final_C {c : Dev nD} (R : Reads W a c) : (dat W c).arrAt 10 cfg0.N = fun i => Spec.Cm a (bp (i 0)) (i 1) (np (i 0)) := by
  refine (dat W c).arrAt_eq_of_covers 10 _ (by decide +kernel) fun t hf y => ?_
  have e10 := (idx t).2.2.2.2.2.2.2.2.2.2
  have ht : t.val < 8 := t.isLt
  blk_simp
  rw [after0_10]
  idx_vars y
  have hi : ((View.whole main_v8_3).slice (win0_10.rect t)).emb (ix2 y0 y1)
      = (ix2 (⟨t.val / 4 * 16 + y0.val, by omega⟩ : Fin 32) (⟨512 * (t.val % 4) + y1.val, by omega⟩ : Fin 2048) : S32x2048.Idx) := by
    blk_ext [e10]
  obtain ⟨h0, e, hst⟩ := point R t.val t.isLt
  rw [hi, e]
  refine ((at_point R t h0 hst).C y0 y1).trans ?_
  have e1 : batch t = bp ⟨t.val / 4 * 16 + y0.val, by omega⟩ := Fin.ext (show t.val / 4 = (t.val / 4 * 16 + y0.val) / 16 by omega)
  have e2 : y0 = np ⟨t.val / 4 * 16 + y0.val, by omega⟩ := Fin.ext (show y0.val = (t.val / 4 * 16 + y0.val) % 16 by omega)
  rw [e1]
  exact congrArg (Spec.Cm a _ _) e2

end Cert.KernelIdeal.Front
-- ==== Proof.ScanSteps.lean ====
/- The scan's 256 unrolled steps as one recursion, and the run's stores as its rows. -/
module

public import proofs.«01_k».proof.Proof.Scan
public import Idealize.ShloMosaic.Lib.Pipeline.ValueKit
public import Idealize.ShloMosaic.Lib.Pointwise

@[expose] public section

set_option maxRecDepth 16384

noncomputable section

namespace Cert.KernelIdeal.Scan

open Cert.KernelIdeal Cert.KernelIdeal.Gen
open Idealize.ShloMosaic Idealize.ShloMosaic.TcCoe Idealize.ShloMosaic.Tactic
open Idealize.SL Idealize.SL.RA

/-- Row `k` modulo 256 is a row of a block. -/
theorem slRow (k : ℕ) : S256x512.Slices ![k % 256, 0] S1x512 := by
  have := Nat.mod_lt k (by decide : 256 > 0)
  refine ⟨rfl, fun a => ?_⟩
  fin_cases a
  · show k % 256 + 1 ≤ 256; omega
  · show 0 + 512 ≤ 512; omega

/-- Column `k` modulo 256 is a column of a map's block. -/
theorem slCol (k : ℕ) : S16x256.Slices ![0, k % 256] S16x1 := by
  have := Nat.mod_lt k (by decide : 256 > 0)
  refine ⟨rfl, fun a => ?_⟩
  fin_cases a
  · show 0 + 16 ≤ 16; omega
  · show k % 256 + 1 ≤ 256; omega

/-- A store of row `k` modulo 256 stays in the block. -/
theorem inbRow (k : ℕ) : ∀ a, (![k % 256, 0] : Fin 2 → Nat) a + S1x512.size a ≤ S256x512.size a := by
  have := Nat.mod_lt k (by decide : 256 > 0)
  intro a
  fin_cases a
  · show k % 256 + 1 ≤ 256; omega
  · show 0 + 512 ≤ 512; omega

variable {F : FTy → Type} [FloatOps F] [Named F]

/-- One step of the recurrence, on a block: row `k` of the step sizes, the rates, row `k` of the step sizes times the
    channels, column `k` of the input map. -/
def hstep (dt : FVec F S256x512 .f32) (A : FVec F S16x512 .f32) (dtu : FVec F S256x512 .f32) (B : FVec F S16x256 .f32)
    (k : ℕ) (h : FVec F S16x512 .f32) : FVec F S16x512 .f32 :=
  addf (mulf (exp2 (mulf (broadcastTo S16x512 (extractStridedSlice S1x512 ![k % 256, 0] dt (slRow k)) broadcasts_S1x512_S16x512) A)) h)
    (mulf (broadcastTo S16x512 (extractStridedSlice S1x512 ![k % 256, 0] dtu (slRow k)) broadcasts_S1x512_S16x512)
      (broadcastTo S16x512 (extractStridedSlice S16x1 ![0, k % 256] B (slCol k)) broadcasts_S16x1_S16x512))

/-- The state before step `k`, from `h0`. -/
def hs (dt : FVec F S256x512 .f32) (A : FVec F S16x512 .f32) (dtu : FVec F S256x512 .f32) (B : FVec F S16x256 .f32)
    (h0 : FVec F S16x512 .f32) (k : ℕ) : FVec F S16x512 .f32 :=
  Nat.rec h0 (fun j h => hstep dt A dtu B j h) k

/-- The row read out after step `k`. -/
def yrow (C : FVec F S16x256 .f32) (k : ℕ) (h : FVec F S16x512 .f32) : FVec F S1x512 .f32 :=
  shapeCast S1x512 (multiReduction .add [0] S512
    (mulf h (broadcastTo S16x512 (extractStridedSlice S16x1 ![0, k % 256] C (slCol k)) broadcasts_S16x1_S16x512))
    0x00000000#32 reduces_S16x512_S512 (.inl rfl) rfl) shapeCasts_S512_S1x512

/-- The first `n` rows as stores, the last first. -/
def rows (dt : FVec F S256x512 .f32) (A : FVec F S16x512 .f32) (dtu : FVec F S256x512 .f32) (B C : FVec F S16x256 .f32)
    (h0 : FVec F S16x512 .f32) (n : ℕ) : List (View.Piece (Elt F) S256x512 .f32) :=
  Nat.rec [] (fun k L => ⟨Rect.unit (s := S256x512) ![k % 256, 0] S1x512.size (inbRow k), yrow C k (hs dt A dtu B h0 (k + 1))⟩ :: L) n

/-- Reading covered pieces back through a view is reading their contents. -/
theorem readCov_ld {sp : Space} {s : Shape} {e : EltTy} {Val : EltTy → Type} [∀ e, Nonempty (Val e)] (v : View sig .tc sp s e)
    (L : List (View.Piece Val s e)) (r : Rect s) : v.readCov L r.toLoadRect = View.ld (View.canon L) r :=
  View.readCov_eq_canon' v L r.toLoadRect

/-- The zero offsets of a matrix. -/
theorem zero2 : ∀ a : Fin 2, (![0, 0] : Fin 2 → Nat) a = 0 := by decide

/-- What one point leaves in the output's block: the rows, with the skip term added. -/
def blkOut (x0 x1 : Vec F S256x512 .f32) (x2 x3 : Vec F S16x256 .f32) (x4 : Vec F S16x512 .f32) (x5 : Vec F S1x512 .f32) (h0 : FVec F S16x512 .f32) :
    Vec F S256x512 .f32 :=
  k1_pay623 (k1_pay2 x0) (View.canon (rows (k1_pay3 x1) (k1_pay4 x4) (k1_pay5 x0 x1) (k1_pay6 x2) (k1_pay7 x3) h0 256)) x5

/-- What one point leaves in the carried state. -/
def blkState (x0 x1 : Vec F S256x512 .f32) (x2 : Vec F S16x256 .f32) (x4 : Vec F S16x512 .f32) (h0 : FVec F S16x512 .f32) : Vec F S16x512 .f32 :=
  shapeCast S16x512 (hs (k1_pay3 x1) (k1_pay4 x4) (k1_pay5 x0 x1) (k1_pay6 x2) h0 256) shapeCasts_S16x512_S16x512

/-- The loads' and stores' rectangles: whole blocks. -/
abbrev rU : Rect S256x512 := Rect.unit ![0, 0] S256x512.size inb_S256x512_S256x512_0_0
@[inherit_doc rU] abbrev rB : Rect S16x256 := Rect.unit ![0, 0] S16x256.size inb_S16x256_S16x256_0_0
@[inherit_doc rU] abbrev rS : Rect S16x512 := Rect.unit ![0, 0] S16x512.size inb_S16x512_S16x512_0_0
@[inherit_doc rU] abbrev rD : Rect S1x512 := Rect.unit ![0, 0] S1x512.size inb_S1x512_S1x512_0_0

/-- What a load of `r` reads from a buffer that holds `x`. -/
abbrev got {s : Shape} (v : Memref sig .tc .vmem s .f32) (h : v.IsWhole) (x : Vec F s .f32) (r : Rect s) :=
  View.readAt (Elt F) v.view r.toLoadRect (h.unread x)

/-- What a load of the carried state reads after it was zeroed. -/
abbrev gotZero (v : Memref sig .tc .vmem S16x512 .f32) := v.view.readCov (Val := Elt F) [⟨rS, k1_pay1⟩] rS.toLoadRect

variable (c : Dev nD) (i : grid1.Coords)
  (arg3 : Memref sig .tc .vmem S256x512 .f32) (harg3 : arg3.IsWhole) (arg4 : Memref sig .tc .vmem S256x512 .f32) (harg4 : arg4.IsWhole)
  (arg5 : Memref sig .tc .vmem S16x256 .f32) (harg5 : arg5.IsWhole) (arg6 : Memref sig .tc .vmem S16x256 .f32) (harg6 : arg6.IsWhole)
  (arg7 : Memref sig .tc .vmem S16x512 .f32) (harg7 : arg7.IsWhole) (arg8 : Memref sig .tc .vmem S1x512 .f32) (harg8 : arg8.IsWhole)
  (arg9 : Memref sig .tc .vmem S256x512 .f32) (harg9 : arg9.IsWhole) (arg10 : Memref sig .tc .vmem S16x512 .f32) (harg10 : arg10.IsWhole)
  (x0 x1 : Vec F S256x512 .f32) (x2 x3 : Vec F S16x256 .f32) (x4 : Vec F S16x512 .f32) (x5 : Vec F S1x512 .f32)

/-- The 256 rows a point stores, over what it loads: `h0` is what it loads of the carried state. -/
abbrev loadedRows (h0 : Vec F S16x512 .f32) : List (View.Piece (Elt F) S256x512 .f32) :=
  rows (k1_pay3 (got arg4 harg4 x1 rU)) (k1_pay4 (got arg7 harg7 x4 rS)) (k1_pay5 (got arg3 harg3 x0 rU) (got arg4 harg4 x1 rU))
    (k1_pay6 (got arg5 harg5 x2 rB)) (k1_pay7 (got arg6 harg6 x3 rB)) h0 256

/-- The block it stores over them: what is read back of the rows, with the skip term added. -/
abbrev loadedOut (h0 : Vec F S16x512 .f32) : Vec F S256x512 .f32 :=
  k1_pay623 (k1_pay2 (got arg3 harg3 x0 rU))
    (arg9.view.readCov (loadedRows arg3 harg3 arg4 harg4 arg5 harg5 arg6 harg6 arg7 harg7 x0 x1 x2 x3 x4 h0) rU.toLoadRect) (got arg8 harg8 x5 rD)

/-- The state it stores. -/
abbrev loadedState (h0 : Vec F S16x512 .f32) : Vec F S16x512 .f32 :=
  shapeCast S16x512 (hs (k1_pay3 (got arg4 harg4 x1 rU)) (k1_pay4 (got arg7 harg7 x4 rS)) (k1_pay5 (got arg3 harg3 x0 rU) (got arg4 harg4 x1 rU))
    (k1_pay6 (got arg5 harg5 x2 rB)) h0 256) shapeCasts_S16x512_S16x512

/-- What is loaded are the blocks themselves, so the block stored is `blkOut`. -/
theorem loadedOut_eq (h0 : Vec F S16x512 .f32) :
    loadedOut arg3 harg3 arg4 harg4 arg5 harg5 arg6 harg6 arg7 harg7 arg8 harg8 arg9 x0 x1 x2 x3 x4 x5 h0 = blkOut x0 x1 x2 x3 x4 x5 h0 := by
  simp only [loadedOut, loadedRows, blkOut, got, View.readAt_eq_ld, Memref.IsWhole.read_unread, readCov_ld, View.ld_unit_lit (S := S256x512) _ _ zero2,
    View.ld_unit_lit (S := S16x512) _ _ zero2, View.ld_unit_lit (S := S16x256) _ _ zero2, View.ld_unit_lit (S := S1x512) _ _ zero2]

/-- Likewise the state stored is `blkState`. -/
theorem loadedState_eq (h0 : Vec F S16x512 .f32) :
    loadedState arg3 harg3 arg4 harg4 arg5 harg5 arg7 harg7 x0 x1 x2 x4 h0 = blkState x0 x1 x2 x4 h0 := by
  simp only [loadedState, blkState, got, View.readAt_eq_ld, Memref.IsWhole.read_unread, View.ld_unit_lit (S := S256x512) _ _ zero2,
    View.ld_unit_lit (S := S16x512) _ _ zero2, View.ld_unit_lit (S := S16x256) _ _ zero2]

/-- Over junk, stores whose last one fills the block leave that store's value. -/
theorem leaves {sp : Space} {s : Shape} (v : View sig .tc sp s .f32) {off : Fin s.rank → Nat} {inb : ∀ a, off a + s.size a ≤ s.size a}
    {w : s.Idx → Elt F .f32} {L L' : List (View.Piece (Elt F) s .f32)} (e : L = ⟨Rect.unit off s.size inb, w⟩ :: L') (h : ∀ a, off a = 0) :
    v.read (Elt F) (v.writes (Elt F) v.junk L) = w := by
  rw [View.read_writes_junk_eq_canon, e]; exact View.canon_cons_unit_lit inb w L' h

/-- A load of the zeroed state reads zeros. -/
theorem gotZero_eq : gotZero (F := F) arg10 = k1_pay1 := by
  simp only [gotZero, readCov_ld, View.canon_cons_unit_lit (S := S16x512) _ _ _ zero2, View.ld_unit_lit (S := S16x512) _ _ zero2]

/-- A load of the carried state reads it. -/
theorem gotState_eq (xs0 : Vec F S16x512 .f32) : got arg10 harg10 xs0 rS = xs0 := by
  simp only [got, View.readAt_eq_ld, Memref.IsWhole.read_unread, View.ld_unit_lit (S := S16x512) _ _ zero2]

/-- A first point of a channel tile stores the rows and then the whole block, having zeroed the state. -/
theorem pieces_A (hc0 : cond1_0 i) :
    (kernelRun1_A c i arg3 harg3 arg4 harg4 arg5 harg5 arg6 harg6 arg7 harg7 arg8 harg8 arg9 harg9 arg10 harg10 hc0 x0 x1 x2 x3 x4 x5).1
      = ⟨rU, loadedOut arg3 harg3 arg4 harg4 arg5 harg5 arg6 harg6 arg7 harg7 arg8 harg8 arg9 x0 x1 x2 x3 x4 x5 (gotZero arg10)⟩ ::
        loadedRows arg3 harg3 arg4 harg4 arg5 harg5 arg6 harg6 arg7 harg7 x0 x1 x2 x3 x4 (gotZero arg10) := by
  sl_kernel_rfl

/-- A first point of a channel tile stores the last state, having zeroed the state. -/
theorem spieces_A (hc0 : cond1_0 i) :
    (kernelRun1_A c i arg3 harg3 arg4 harg4 arg5 harg5 arg6 harg6 arg7 harg7 arg8 harg8 arg9 harg9 arg10 harg10 hc0 x0 x1 x2 x3 x4 x5).2.1
      = [⟨rS, loadedState arg3 harg3 arg4 harg4 arg5 harg5 arg7 harg7 x0 x1 x2 x4 (gotZero arg10)⟩, ⟨rS, k1_pay1⟩] := by
  sl_kernel_rfl

/-- A first point of a channel tile leaves `blkOut` in the output's block, over a state of zeros. -/
theorem out_A (hc0 : cond1_0 i) :
    out1_A_6 c i arg3 harg3 arg4 harg4 arg5 harg5 arg6 harg6 arg7 harg7 arg8 harg8 arg9 harg9 arg10 harg10 hc0 x0 x1 x2 x3 x4 x5 = blkOut x0 x1 x2 x3 x4 x5 k1_pay1 :=
  (leaves _ (pieces_A c i arg3 harg3 arg4 harg4 arg5 harg5 arg6 harg6 arg7 harg7 arg8 harg8 arg9 harg9 arg10 harg10 x0 x1 x2 x3 x4 x5 hc0) zero2).trans
    ((loadedOut_eq arg3 harg3 arg4 harg4 arg5 harg5 arg6 harg6 arg7 harg7 arg8 harg8 arg9 x0 x1 x2 x3 x4 x5 _).trans (congrArg (blkOut x0 x1 x2 x3 x4 x5) (gotZero_eq arg10)))

/-- A first point of a channel tile leaves `blkState` in the carried state, over a state of zeros. -/
theorem sout_A (hc0 : cond1_0 i) :
    sout1_A_0 c i arg3 harg3 arg4 harg4 arg5 harg5 arg6 harg6 arg7 harg7 arg8 harg8 arg9 harg9 arg10 harg10 hc0 x0 x1 x2 x3 x4 x5 = blkState x0 x1 x2 x4 k1_pay1 :=
  (leaves _ (spieces_A c i arg3 harg3 arg4 harg4 arg5 harg5 arg6 harg6 arg7 harg7 arg8 harg8 arg9 harg9 arg10 harg10 x0 x1 x2 x3 x4 x5 hc0) zero2).trans
    ((loadedState_eq arg3 harg3 arg4 harg4 arg5 harg5 arg7 harg7 x0 x1 x2 x4 _).trans (congrArg (blkState x0 x1 x2 x4) (gotZero_eq arg10)))

/-- A later point stores the rows and then the whole block, over the carried state. -/
theorem pieces_B (hc0 : ¬cond1_0 i) (xs0 : Vec F S16x512 .f32) :
    (kernelRun1_B c i arg3 harg3 arg4 harg4 arg5 harg5 arg6 harg6 arg7 harg7 arg8 harg8 arg9 harg9 arg10 harg10 hc0 x0 x1 x2 x3 x4 x5 xs0).1
      = ⟨rU, loadedOut arg3 harg3 arg4 harg4 arg5 harg5 arg6 harg6 arg7 harg7 arg8 harg8 arg9 x0 x1 x2 x3 x4 x5 (got arg10 harg10 xs0 rS)⟩ ::
        loadedRows arg3 harg3 arg4 harg4 arg5 harg5 arg6 harg6 arg7 harg7 x0 x1 x2 x3 x4 (got arg10 harg10 xs0 rS) := by
  sl_kernel_rfl

/-- A later point stores the last state, over the carried state. -/
theorem spieces_B (hc0 : ¬cond1_0 i) (xs0 : Vec F S16x512 .f32) :
    (kernelRun1_B c i arg3 harg3 arg4 harg4 arg5 harg5 arg6 harg6 arg7 harg7 arg8 harg8 arg9 harg9 arg10 harg10 hc0 x0 x1 x2 x3 x4 x5 xs0).2.1
      = [⟨rS, loadedState arg3 harg3 arg4 harg4 arg5 harg5 arg7 harg7 x0 x1 x2 x4 (got arg10 harg10 xs0 rS)⟩] := by
  sl_kernel_rfl

/-- A later point leaves `blkOut` in the output's block, over the carried state. -/
theorem out_B (hc0 : ¬cond1_0 i) (xs0 : Vec F S16x512 .f32) :
    out1_B_6 c i arg3 harg3 arg4 harg4 arg5 harg5 arg6 harg6 arg7 harg7 arg8 harg8 arg9 harg9 arg10 harg10 hc0 x0 x1 x2 x3 x4 x5 xs0 = blkOut x0 x1 x2 x3 x4 x5 xs0 :=
  (leaves _ (pieces_B c i arg3 harg3 arg4 harg4 arg5 harg5 arg6 harg6 arg7 harg7 arg8 harg8 arg9 harg9 arg10 harg10 x0 x1 x2 x3 x4 x5 hc0 xs0) zero2).trans
    ((loadedOut_eq arg3 harg3 arg4 harg4 arg5 harg5 arg6 harg6 arg7 harg7 arg8 harg8 arg9 x0 x1 x2 x3 x4 x5 _).trans (congrArg (blkOut x0 x1 x2 x3 x4 x5) (gotState_eq arg10 harg10 xs0)))

/-- A later point leaves `blkState` in the carried state, over the carried state. -/
theorem sout_B (hc0 : ¬cond1_0 i) (xs0 : Vec F S16x512 .f32) :
    sout1_B_0 c i arg3 harg3 arg4 harg4 arg5 harg5 arg6 harg6 arg7 harg7 arg8 harg8 arg9 harg9 arg10 harg10 hc0 x0 x1 x2 x3 x4 x5 xs0 = blkState x0 x1 x2 x4 xs0 :=
  (leaves _ (spieces_B c i arg3 harg3 arg4 harg4 arg5 harg5 arg6 harg6 arg7 harg7 arg8 harg8 arg9 harg9 arg10 harg10 x0 x1 x2 x3 x4 x5 hc0 xs0) zero2).trans
    ((loadedState_eq arg3 harg3 arg4 harg4 arg5 harg5 arg7 harg7 x0 x1 x2 x4 _).trans (congrArg (blkState x0 x1 x2 x4) (gotState_eq arg10 harg10 xs0)))

end Cert.KernelIdeal.Scan
-- ==== Proof.ScanValue.lean ====
/- The scan's result array, element by element, over any entry contents. -/
module

public import proofs.«01_k».proof.Proof.ScanSteps
public import proofs.«01_k».proof.Proof.Spec
public import Idealize.ShloMosaic.Lib.Pipeline.ValueKit
public import Idealize.ShloMosaic.Lib.Pointwise

@[expose] public section

set_option maxRecDepth 16384

noncomputable section

namespace Cert.KernelIdeal.Scan

open Cert.KernelIdeal Cert.KernelIdeal.Gen
open Idealize.ShloMosaic Idealize.ShloMosaic.TcCoe Idealize.ShloMosaic.Tactic
open Idealize.SL Idealize.SL.RA

variable (W : Dev nD → Valuation τ sig (Elt Ideal))

/-- The blocks' places at each point, by inspection of the points. -/
theorem idx : ∀ t : Fin cfg1.N,
    win1_0.index t = ![t.val % 8, t.val / 8] ∧ win1_1.index t = ![t.val % 8, t.val / 8]
      ∧ win1_2.index t = ![t.val / 8 / 4, t.val % 8] ∧ win1_3.index t = ![t.val / 8 / 4, t.val % 8]
      ∧ win1_4.index t = ![0, t.val / 8 % 4] ∧ win1_5.index t = ![0, t.val / 8] ∧ win1_6.index t = ![t.val % 8, t.val / 8] :=
  (by decide +kernel : ∀ t : Fin grid1.N, _)

/-- The state of column `q` before position `k`: the recurrence over whole columns of the arrays. -/
def st (u dt : Vec Ideal S2048x4096 .f32) (B : Vec Ideal S32x2048 .f32) (A : Vec Ideal S16x2048 .f32) (q : Fin 4096) (n : Fin 16) :
    ℕ → EReal
  | 0 => 0
  | k + 1 => if hk : k < 2048 then
      Ideal.exp (dt (ix2 ⟨k, hk⟩ q) * A (ix2 n ⟨q.val % 2048, by omega⟩)) * st u dt B A q n k
        + dt (ix2 ⟨k, hk⟩ q) * u (ix2 ⟨k, hk⟩ q) * B (ix2 ⟨q.val / 2048 * 16 + n.val, by omega⟩ ⟨k, hk⟩) else 0

/-- The scan's result at an index: the state read out, and the skip term. -/
def sElem (u dt : Vec Ideal S2048x4096 .f32) (B C : Vec Ideal S32x2048 .f32) (A : Vec Ideal S16x2048 .f32)
    (D : Vec Ideal S1x4096 .f32) (l : Fin 2048) (q : Fin 4096) : EReal :=
  (∑ n : Fin 16, st u dt B A q n (l.val + 1) * C (ix2 ⟨q.val / 2048 * 16 + n.val, by omega⟩ l)) + u (ix2 l q) * D (ix2 0 q)

/-- One step of the block's recursion at an index. -/
theorem hstep_apply (dt : FVec Ideal S256x512 .f32) (A : FVec Ideal S16x512 .f32) (dtu : FVec Ideal S256x512 .f32)
    (B : FVec Ideal S16x256 .f32) (k : ℕ) (hk : k < 256) (h : FVec Ideal S16x512 .f32) (n : Fin 16) (d : Fin 512) :
    hstep dt A dtu B k h (ix2 n d) = Ideal.exp2 (dt (ix2 ⟨k, hk⟩ d) * A (ix2 n d)) * h (ix2 n d)
      + dtu (ix2 ⟨k, hk⟩ d) * B (ix2 n ⟨k, hk⟩) := by
  have e : k % 256 = k := Nat.mod_eq_of_lt hk
  unfold hstep
  pointwise []
  simp only [e]
  rfl

/-- The row read out at an index. -/
theorem yrow_apply (C : FVec Ideal S16x256 .f32) (k : ℕ) (hk : k < 256) (h : FVec Ideal S16x512 .f32) (d : Fin 512) :
    yrow C k h (ix2 0 d) = ∑ n : Fin 16, h (ix2 n d) * C (ix2 n ⟨k, hk⟩) := by
  have e : k % 256 = k := Nat.mod_eq_of_lt hk
  unfold yrow
  pointwise []
  simp only [e]

/-- The rows' contents: row `k` is what step `k` reads out. -/
theorem canon_rows (dt : FVec Ideal S256x512 .f32) (A : FVec Ideal S16x512 .f32) (dtu : FVec Ideal S256x512 .f32)
    (B C : FVec Ideal S16x256 .f32) (h0 : FVec Ideal S16x512 .f32) (k : ℕ) (hk : k < 256) (d : Fin 512) (m : ℕ) (hm : m ≤ 256) (hkm : k < m) :
    View.canon (rows dt A dtu B C h0 m) (ix2 ⟨k, hk⟩ d) = yrow C k (hs dt A dtu B h0 (k + 1)) (ix2 0 d) := by
  induction m with
  | zero => omega
  | succ m ih =>
    show View.canon (⟨Rect.unit (s := S256x512) ![m % 256, 0] S1x512.size (inbRow m), yrow C m (hs dt A dtu B h0 (m + 1))⟩ :: rows dt A dtu B C h0 m) _ = _
    have e : m % 256 = m := Nat.mod_eq_of_lt (by omega)
    by_cases hkm' : k = m
    · subst hkm'
      have : (ix2 ⟨k, hk⟩ d : S256x512.Idx) = (Rect.unit (s := S256x512) ![k % 256, 0] S1x512.size (inbRow k)).emb (ix2 (0 : Fin 1) d) := by
        funext a
        fin_cases a
        · exact Fin.ext (show k = k % 256 + 1 * 0 by omega)
        · exact Fin.ext (show d.val = 0 + 1 * d.val by omega)
      rw [this]
      exact View.canon_cons_emb _ _ _ _
    · rw [View.canon_cons_of_not_mem]
      · exact ih (by omega) (by omega)
      · rw [Rect.mem_set_unit]
        intro h
        have := h 0
        simp [e] at this
        omega

/-- The block's recursion follows the column's: where the blocks are the arrays' rows from `256 * j` on and the state
    comes in at that position, the state before step `k` is the one at position `256 * j + k`. -/
theorem hs_eq (x0 x1 : Vec Ideal S256x512 .f32) (x2 : Vec Ideal S16x256 .f32) (x4 : Vec Ideal S16x512 .f32) (h0 : FVec Ideal S16x512 .f32)
    (u dt : Vec Ideal S2048x4096 .f32) (B : Vec Ideal S32x2048 .f32) (A : Vec Ideal S16x2048 .f32)
    (j : ℕ) (hj : j < 8) (d : Fin 512) (q : Fin 4096) (n : Fin 16)
    (hu : ∀ (k : ℕ) (hk : k < 256), x0 (ix2 ⟨k, hk⟩ d) = u (ix2 ⟨256 * j + k, by omega⟩ q))
    (ht : ∀ (k : ℕ) (hk : k < 256), x1 (ix2 ⟨k, hk⟩ d) = dt (ix2 ⟨256 * j + k, by omega⟩ q))
    (hB : ∀ (k : ℕ) (hk : k < 256), x2 (ix2 n ⟨k, hk⟩) = B (ix2 ⟨q.val / 2048 * 16 + n.val, by omega⟩ ⟨256 * j + k, by omega⟩))
    (hA : x4 (ix2 n d) = A (ix2 n ⟨q.val % 2048, by omega⟩))
    (hh : h0 (ix2 n d) = st u dt B A q n (256 * j)) (k : ℕ) (hk : k ≤ 256) :
    hs (k1_pay3 x1) (k1_pay4 x4) (k1_pay5 x0 x1) (k1_pay6 x2) h0 k (ix2 n d) = st u dt B A q n (256 * j + k) := by
  induction k with
  | zero => exact hh
  | succ k ih =>
    have hk' : k < 256 := by omega
    show hstep _ _ _ _ k (hs _ _ _ _ h0 k) (ix2 n d) = _
    rw [hstep_apply _ _ _ _ k hk', ih (by omega)]
    show _ = st u dt B A q n ((256 * j + k) + 1)
    rw [st, dif_pos (by omega)]
    have p3 : k1_pay3 x1 (ix2 ⟨k, hk'⟩ d) = x1 (ix2 ⟨k, hk'⟩ d) := by pointwise [k1_pay3]
    have p4 : k1_pay4 x4 (ix2 n d) = x4 (ix2 n d) * (((Real.log 2)⁻¹ : ℝ) : EReal) := by
      pointwise [k1_pay4]
      rfl
    have p5 : k1_pay5 x0 x1 (ix2 ⟨k, hk'⟩ d) = x1 (ix2 ⟨k, hk'⟩ d) * x0 (ix2 ⟨k, hk'⟩ d) := by pointwise [k1_pay5, k1_pay3, k1_pay2]
    have p6 : k1_pay6 x2 (ix2 n ⟨k, hk'⟩) = x2 (ix2 n ⟨k, hk'⟩) := by pointwise [k1_pay6]
    rw [p3, p4, p5, p6, ← mul_assoc, Spec.exp2_scaled, hu k hk', ht k hk', hB k hk', hA]

/-- What the point leaves in the state, at an index. -/
theorem blkState_apply (x0 x1 : Vec Ideal S256x512 .f32) (x2 : Vec Ideal S16x256 .f32) (x4 : Vec Ideal S16x512 .f32)
    (h0 : FVec Ideal S16x512 .f32) (n : Fin 16) (d : Fin 512) :
    blkState x0 x1 x2 x4 h0 (ix2 n d) = hs (k1_pay3 x1) (k1_pay4 x4) (k1_pay5 x0 x1) (k1_pay6 x2) h0 256 (ix2 n d) := by
  unfold blkState
  generalize hs (k1_pay3 x1) (k1_pay4 x4) (k1_pay5 x0 x1) (k1_pay6 x2) h0 256 = z
  pointwise []

/-- What the point leaves in the output's block, at an index. -/
theorem blkOut_apply (x0 x1 : Vec Ideal S256x512 .f32) (x2 x3 : Vec Ideal S16x256 .f32) (x4 : Vec Ideal S16x512 .f32)
    (x5 : Vec Ideal S1x512 .f32) (h0 : FVec Ideal S16x512 .f32) (k : Fin 256) (d : Fin 512) :
    blkOut x0 x1 x2 x3 x4 x5 h0 (ix2 k d)
      = (∑ n : Fin 16, hs (k1_pay3 x1) (k1_pay4 x4) (k1_pay5 x0 x1) (k1_pay6 x2) h0 (k.val + 1) (ix2 n d) * x3 (ix2 n k))
        + x0 (ix2 k d) * x5 (ix2 0 d) := by
  have e := canon_rows (k1_pay3 x1) (k1_pay4 x4) (k1_pay5 x0 x1) (k1_pay6 x2) (k1_pay7 x3) h0 k.val k.isLt d 256 (by omega) k.isLt
  rw [yrow_apply _ _ k.isLt] at e
  have p7 : ∀ n : Fin 16, k1_pay7 x3 (ix2 n ⟨k.val, k.isLt⟩) = x3 (ix2 n k) := fun n => by pointwise [k1_pay7]
  simp only [p7] at e
  rw [← e]
  unfold blkOut
  generalize View.canon (rows (k1_pay3 x1) (k1_pay4 x4) (k1_pay5 x0 x1) (k1_pay6 x2) (k1_pay7 x3) h0 256) = z
  pointwise [k1_pay623, k1_pay2]

/-- The column of the arrays that column `d` of point `t`'s block is. -/
def colOf (t : Fin cfg1.N) (d : Fin 512) : Fin 4096 :=
  ⟨t.val / 8 * 512 + d.val, by have h : t.val < 64 := t.isLt; have := d.isLt; omega⟩

section Reads
variable (c : Dev nD) (t : Fin cfg1.N) (d : Fin 512) (n : Fin 16)

/-- The channels' block read at a position and a column. -/
theorem read0 (k : ℕ) (hk : k < 256) : iblk W c 0 t (ix2 (⟨k, hk⟩ : Fin 256) d)
    = V W c main_v8_0 (ix2 (⟨256 * (t.val % 8) + k, by omega⟩ : Fin 2048) (colOf t d)) := by
  obtain ⟨e0, e1, e2, e3, e4, e5, e6⟩ := idx t
  blk_ext [iblk, V, e0, colOf]

/-- The step sizes' block read at a position and a column. -/
theorem read1 (k : ℕ) (hk : k < 256) : iblk W c 1 t (ix2 (⟨k, hk⟩ : Fin 256) d)
    = V W c main_v8_1 (ix2 (⟨256 * (t.val % 8) + k, by omega⟩ : Fin 2048) (colOf t d)) := by
  obtain ⟨e0, e1, e2, e3, e4, e5, e6⟩ := idx t
  blk_ext [iblk, V, e1, colOf]

/-- The input map's block read at a state and a position. -/
theorem read2 (k : ℕ) (hk : k < 256) : iblk W c 2 t (ix2 n (⟨k, hk⟩ : Fin 256))
    = V W c main_v8_2 (ix2 (⟨(colOf t d).val / 2048 * 16 + n.val, by omega⟩ : Fin 32) (⟨256 * (t.val % 8) + k, by omega⟩ : Fin 2048)) := by
  obtain ⟨e0, e1, e2, e3, e4, e5, e6⟩ := idx t
  blk_ext [iblk, V, e2, colOf]

/-- The output map's block read at a state and a position. -/
theorem read3 (k : ℕ) (hk : k < 256) : iblk W c 3 t (ix2 n (⟨k, hk⟩ : Fin 256))
    = V W c main_v8_3 (ix2 (⟨(colOf t d).val / 2048 * 16 + n.val, by omega⟩ : Fin 32) (⟨256 * (t.val % 8) + k, by omega⟩ : Fin 2048)) := by
  obtain ⟨e0, e1, e2, e3, e4, e5, e6⟩ := idx t
  blk_ext [iblk, V, e3, colOf]

/-- The rates' block read at a state and a column. -/
theorem read4 : iblk W c 4 t (ix2 n d)
    = V W c main_v5 (ix2 n (⟨(colOf t d).val % 2048, by omega⟩ : Fin 2048)) := by
  obtain ⟨e0, e1, e2, e3, e4, e5, e6⟩ := idx t
  blk_ext [iblk, V, e4, colOf]

/-- The skip weights' block read at a column. -/
theorem read5 : iblk W c 5 t (ix2 (0 : Fin 1) d) = V W c main_v7 (ix2 (0 : Fin 1) (colOf t d)) := by
  obtain ⟨e0, e1, e2, e3, e4, e5, e6⟩ := idx t
  blk_ext [iblk, V, e5, colOf]

end Reads

/-- The column recurrence over the arrays as the region finds them. -/
abbrev stW (c : Dev nD) (q : Fin 4096) (n : Fin 16) (k : ℕ) : EReal :=
  st (V W c main_v8_0) (V W c main_v8_1) (V W c main_v8_2) (V W c main_v5) q n k

/-- Every point starts from the state at its first position: what it leaves is `blkOut` and `blkState` from such a state. -/
theorem point (c : Dev nD) (m : ℕ) (hm : m < cfg1.N) : ∃ h0 : FVec Ideal S16x512 .f32,
    outsAt1 W c m hm = (blkOut (iblk W c 0 ⟨m, hm⟩) (iblk W c 1 ⟨m, hm⟩) (iblk W c 2 ⟨m, hm⟩) (iblk W c 3 ⟨m, hm⟩) (iblk W c 4 ⟨m, hm⟩) (iblk W c 5 ⟨m, hm⟩) h0,
      blkState (iblk W c 0 ⟨m, hm⟩) (iblk W c 1 ⟨m, hm⟩) (iblk W c 2 ⟨m, hm⟩) (iblk W c 4 ⟨m, hm⟩) h0)
    ∧ ∀ (n : Fin 16) (d : Fin 512), h0 (ix2 n d) = stW W c (colOf ⟨m, hm⟩ d) n (256 * (m % 8)) := by
  induction m with
  | zero =>
    refine ⟨k1_pay1, ?_, fun n d => ?_⟩
    · refine (outsAt1_A W c ⟨0, hm⟩ (Nat.zero_mod _)).trans ?_
      rw [out_A, sout_A]
    · pointwise [k1_pay1]
      rfl
  | succ m ih =>
    by_cases h8 : (m + 1) % 8 = 0
    · refine ⟨k1_pay1, ?_, fun n d => ?_⟩
      · refine (outsAt1_A W c ⟨m + 1, hm⟩ h8).trans ?_
        rw [out_A, sout_A]
      · rw [h8]
        pointwise [k1_pay1]
        rfl
    · obtain ⟨h0, e, hst⟩ := ih (by omega)
      refine ⟨(outsAt1 W c m (by omega)).2, ?_, fun n d => ?_⟩
      · refine (outsAt1_B W c ⟨m + 1, hm⟩ h8).trans ?_
        rw [out_B, sout_B]
        rfl
      · have hmN : m + 1 < 64 := hm
        rw [e]
        show blkState _ _ _ _ h0 (ix2 n d) = _
        rw [blkState_apply, hs_eq _ _ _ _ _ _ _ _ _ (m % 8) (by omega) d (colOf ⟨m, by omega⟩ d) n
          (read0 W c ⟨m, by omega⟩ d) (read1 W c ⟨m, by omega⟩ d) (read2 W c ⟨m, by omega⟩ d n) (read4 W c ⟨m, by omega⟩ d n) (hst n d) 256 le_rfl]
        have e1 : colOf ⟨m, by omega⟩ d = colOf ⟨m + 1, hm⟩ d := Fin.ext (show m / 8 * 512 + d.val = (m + 1) / 8 * 512 + d.val by omega)
        have e2 : 256 * (m % 8) + 256 = 256 * ((m + 1) % 8) := by omega
        rw [e1, e2]

/-- What point `t` leaves in its block, at an index. -/
theorem point_elem (c : Dev nD) (t : Fin cfg1.N) (k : Fin 256) (d : Fin 512) (l : Fin 2048) (hl : l.val = 256 * (t.val % 8) + k.val) :
    (outsAt1 W c t.val t.isLt).1 (ix2 k d) = sElem (V W c main_v8_0) (V W c main_v8_1) (V W c main_v8_2) (V W c main_v8_3)
      (V W c main_v5) (V W c main_v7) l (colOf t d) := by
  obtain ⟨h0, e, hst⟩ := point W c t.val t.isLt
  have el : l = ⟨256 * (t.val % 8) + k.val, by omega⟩ := Fin.ext hl
  rw [e]
  refine (blkOut_apply _ _ _ _ _ _ _ _ _).trans ?_
  unfold sElem
  have h1 : ∀ n : Fin 16, _ := fun n => hs_eq _ _ _ _ h0 _ _ _ _ (t.val % 8) (by omega) d (colOf t d) n
    (read0 W c t d) (read1 W c t d) (read2 W c t d n) (read4 W c t d n) (hst n d) (k.val + 1) (by omega)
  refine congrArg₂ (· + ·) (Finset.sum_congr rfl fun n _ => ?_) ?_
  · refine congrArg₂ (· * ·) ?_ ?_
    · refine (h1 n).trans ?_
      rw [el]
      rfl
    · rw [el]
      exact read3 W c t d n k.val k.isLt
  · refine congrArg₂ (· * ·) ?_ (read5 W c t d)
    rw [el]
    exact read0 W c t d k.val k.isLt

/-- The array after the region. -/
theorem final (c : Dev nD) : (dat W c).arrAt 6 cfg1.N
    = fun i => sElem (V W c main_v8_0) (V W c main_v8_1) (V W c main_v8_2) (V W c main_v8_3) (V W c main_v5) (V W c main_v7) (i 0) (i 1) := by
  refine (dat W c).arrAt_eq_of_covers 6 _ (by decide +kernel) fun t hf y => ?_
  have e6 := (idx t).2.2.2.2.2.2
  blk_simp
  rw [after1_6]
  idx_vars y
  have hi : ((View.whole main_v9).slice (win1_6.rect t)).emb (ix2 y0 y1) = (ix2 (⟨256 * (t.val % 8) + y0.val, by omega⟩ : Fin 2048) (colOf t y1) : S2048x4096.Idx) := by
    blk_ext [e6, colOf]
  rw [hi]
  exact point_elem W c t y0 y1 _ rfl

end Cert.KernelIdeal.Scan
-- ==== Proof.OutValue.lean ====
/- The output projection's result array, element by element, over any entry contents. -/
module

public import proofs.«01_k».proof.Proof.Out
public import proofs.«01_k».proof.Proof.Spec
public import Idealize.ShloMosaic.Lib.Pipeline.ValueKit
public import Idealize.ShloMosaic.Lib.Pointwise

@[expose] public section

set_option maxRecDepth 16384

noncomputable section

namespace Cert.KernelIdeal.Out

open Cert.KernelIdeal Cert.KernelIdeal.Gen
open Idealize.ShloMosaic Idealize.ShloMosaic.TcCoe Idealize.ShloMosaic.Tactic
open Idealize.SL Idealize.SL.RA

variable (W : Dev nD → Valuation τ sig (Elt Ideal))

/-- The blocks' places at each point, by inspection of the points. -/
theorem idx : ∀ t : Fin cfg2.N,
    win2_0.index t = ![t.val / 4, t.val % 4, 0] ∧ win2_1.index t = ![0, 1]
      ∧ win2_2.index t = ![t.val % 4, t.val / 4] ∧ win2_3.index t = ![0, 0] ∧ win2_4.index t = ![t.val / 4, t.val % 4, 0] :=
  (by decide +kernel : ∀ t : Fin grid2.N, _)

/-- The result at an index: the gated channels times the output matrix, over the arrays as the region finds them. -/
def oElem (x : Vec Ideal S2x2048x1024 .f32) (w : Vec Ideal S1024x4096 .f32) (y : Vec Ideal S2048x4096 .f32)
    (wo : Vec Ideal S2048x1024 .f32) (b : Fin 2) (l : Fin 2048) (e : Fin 1024) : EReal :=
  ∑ d : Fin 2048, y (ix2 l ⟨b.val * 2048 + d.val, by omega⟩)
    * Spec.silu (∑ k : Fin 1024, x (ix3 b l k) * w (ix2 k ⟨2048 + d.val, by omega⟩)) * wo (ix2 d e)

/-- What the body leaves at an index of its block, where the input blocks are the arrays' rows and columns there. -/
theorem block (x0 : Vec Ideal S1x512x1024 .f32) (x1 : Vec Ideal S1024x2048 .f32) (x2 : Vec Ideal S512x2048 .f32)
    (x3 : Vec Ideal S2048x1024 .f32) (q : Fin 1) (l' : Fin 512) (e' : Fin 1024)
    (x : Vec Ideal S2x2048x1024 .f32) (w : Vec Ideal S1024x4096 .f32) (y : Vec Ideal S2048x4096 .f32)
    (wo : Vec Ideal S2048x1024 .f32) (b : Fin 2) (l : Fin 2048) (e : Fin 1024)
    (hx : ∀ k : Fin 1024, x0 (ix3 0 l' k) = x (ix3 b l k))
    (hw : ∀ (k : Fin 1024) (d : Fin 2048), x1 (ix2 k d) = w (ix2 k ⟨2048 + d.val, by omega⟩))
    (hy : ∀ d : Fin 2048, x2 (ix2 l' d) = y (ix2 l ⟨b.val * 2048 + d.val, by omega⟩))
    (ho : ∀ d : Fin 2048, x3 (ix2 d e') = wo (ix2 d e)) :
    out2_4 x0 x1 x2 x3 (ix3 q l' e') = oElem x w y wo b l e := by
  frame_out
  pointwise [k2_pay1]
  unfold oElem
  refine Finset.sum_congr rfl fun d _ => ?_
  rw [show (Named.named κ "neg_log2e" 0xBFB8AA3B#32 : Ideal .f32) = ((-(Real.log 2)⁻¹ : ℝ) : EReal) from rfl]
  simp only [hx, hw, hy, ho]
  unfold Spec.silu
  rw [← Spec.exp2_neg_scaled]
  rfl

/-- The array after the region. -/
theorem final (c : Dev nD) : (dat W c).arrAt 4 cfg2.N
    = fun i => oElem (V W c main_arg0) (V W c main_arg1) (V W c main_v9) (V W c main_arg9) (i 0) (i 1) (i 2) := by
  refine (dat W c).arrAt_eq_of_covers 4 _ (by decide +kernel) fun t hf y => ?_
  obtain ⟨e0, e1, e2, e3, e4⟩ := idx t
  blk_simp
  rw [after2_4]
  idx_vars y
  refine block _ _ _ _ _ _ _ _ _ _ _ _ _ _ (fun k => ?_) (fun k d => ?_) (fun d => ?_) (fun d => ?_)
  · blk_ext [iblk, V, e0, e4]
  · blk_ext [iblk, V, e1]
  · blk_ext [iblk, V, e2, e4]
  · blk_ext [iblk, V, e3, e4]

end Cert.KernelIdeal.Out
-- ==== Proof.KernelValue.lean ====
/- The kernel's result: the block's mathematics at every index. -/
module

public import proofs.«01_k».proof.Proof.Whole
public import proofs.«01_k».proof.Proof.FrontValue
public import proofs.«01_k».proof.Proof.ScanValue
public import proofs.«01_k».proof.Proof.OutValue

@[expose] public section

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA
open Cert.KernelIdeal.Front (ba ch bp np)

/-- The recurrence over the arrays the front leaves is the block's. -/
theorem st_eq (a : Spec.Args) (u dt : Vec Ideal S2048x4096 .f32) (B : Vec Ideal S32x2048 .f32) (A : Vec Ideal S16x2048 .f32)
    (hu : u = fun i => Spec.u a (ba (i 1)) (i 0) (ch (i 1))) (ht : dt = fun i => Spec.dt a (ba (i 1)) (i 0) (ch (i 1)))
    (hB : B = fun i => Spec.Bm a (bp (i 0)) (i 1) (np (i 0))) (hA : ∀ (n : Fin 16) (d : Fin 2048), A (ix2 n d) = Spec.A a d n)
    (q : Fin 4096) (n : Fin 16) (k : ℕ) : Scan.st u dt B A q n k = Spec.h a (ba q) (ch q) n k := by
  have hq := q.isLt
  have hn := n.isLt
  induction k with
  | zero => rfl
  | succ k ih =>
    rw [Scan.st, Spec.h]
    by_cases hk : k < 2048
    · rw [dif_pos hk, dif_pos hk, ih, hA, hu, ht, hB]
      have e1 : bp ⟨q.val / 2048 * 16 + n.val, by omega⟩ = ba q := Fin.ext (show (q.val / 2048 * 16 + n.val) / 16 = q.val / 2048 by omega)
      have e2 : np ⟨q.val / 2048 * 16 + n.val, by omega⟩ = n := Fin.ext (show (q.val / 2048 * 16 + n.val) % 16 = n.val by omega)
      show Ideal.exp (Spec.dt a (ba q) ⟨k, hk⟩ (ch q) * Spec.A a (ch q) n) * Spec.h a (ba q) (ch q) n k
        + Spec.dt a (ba q) ⟨k, hk⟩ (ch q) * Spec.u a (ba q) ⟨k, hk⟩ (ch q) * Spec.Bm a (bp ⟨q.val / 2048 * 16 + n.val, by omega⟩) ⟨k, hk⟩ (np ⟨q.val / 2048 * 16 + n.val, by omega⟩) = _
      rw [e1, e2]
      exact congrArg _ (mul_right_comm _ _ _)
    · rw [dif_neg hk, dif_neg hk]

/-- The scan over the arrays the front leaves is the block's readout and skip term. -/
theorem sElem_eq (a : Spec.Args) (u dt : Vec Ideal S2048x4096 .f32) (B C : Vec Ideal S32x2048 .f32) (A : Vec Ideal S16x2048 .f32)
    (D : Vec Ideal S1x4096 .f32)
    (hu : u = fun i => Spec.u a (ba (i 1)) (i 0) (ch (i 1))) (ht : dt = fun i => Spec.dt a (ba (i 1)) (i 0) (ch (i 1)))
    (hB : B = fun i => Spec.Bm a (bp (i 0)) (i 1) (np (i 0))) (hC : C = fun i => Spec.Cm a (bp (i 0)) (i 1) (np (i 0)))
    (hA : ∀ (n : Fin 16) (d : Fin 2048), A (ix2 n d) = Spec.A a d n) (hD : ∀ q : Fin 4096, D (ix2 0 q) = a.D (ix1 (ch q)))
    (l : Fin 2048) (q : Fin 4096) :
    Scan.sElem u dt B C A D l q = Spec.y a (ba q) l (ch q) + Spec.u a (ba q) l (ch q) * a.D (ix1 (ch q)) := by
  have hq := q.isLt
  unfold Scan.sElem Spec.y
  rw [hD]
  refine congrArg₂ (· + ·) (Finset.sum_congr rfl fun n _ => ?_) (by rw [hu]; rfl)
  rw [st_eq a u dt B A hu ht hB hA, hC]
  have hn := n.isLt
  have e1 : bp ⟨q.val / 2048 * 16 + n.val, by omega⟩ = ba q := Fin.ext (show (q.val / 2048 * 16 + n.val) / 16 = q.val / 2048 by omega)
  have e2 : np ⟨q.val / 2048 * 16 + n.val, by omega⟩ = n := Fin.ext (show (q.val / 2048 * 16 + n.val) % 16 = n.val by omega)
  show _ * Spec.Cm a (bp ⟨q.val / 2048 * 16 + n.val, by omega⟩) l (np ⟨q.val / 2048 * 16 + n.val, by omega⟩) = _
  rw [e1, e2]

variable (m : (ℓ : Loc nD τ sig) → Buf (Elt Ideal) ℓ)

/-- The ten arguments as launched on core `c`. -/
def args (c : Dev nD) : Spec.Args where
  x := m ((c.tc : Thread nD τ).loc main_arg0)
  Win := m ((c.tc : Thread nD τ).loc main_arg1)
  cw := m ((c.tc : Thread nD τ).loc main_arg2)
  cb := m ((c.tc : Thread nD τ).loc main_arg3)
  Wx := m ((c.tc : Thread nD τ).loc main_arg4)
  Wdt := m ((c.tc : Thread nD τ).loc main_arg5)
  bdt := m ((c.tc : Thread nD τ).loc main_arg6)
  Alog := m ((c.tc : Thread nD τ).loc main_arg7)
  D := m ((c.tc : Thread nD τ).loc main_arg8)
  Wo := m ((c.tc : Thread nD τ).loc main_arg9)

/-- The host's taps: the convolution's weights transposed. -/
theorem host_cw (c : Dev nD) (k : Fin 4) (d : Fin 2048) : (W1 m c main_v0 : Vec Ideal S4x2048 .f32) (ix2 k d) = (args m c).cw (ix2 d k) := by
  have e : (W1 m c main_v0 : Vec Ideal S4x2048 .f32) = transpose S4x2048 [1, 0] (m ((c.tc : Thread nD τ).loc main_arg2)) transposes_S2048x4_S4x2048_1_0 := by
    show StableHlo.after hostOps0 _ _ = _
    after_results
  rw [e]
  pointwise []
  rfl

/-- The host's bias, as a row. -/
theorem host_cb (c : Dev nD) (d : Fin 2048) : (W1 m c main_v1 : Vec Ideal S1x2048 .f32) (ix2 0 d) = (args m c).cb (ix1 d) := by
  have e : (W1 m c main_v1 : Vec Ideal S1x2048 .f32) = broadcastInDim S1x2048 ![1] bcast_S2048_S1x2048_1 (m ((c.tc : Thread nD τ).loc main_arg3)) := by
    show StableHlo.after hostOps0 _ _ = _
    after_results
  rw [e]
  pointwise []
  rfl

/-- The host's step bias, as a row. -/
theorem host_bdt (c : Dev nD) (d : Fin 2048) : (W1 m c main_v2 : Vec Ideal S1x2048 .f32) (ix2 0 d) = (args m c).bdt (ix1 d) := by
  have e : (W1 m c main_v2 : Vec Ideal S1x2048 .f32) = broadcastInDim S1x2048 ![1] bcast_S2048_S1x2048_1 (m ((c.tc : Thread nD τ).loc main_arg6)) := by
    show StableHlo.after hostOps0 _ _ = _
    after_results
  rw [e]
  pointwise []
  rfl

/-- The host's rates, transposed. -/
theorem host_A (c : Dev nD) (n : Fin 16) (d : Fin 2048) : (W1 m c main_v5 : Vec Ideal S16x2048 .f32) (ix2 n d) = Spec.A (args m c) d n := by
  have e : (W1 m c main_v5 : Vec Ideal S16x2048 .f32)
      = transpose S16x2048 [1, 0] (Host.negf (Host.exp (m ((c.tc : Thread nD τ).loc main_arg7) : FVec Ideal S2048x16 .f32)) : FVec Ideal S2048x16 .f32) transposes_S2048x16_S16x2048_1_0 := by
    show StableHlo.after hostOps0 _ _ = _
    after_results
  rw [e]
  unfold Spec.A
  pointwise []
  rfl

/-- The host's skip weights, twice in a row. -/
theorem host_D (c : Dev nD) (q : Fin 4096) : (W1 m c main_v7 : Vec Ideal S1x4096 .f32) (ix2 0 q) = (args m c).D (ix1 (ch q)) := by
  have e : (W1 m c main_v7 : Vec Ideal S1x4096 .f32)
      = broadcastInDim S1x4096 ![1] bcast_S4096_S1x4096_1 (concatenate S4096 0 [⟨S2048, (m ((c.tc : Thread nD τ).loc main_arg8) : Vec Ideal S2048 .f32)⟩,
          ⟨S2048, (m ((c.tc : Thread nD τ).loc main_arg8) : Vec Ideal S2048 .f32)⟩] concatenates_S2048_S2048_S4096_d0) := by
    show StableHlo.after hostOps0 _ _ = _
    after_results
  have hq := q.isLt
  rw [e]
  pointwise []
  by_cases h : q.val < 2048
  · rw [dif_pos h]
    exact congrArg (fun d => (args m c).D (ix1 d)) (Fin.ext (show q.val = q.val % 2048 by omega))
  · rw [dif_neg h]
    exact congrArg (fun d => (args m c).D (ix1 d)) (Fin.ext (show q.val - 2048 = q.val % 2048 by omega))

/-- The front finds the arguments. -/
theorem front_reads (c : Dev nD) : Front.Reads (W1 m) (args m c) c where
  x := V1_of m c main_arg0 (by decide)
  win := V1_of m c main_arg1 (by decide)
  wx := V1_of m c main_arg4 (by decide)
  wdt := V1_of m c main_arg5 (by decide)
  cw := host_cw m c
  cb := host_cb m c
  bdt := host_bdt m c

/-- The front leaves a buffer it does not write. -/
theorem W2_keeps (c : Dev nD) (r : Ref sig .tc) (h : ∀ w, Pipeline.arrRef spec0 w = r → (cfg0.win w).isOut = false) :
    W2 m c (Proc.devRef .tc r) = W1 m c (Proc.devRef .tc r) :=
  Pipeline.afterRegion_keeps (Front.dat (W1 m) c) (W1 m c) launch0.win.arr_inj (Front.A_eq (W1 m) c) r h

/-- The scan leaves a buffer it does not write. -/
theorem W3_keeps (c : Dev nD) (r : Ref sig .tc) (h : ∀ w, Pipeline.arrRef spec1 w = r → (cfg1.win w).isOut = false) :
    W3 m c (Proc.devRef .tc r) = W2 m c (Proc.devRef .tc r) :=
  Pipeline.afterRegion_keeps (Scan.dat (W2 m) c) (W2 m c) launch1.win.arr_inj (Scan.A_eq (W2 m) c) r h

/-- What the scan leaves: the readout and the skip term, batch and channel side by side. -/
theorem scan_value (c : Dev nD) : (W3 m c main_v9 : Vec Ideal S2048x4096 .f32)
    = fun i => Spec.y (args m c) (ba (i 1)) (i 0) (ch (i 1)) + Spec.u (args m c) (ba (i 1)) (i 0) (ch (i 1)) * (args m c).D (ix1 (ch (i 1))) := by
  have R := front_reads m c
  refine (Pipeline.afterRegion_arr (Scan.dat (W2 m) c) (W2 m c) launch1.win.arr_inj 6).trans ((Scan.final (W2 m) c).trans ?_)
  funext i
  refine sElem_eq (args m c) _ _ _ _ _ _ ?_ ?_ ?_ ?_ ?_ ?_ (i 0) (i 1)
  · exact (Pipeline.afterRegion_arr (Front.dat (W1 m) c) (W1 m c) launch0.win.arr_inj 7).trans (Front.final_u R)
  · exact (Pipeline.afterRegion_arr (Front.dat (W1 m) c) (W1 m c) launch0.win.arr_inj 8).trans (Front.final_dt R)
  · exact (Pipeline.afterRegion_arr (Front.dat (W1 m) c) (W1 m c) launch0.win.arr_inj 9).trans (Front.final_B R)
  · exact (Pipeline.afterRegion_arr (Front.dat (W1 m) c) (W1 m c) launch0.win.arr_inj 10).trans (Front.final_C R)
  · intro n d
    exact (congrFun (W2_keeps m c main_v5 (by decide)) (ix2 n d)).trans (host_A m c n d)
  · intro q
    exact (congrFun (W2_keeps m c main_v7 (by decide)) (ix2 (0 : Fin 1) q)).trans (host_D m c q)

/-- An argument is unchanged before the output projection. -/
theorem W3_arg (c : Dev nD) (r : Ref sig .tc) (h0 : r ∉ hostOps0_W)
    (h1 : ∀ w, Pipeline.arrRef spec0 w = r → (cfg0.win w).isOut = false)
    (h2 : ∀ w, Pipeline.arrRef spec1 w = r → (cfg1.win w).isOut = false) :
    W3 m c (Proc.devRef .tc r) = m ((c : Thread nD τ).loc r) :=
  (W3_keeps m c r h2).trans ((W2_keeps m c r h1).trans (V1_of m c r h0))

/-- The kernel's result is the block's mathematics. -/
theorem value (c : Dev nD) : (W4 m c main_v10 : Vec Ideal S2x2048x1024 .f32) = fun i => Spec.out (args m c) (i 0) (i 1) (i 2) := by
  refine (Pipeline.afterRegion_arr (Out.dat (W3 m) c) (W3 m c) launch2.win.arr_inj 4).trans ((Out.final (W3 m) c).trans ?_)
  have e0 : Out.V (W3 m) c main_arg0 = (args m c).x := W3_arg m c main_arg0 (by decide) (by decide) (by decide)
  have e1 : Out.V (W3 m) c main_arg1 = (args m c).Win := W3_arg m c main_arg1 (by decide) (by decide) (by decide)
  have e9 : Out.V (W3 m) c main_arg9 = (args m c).Wo := W3_arg m c main_arg9 (by decide) (by decide) (by decide)
  have ey : Out.V (W3 m) c main_v9 = _ := scan_value m c
  funext i
  rw [e0, e1, e9, ey]
  unfold Out.oElem Spec.out Spec.res
  refine Finset.sum_congr rfl fun d _ => ?_
  have hb : (i 0).val < 2 := (i 0).isLt
  have hd := d.isLt
  have b1 : ba ⟨(i 0).val * 2048 + d.val, by omega⟩ = i 0 := Fin.ext (show ((i 0).val * 2048 + d.val) / 2048 = (i 0).val by omega)
  have c1 : ch ⟨(i 0).val * 2048 + d.val, by omega⟩ = d := Fin.ext (show ((i 0).val * 2048 + d.val) % 2048 = d.val by omega)
  show (Spec.y (args m c) (ba ⟨(i 0).val * 2048 + d.val, by omega⟩) (i 1) (ch ⟨(i 0).val * 2048 + d.val, by omega⟩)
    + Spec.u (args m c) (ba ⟨(i 0).val * 2048 + d.val, by omega⟩) (i 1) (ch ⟨(i 0).val * 2048 + d.val, by omega⟩)
      * (args m c).D (ix1 (ch ⟨(i 0).val * 2048 + d.val, by omega⟩))) * _ * _ = _
  rw [b1, c1]

end Cert.KernelIdeal.Whole
-- ==== Proof.RefValue.lean ====
/- What the reference computes at the extended reals: the block's mathematics, stretch by stretch and through the loop. -/
module

public import proofs.«01_k».proof.Proof.RefFrame
public import proofs.«01_k».proof.Proof.Spec
public import Idealize.ShloMosaic.Lib.WordCmp
public import Idealize.ShloMosaic.Lib.DynamicIndex

@[expose] public section

set_option maxRecDepth 16384

noncomputable section

namespace Cert.ReferenceIdeal.Fold

open Idealize.ShloMosaic Idealize.ShloMosaic.TcCoe Idealize.ShloMosaic.StableHlo
open Cert.ReferenceIdeal.Gen Cert.ReferenceIdeal.Value

/-! ## The stretches before the loop, from any contents -/

section Stretch

variable (V : Valuation τ sig (Elt Ideal)) (a : Spec.Args)

/-- The input projection's first half. -/
theorem read_uraw (h0 : (V main_arg0 : Vec Ideal S2x2048x1024 .f32) = a.x) (h1 : (V main_arg1 : Vec Ideal S1024x4096 .f32) = a.Win) :
    (after hostOps0 V main_v1 : Vec Ideal S2x2048x2048 .f32) = fun i => Spec.uraw a (i 0) (i 1) (i 2) := by
  show after hostOps0 V (Proc.devRef .tc main_v1) = _
  after_results
  rw [h0, h1]
  funext i
  pointwise []
  rfl

/-- The input projection's second half. -/
theorem read_res (h0 : (V main_arg0 : Vec Ideal S2x2048x1024 .f32) = a.x) (h1 : (V main_arg1 : Vec Ideal S1024x4096 .f32) = a.Win) :
    (after hostOps0 V main_v2 : Vec Ideal S2x2048x2048 .f32) = fun i => Spec.res a (i 0) (i 1) (i 2) := by
  show after hostOps0 V (Proc.devRef .tc main_v2) = _
  after_results
  rw [h0, h1]
  funext i
  pointwise []
  rfl

/-- The padding value. -/
theorem read_zero : (after hostOps0 V main_c : Vec Ideal S_ .i32) = constantI S_ 32 0#32 := by
  show after hostOps0 V (Proc.devRef .tc main_c) = _
  after_results

/-- The channels with three zeros in front of the sequence. -/
theorem read_tap (h : (V main_v1 : Vec Ideal S2x2048x2048 .f32) = fun i => Spec.uraw a (i 0) (i 1) (i 2))
    (hz : (V main_c : Vec Ideal S_ .i32) = constantI S_ 32 0#32) :
    (after hostOps0_1 V main_v3 : Vec Ideal S2x2051x2048 .f32) = fun i => Spec.tap a (i 0) (i 1).val (i 2) := by
  show after hostOps0_1 V (Proc.devRef .tc main_v3) = _
  after_results
  rw [h, hz]
  show pad S2x2051x2048 ![0, 3, 0] ![0, 0, 0] ![0, 0, 0] (fun i : S2x2048x2048.Idx => Spec.uraw a (i 0) (i 1) (i 2))
    (sitofp (F := Ideal) FTy.f32 (constantI S_ 32 0#32)) pads_S2x2048x2048_S2x2051x2048_000_300_000 h_S_ = _
  have hz0 : (FloatOps.sitofp (F := Ideal) (w := 32) FTy.f32 0#32 : EReal) = 0 := by
    show (((0#32 : BitVec 32).toInt : ℝ) : EReal) = 0
    norm_num
  funext i
  pointwise []
  unfold Spec.tap
  have hi : (i 1).val < 2051 := (i 1).isLt
  by_cases h3 : 3 ≤ (i 1).val
  · rw [dif_pos ⟨h3, by omega⟩, dif_pos ⟨h3, hi⟩]
  · rw [dif_neg (fun hh => h3 hh.1), dif_neg (fun hh => h3 hh.1)]
    exact hz0

/-- The activated convolution, as the program spells it. -/
theorem u_form (b : Fin 2) (l d : Fin 2048) :
    (Spec.tap a b l.val d * a.cw (ix2 d 0) + Spec.tap a b (1 + l.val) d * a.cw (ix2 d 1) + Spec.tap a b (2 + l.val) d * a.cw (ix2 d 2)
        + Spec.tap a b (3 + l.val) d * a.cw (ix2 d 3) + a.cb (ix1 d))
      * Ideal.div 1 (1 + Ideal.exp (-(Spec.tap a b l.val d * a.cw (ix2 d 0) + Spec.tap a b (1 + l.val) d * a.cw (ix2 d 1)
        + Spec.tap a b (2 + l.val) d * a.cw (ix2 d 2) + Spec.tap a b (3 + l.val) d * a.cw (ix2 d 3) + a.cb (ix1 d))))
      = Spec.u a b l d := by
  rw [Spec.mul_div_one, Nat.add_comm 1, Nat.add_comm 2, Nat.add_comm 3]
  rfl

variable (h : (V main_v3 : Vec Ideal S2x2051x2048 .f32) = fun i => Spec.tap a (i 0) (i 1).val (i 2))
  (h2 : (V main_arg2 : Vec Ideal S2048x4 .f32) = a.cw) (h3 : (V main_arg3 : Vec Ideal S2048 .f32) = a.cb)
  (h4 : (V main_arg4 : Vec Ideal S2048x96 .f32) = a.Wx)

include h h2 h3 in
/-- The activated channels. -/
theorem read_u : (after hostOps0_2 V main_v42 : Vec Ideal S2x2048x2048 .f32) = fun i => Spec.u a (i 0) (i 1) (i 2) := by
  show after hostOps0_2 V (Proc.devRef .tc main_v42) = _
  after_results
  rw [h, h2, h3]
  funext i
  pointwise []
  exact u_form a _ _ _

include h h2 h3 h4 in
/-- The recurrence's input map. -/
theorem read_B : (after hostOps0_2 V main_v45 : Vec Ideal S2x2048x16 .f32) = fun i => Spec.Bm a (i 0) (i 1) (i 2) := by
  show after hostOps0_2 V (Proc.devRef .tc main_v45) = _
  after_results
  rw [h, h2, h3, h4]
  funext i
  pointwise []
  exact Finset.sum_congr rfl fun d _ => congrArg (· * _) (u_form a _ _ _)

include h h2 h3 h4 in
/-- The recurrence's output map. -/
theorem read_C : (after hostOps0_2 V main_v46 : Vec Ideal S2x2048x16 .f32) = fun i => Spec.Cm a (i 0) (i 1) (i 2) := by
  show after hostOps0_2 V (Proc.devRef .tc main_v46) = _
  after_results
  rw [h, h2, h3, h4]
  funext i
  pointwise []
  exact Finset.sum_congr rfl fun d _ => congrArg (· * _) (u_form a _ _ _)

include h h2 h3 h4 in
/-- What the softplus is taken of. -/
theorem read_pre (h5 : (V main_arg5 : Vec Ideal S64x2048 .f32) = a.Wdt) (h6 : (V main_arg6 : Vec Ideal S2048 .f32) = a.bdt) :
    (after hostOps0_2 V main_v50 : Vec Ideal S2x2048x2048 .f32)
      = fun i => ∑ r : Fin 64, Spec.xd a (i 0) (i 1) ⟨r.val, by omega⟩ * a.Wdt (ix2 r (i 2)) + a.bdt (ix1 (i 2)) := by
  show after hostOps0_2 V (Proc.devRef .tc main_v50) = _
  after_results
  rw [h, h2, h3, h4, h5, h6]
  funext i
  pointwise []
  refine congrArg (· + _) (Finset.sum_congr rfl fun r _ => congrArg (· * _) ?_)
  exact Finset.sum_congr rfl fun d _ => congrArg (· * _) (u_form a _ _ _)

/-- The softplus, as the program spells it. -/
theorem read_dt (p : S2x2048x2048.Idx → EReal) (hp : (V main_v50 : Vec Ideal S2x2048x2048 .f32) = p) :
    (after hostOps0_3 V main_v51 : Vec Ideal S2x2048x2048 .f32) = fun i => Spec.softplus (p i) := by
  show after hostOps0_3 V (Proc.devRef .tc main_v51) = _
  after_results
  rw [hp]
  show select (cmpf .une (subf (p : FVec Ideal S2x2048x2048 .f32) (broadcastInDim S2x2048x2048 ![] bcast_S_S2x2048x2048 (constant (F := Ideal) S_ .f32 0#32)))
      (subf (p : FVec Ideal S2x2048x2048 .f32) (broadcastInDim S2x2048x2048 ![] bcast_S_S2x2048x2048 (constant (F := Ideal) S_ .f32 0#32))))
    (addf (p : FVec Ideal S2x2048x2048 .f32) (broadcastInDim S2x2048x2048 ![] bcast_S_S2x2048x2048 (constant (F := Ideal) S_ .f32 0#32)))
    (addf (maximumf (p : FVec Ideal S2x2048x2048 .f32) (broadcastInDim S2x2048x2048 ![] bcast_S_S2x2048x2048 (constant (F := Ideal) S_ .f32 0#32)))
      (Host.log1p (Host.exp (Host.negf (Host.absf
        (subf (p : FVec Ideal S2x2048x2048 .f32) (broadcastInDim S2x2048x2048 ![] bcast_S_S2x2048x2048 (constant (F := Ideal) S_ .f32 0#32)))))))) = _
  funext i
  pointwise []
  exact (if_neg (not_not.mpr rfl)).trans (Spec.softplus_stable (p i))

/-- The step sizes, position first. -/
theorem read_dtT (hp : (V main_v51 : Vec Ideal S2x2048x2048 .f32) = fun i => Spec.dt a (i 0) (i 1) (i 2)) :
    (after hostOps0_4 V main_v60_0 : Vec Ideal S2048x2x2048 .f32) = fun i => Spec.dt a (i 1) (i 0) (i 2) := by
  show after hostOps0_4 V (Proc.devRef .tc main_v60_0) = _
  after_results
  rw [hp]
  funext i
  pointwise []
  rfl

/-- The input map, position first. -/
theorem read_BT (hp : (V main_v45 : Vec Ideal S2x2048x16 .f32) = fun i => Spec.Bm a (i 0) (i 1) (i 2)) :
    (after hostOps0_4 V main_v60_1 : Vec Ideal S2048x2x16 .f32) = fun i => Spec.Bm a (i 1) (i 0) (i 2) := by
  show after hostOps0_4 V (Proc.devRef .tc main_v60_1) = _
  after_results
  rw [hp]
  funext i
  pointwise []
  rfl

/-- The output map, position first. -/
theorem read_CT (hp : (V main_v46 : Vec Ideal S2x2048x16 .f32) = fun i => Spec.Cm a (i 0) (i 1) (i 2)) :
    (after hostOps0_4 V main_v60_2 : Vec Ideal S2048x2x16 .f32) = fun i => Spec.Cm a (i 1) (i 0) (i 2) := by
  show after hostOps0_4 V (Proc.devRef .tc main_v60_2) = _
  after_results
  rw [hp]
  funext i
  pointwise []
  rfl

/-- The channels, position first. -/
theorem read_uT (hp : (V main_v42 : Vec Ideal S2x2048x2048 .f32) = fun i => Spec.u a (i 0) (i 1) (i 2)) :
    (after hostOps0_4 V main_v60_3 : Vec Ideal S2048x2x2048 .f32) = fun i => Spec.u a (i 1) (i 0) (i 2) := by
  show after hostOps0_4 V (Proc.devRef .tc main_v60_3) = _
  after_results
  rw [hp]
  funext i
  pointwise []
  rfl

/-- The rates. -/
theorem read_A (hp : (V main_arg7 : Vec Ideal S2048x16 .f32) = a.Alog) :
    (after hostOps0_4 V main_v60_4 : Vec Ideal S2048x16 .f32) = fun i => Spec.A a (i 0) (i 1) := by
  show after hostOps0_4 V (Proc.devRef .tc main_v60_4) = _
  after_results
  rw [hp]
  funext i
  unfold Spec.A
  pointwise []
  rfl

/-- The first state. -/
theorem read_h0 : (after hostOps0_4 V main_v60_6 : Vec Ideal S2x2048x16 .f32) = fun i => Spec.h a (i 0) (i 1) (i 2) 0 := by
  show after hostOps0_4 V (Proc.devRef .tc main_v60_6) = _
  after_results
  show (broadcastInDim S2x2048x16 ![] bcast_S_S2x2048x16 (constant (F := Ideal) S_ .f32 0#32)) = fun _ => (0 : EReal)
  funext i
  pointwise []

/-- The counter's first value. -/
theorem read_ctr : (after hostOps0_4 V main_v60_5 : Vec Ideal S_ .i32) = fun _ => BitVec.ofNat 32 0 := by
  show after hostOps0_4 V (Proc.devRef .tc main_v60_5) = _
  after_results
  rfl

end Stretch

/-! ## One trip -/

/-- What holds before the `k`-th condition: the four sequences and the rates unchanged, the state after `k` steps, the first `k`
    readouts written. -/
structure Inv (a : Spec.Args) (V : Valuation τ sig (Elt Ideal)) (k : ℕ) : Prop where
  dt : (V main_v60_0 : Vec Ideal S2048x2x2048 .f32) = fun i => Spec.dt a (i 1) (i 0) (i 2)
  B : (V main_v60_1 : Vec Ideal S2048x2x16 .f32) = fun i => Spec.Bm a (i 1) (i 0) (i 2)
  C : (V main_v60_2 : Vec Ideal S2048x2x16 .f32) = fun i => Spec.Cm a (i 1) (i 0) (i 2)
  u : (V main_v60_3 : Vec Ideal S2048x2x2048 .f32) = fun i => Spec.u a (i 1) (i 0) (i 2)
  A : (V main_v60_4 : Vec Ideal S2048x16 .f32) = fun i => Spec.A a (i 0) (i 1)
  ctr : (V main_v60_5 : Vec Ideal S_ .i32) = fun _ => BitVec.ofNat 32 k
  h : (V main_v60_6 : Vec Ideal S2x2048x16 .f32) = fun i => Spec.h a (i 0) (i 1) (i 2) k
  ys : ∀ i : S2048x2x2048.Idx, (i 0).val < k → (V main_v60_7 : Vec Ideal S2048x2x2048 .f32) i = Spec.y a (i 1) (i 0) (i 2)

/-- Where a trip's slices start. -/
theorem start_eq (q : Vec Ideal S_ .i32) (k : ℕ) (hk : k < 2048) (hq : q = fun _ => BitVec.ofNat 32 k) (j : Fin 3) :
    (((![q, constantI S_ 32 0#32, constantI S_ 32 0#32] : Fin 3 → (⟨S_, .i32⟩ : BufTy).Contents (Elt Ideal))) j (Shape.Idx.first h_S_)).toInt
      = ((![k, 0, 0] : Fin 3 → ℕ) j : Int) := by
  subst hq
  fin_cases j
  · exact toInt_ofNat_of_lt (by omega)
  · rfl
  · rfl

/-- A trip's slice of a sequence of channels is that position's channels. -/
theorem slice_ch (x : Vec Ideal S2048x2x2048 .f32) (q : Vec Ideal S_ .i32) (k : ℕ) (hk : k < 2048) (hq : q = fun _ => BitVec.ofNat 32 k) :
    shapeCast S2x2048 (Host.dynamicSlice S1x2x2048 x (fun k => (((![q, constantI S_ 32 0#32, constantI S_ 32 0#32] : Fin 3 → (⟨S_, .i32⟩ : BufTy).Contents (Elt Ideal))) k (Shape.Idx.first h_S_)).toInt) sliceFits_S2048x2x2048_S1x2x2048) shapeCasts_S1x2x2048_S2x2048
      = fun i => x (ix3 ⟨k, hk⟩ (i 0) (i 1)) := by
  rw [WordCmp.dynamicSlice_eq_extract S1x2x2048 x _ _ ![k, 0, 0] ⟨rfl, fun j => by fin_cases j <;> simp <;> omega⟩ (start_eq q k hk hq)]
  funext i
  pointwise []

/-- A trip's slice of an input or output map is that position's map. -/
theorem slice_st (x : Vec Ideal S2048x2x16 .f32) (q : Vec Ideal S_ .i32) (k : ℕ) (hk : k < 2048) (hq : q = fun _ => BitVec.ofNat 32 k) :
    shapeCast S2x16 (Host.dynamicSlice S1x2x16 x (fun k => (((![q, constantI S_ 32 0#32, constantI S_ 32 0#32] : Fin 3 → (⟨S_, .i32⟩ : BufTy).Contents (Elt Ideal))) k (Shape.Idx.first h_S_)).toInt) sliceFits_S2048x2x16_S1x2x16) shapeCasts_S1x2x16_S2x16
      = fun i => x (ix3 ⟨k, hk⟩ (i 0) (i 1)) := by
  rw [WordCmp.dynamicSlice_eq_extract S1x2x16 x _ _ ![k, 0, 0] ⟨rfl, fun j => by fin_cases j <;> simp <;> omega⟩ (start_eq q k hk hq)]
  funext i
  pointwise []

variable (a : Spec.Args)

/-- A trip's new state from the state before it. -/
theorem step_h_aux (dt u : FVec Ideal S2048x2x2048 .f32) (B : FVec Ideal S2048x2x16 .f32) (A : FVec Ideal S2048x16 .f32)
    (h : FVec Ideal S2x2048x16 .f32) (q : Vec Ideal S_ .i32) (k : ℕ) (hk : k < 2048) (hq : q = fun _ => BitVec.ofNat 32 k)
    (hdt : dt = fun i => Spec.dt a (i 1) (i 0) (i 2)) (hB : B = fun i => Spec.Bm a (i 1) (i 0) (i 2))
    (hu : u = fun i => Spec.u a (i 1) (i 0) (i 2)) (hA : A = fun i => Spec.A a (i 0) (i 1))
    (hh : h = fun i => Spec.h a (i 0) (i 1) (i 2) k) :
    addf (mulf (Host.exp (mulf (broadcastInDim S2x2048x16 ![0, 1, 2] bcast_S2x2048x1_S2x2048x16_0_1_2 (broadcastInDim S2x2048x1 ![0, 1] bcast_S2x2048_S2x2048x1_0_1 (shapeCast S2x2048 (Host.dynamicSlice S1x2x2048 dt (fun k => (((![q, constantI S_ 32 0#32, constantI S_ 32 0#32] : Fin 3 → (⟨S_, .i32⟩ : BufTy).Contents (Elt Ideal))) k (Shape.Idx.first h_S_)).toInt) sliceFits_S2048x2x2048_S1x2x2048) shapeCasts_S1x2x2048_S2x2048)))
          (broadcastInDim S2x2048x16 ![0, 1, 2] bcast_S1x2048x16_S2x2048x16_0_1_2 (broadcastInDim S1x2048x16 ![1, 2] bcast_S2048x16_S1x2048x16_1_2 A)))) h)
        (mulf (mulf (broadcastInDim S2x2048x16 ![0, 1, 2] bcast_S2x2048x1_S2x2048x16_0_1_2 (broadcastInDim S2x2048x1 ![0, 1] bcast_S2x2048_S2x2048x1_0_1 (shapeCast S2x2048 (Host.dynamicSlice S1x2x2048 dt (fun k => (((![q, constantI S_ 32 0#32, constantI S_ 32 0#32] : Fin 3 → (⟨S_, .i32⟩ : BufTy).Contents (Elt Ideal))) k (Shape.Idx.first h_S_)).toInt) sliceFits_S2048x2x2048_S1x2x2048) shapeCasts_S1x2x2048_S2x2048)))
            (broadcastInDim S2x2048x16 ![0, 1, 2] bcast_S2x1x16_S2x2048x16_0_1_2 (broadcastInDim S2x1x16 ![0, 2] bcast_S2x16_S2x1x16_0_2 (shapeCast S2x16 (Host.dynamicSlice S1x2x16 B (fun k => (((![q, constantI S_ 32 0#32, constantI S_ 32 0#32] : Fin 3 → (⟨S_, .i32⟩ : BufTy).Contents (Elt Ideal))) k (Shape.Idx.first h_S_)).toInt) sliceFits_S2048x2x16_S1x2x16) shapeCasts_S1x2x16_S2x16))))
          (broadcastInDim S2x2048x16 ![0, 1, 2] bcast_S2x2048x1_S2x2048x16_0_1_2 (broadcastInDim S2x2048x1 ![0, 1] bcast_S2x2048_S2x2048x1_0_1 (shapeCast S2x2048 (Host.dynamicSlice S1x2x2048 u (fun k => (((![q, constantI S_ 32 0#32, constantI S_ 32 0#32] : Fin 3 → (⟨S_, .i32⟩ : BufTy).Contents (Elt Ideal))) k (Shape.Idx.first h_S_)).toInt) sliceFits_S2048x2x2048_S1x2x2048) shapeCasts_S1x2x2048_S2x2048))))
      = fun i => Spec.h a (i 0) (i 1) (i 2) (k + 1) := by
  rw [slice_ch dt q k hk hq, slice_ch u q k hk hq, slice_st B q k hk hq, hdt, hB, hu, hA, hh]
  funext i
  have e : Spec.h a (i 0) (i 1) (i 2) (k + 1) = Ideal.exp (Spec.dt a (i 0) ⟨k, hk⟩ (i 1) * Spec.A a (i 1) (i 2)) * Spec.h a (i 0) (i 1) (i 2) k
      + Spec.dt a (i 0) ⟨k, hk⟩ (i 1) * Spec.Bm a (i 0) ⟨k, hk⟩ (i 2) * Spec.u a (i 0) ⟨k, hk⟩ (i 1) := dif_pos hk
  rw [e]
  pointwise []

/-- What a trip writes at its row of the readouts. -/
theorem step_y_aux (y : FVec Ideal S2048x2x2048 .f32) (h : FVec Ideal S2x2048x16 .f32) (C : FVec Ideal S2048x2x16 .f32)
    (q : Vec Ideal S_ .i32) (k : ℕ) (hk : k < 2048) (hq : q = fun _ => BitVec.ofNat 32 k)
    (hh : h = fun i => Spec.h a (i 0) (i 1) (i 2) (k + 1)) (hC : C = fun i => Spec.Cm a (i 1) (i 0) (i 2))
    (hy : ∀ i : S2048x2x2048.Idx, (i 0).val < k → y i = Spec.y a (i 1) (i 0) (i 2))
    (i : S2048x2x2048.Idx) (hi : (i 0).val < k + 1) :
    Host.dynamicUpdateSlice y (broadcastInDim S1x2x2048 ![1, 2] bcast_S2x2048_S1x2x2048_1_2 (Host.reduceAdd (mulf h
        (broadcastInDim S2x2048x16 ![0, 1, 2] bcast_S2x1x16_S2x2048x16_0_1_2 (broadcastInDim S2x1x16 ![0, 2] bcast_S2x16_S2x1x16_0_2 (shapeCast S2x16 (Host.dynamicSlice S1x2x16 C (fun k => (((![q, constantI S_ 32 0#32, constantI S_ 32 0#32] : Fin 3 → (⟨S_, .i32⟩ : BufTy).Contents (Elt Ideal))) k (Shape.Idx.first h_S_)).toInt) sliceFits_S2048x2x16_S1x2x16) shapeCasts_S1x2x16_S2x16))))
        (constant S_ .f32 0x00000000#32) reducesTo_S2x2048x16_S2x2048_d2 h_S_)) (fun k => (((![q, constantI S_ 32 0#32, constantI S_ 32 0#32] : Fin 3 → (⟨S_, .i32⟩ : BufTy).Contents (Elt Ideal))) k (Shape.Idx.first h_S_)).toInt) updateFits_S2048x2x2048_S1x2x2048 i
      = Spec.y a (i 1) (i 0) (i 2) := by
  refine (congrFun (WordCmp.dynamicUpdateSlice_eq_update (u := S1x2x2048) y _ _ _ ![k, 0, 0]
    ⟨rfl, fun j => by fin_cases j; exacts [show k + 1 ≤ 2048 by omega, le_refl 2, le_refl 2048]⟩ (start_eq q k hk hq)) i).trans ?_
  rw [slice_st C q k hk hq, hC, hh]
  pointwise []
  by_cases hki : k ≤ (i 0).val
  · rw [dif_pos ⟨hki, hi⟩]
    have e : i 0 = (⟨k, hk⟩ : Fin 2048) := Fin.ext (show (i 0).val = k by omega)
    rw [e]
    rfl
  · rw [dif_neg (fun hh => hki hh.1)]
    exact hy i (by omega)

variable {a}

/-- The state a trip computes. -/
theorem step_h {V : Valuation τ sig (Elt Ideal)} {k : ℕ} (hk : k < 2048) (I : Inv a V k) :
    (res_main_while0b_v94 V : Vec Ideal S2x2048x16 .f32) = fun i => Spec.h a (i 0) (i 1) (i 2) (k + 1) := by
  unfold res_main_while0b_v94 res_main_while0b_v75
  exact step_h_aux a _ _ _ _ _ _ k hk I.ctr I.dt I.B I.u I.A I.h

/-- One trip keeps the invariant. -/
theorem step_inv {V : Valuation τ sig (Elt Ideal)} {k : ℕ} (hk : k < 2048) (I : Inv a V k) : Inv a (afterL bodyI V) (k + 1) where
  dt := (trip_main_v60_0 V).trans I.dt
  B := (trip_main_v60_1 V).trans I.B
  C := (trip_main_v60_2 V).trans I.C
  u := (trip_main_v60_3 V).trans I.u
  A := (trip_main_v60_4 V).trans I.A
  ctr := by
    refine (trip_main_v60_5 V).trans ?_
    funext j
    exact (congrArg (fun z : BitVec 32 => z + 1#32) (congrFun I.ctr j)).trans (BitVec.ofNat_add k 1).symm
  h := (trip_main_v60_6 V).trans (step_h hk I)
  ys i hi := (congrFun (trip_main_v60_7 V) i).trans (step_y_aux a _ _ _ _ k hk I.ctr (step_h hk I) I.C I.ys i hi)

/-- The condition keeps the invariant. -/
theorem cond_inv {V : Valuation τ sig (Elt Ideal)} {k : ℕ} (I : Inv a V k) : Inv a (after condOps V) k where
  dt := (cond_keeps V main_v60_0 (by decide)).trans I.dt
  B := (cond_keeps V main_v60_1 (by decide)).trans I.B
  C := (cond_keeps V main_v60_2 (by decide)).trans I.C
  u := (cond_keeps V main_v60_3 (by decide)).trans I.u
  A := (cond_keeps V main_v60_4 (by decide)).trans I.A
  ctr := (cond_keeps V main_v60_5 (by decide)).trans I.ctr
  h := (cond_keeps V main_v60_6 (by decide)).trans I.h
  ys i hi := (congrFun (cond_keeps V main_v60_7 (by decide)) i).trans (I.ys i hi)

/-! ## From the launch to the loop -/

variable (m : (ℓ : Loc nD τ sig) → Buf (Elt Ideal) ℓ)

/-- The ten arguments as launched on core `c`. -/
def args (c : Dev nD) : Spec.Args where
  x := m ((c.tc : Thread nD τ).loc main_arg0)
  Win := m ((c.tc : Thread nD τ).loc main_arg1)
  cw := m ((c.tc : Thread nD τ).loc main_arg2)
  cb := m ((c.tc : Thread nD τ).loc main_arg3)
  Wx := m ((c.tc : Thread nD τ).loc main_arg4)
  Wdt := m ((c.tc : Thread nD τ).loc main_arg5)
  bdt := m ((c.tc : Thread nD τ).loc main_arg6)
  Alog := m ((c.tc : Thread nD τ).loc main_arg7)
  D := m ((c.tc : Thread nD τ).loc main_arg8)
  Wo := m ((c.tc : Thread nD τ).loc main_arg9)

/-- The buffers after the first stretch, and after each of the next three. -/
abbrev U0 (c : Dev nD) : Valuation τ sig (Elt Ideal) := after hostOps0 (launchContents m c)
abbrev U1 (c : Dev nD) : Valuation τ sig (Elt Ideal) := after hostOps0_1 (U0 m c)
abbrev U2 (c : Dev nD) : Valuation τ sig (Elt Ideal) := after hostOps0_2 (U1 m c)
abbrev U3 (c : Dev nD) : Valuation τ sig (Elt Ideal) := after hostOps0_3 (U2 m c)

/-- A buffer the first stretches do not write is as launched. -/
theorem U1_keeps (c : Dev nD) (r : Ref sig .tc) (h : r ∉ hostOps0_W ++ hostOps0_1_W) :
    U1 m c (Proc.devRef .tc r) = m ((c.tc : Thread nD τ).loc r) := by
  simp only [List.mem_append, not_or] at h
  rw [U1, after_of_writes_sub hostOps0_1 _ hostOps0_1_writes h.2, U0, after_of_writes_sub hostOps0 _ hostOps0_writes h.1]

/-- The padded channels. -/
theorem U1_tap (c : Dev nD) : (U1 m c main_v3 : Vec Ideal S2x2051x2048 .f32) = fun i => Spec.tap (args m c) (i 0) (i 1).val (i 2) :=
  read_tap _ _ (read_uraw _ (args m c) rfl rfl) (read_zero _)

/-- The activated channels. -/
theorem U2_u (c : Dev nD) : (U2 m c main_v42 : Vec Ideal S2x2048x2048 .f32) = fun i => Spec.u (args m c) (i 0) (i 1) (i 2) :=
  read_u _ _ (U1_tap m c) (U1_keeps m c main_arg2 (by decide)) (U1_keeps m c main_arg3 (by decide))

/-- The softplus's stretch leaves a buffer it does not write. -/
theorem U3_keeps (c : Dev nD) (r : Ref sig .tc) (h : r ∉ hostOps0_3_W) : U3 m c (Proc.devRef .tc r) = U2 m c (Proc.devRef .tc r) :=
  after_of_writes_sub hostOps0_3 _ hostOps0_3_writes h

/-- The invariant at the loop's entry. -/
theorem entry_inv (c : Dev nD) : Inv (args m c) (entryContents preI m c) 0 := by
  show Inv (args m c) (after hostOps0_4 (U3 m c)) 0
  have h2 : (U1 m c main_arg2 : Vec Ideal S2048x4 .f32) = (args m c).cw := U1_keeps m c main_arg2 (by decide)
  have h3 : (U1 m c main_arg3 : Vec Ideal S2048 .f32) = (args m c).cb := U1_keeps m c main_arg3 (by decide)
  have h4 : (U1 m c main_arg4 : Vec Ideal S2048x96 .f32) = (args m c).Wx := U1_keeps m c main_arg4 (by decide)
  have h5 : (U1 m c main_arg5 : Vec Ideal S64x2048 .f32) = (args m c).Wdt := U1_keeps m c main_arg5 (by decide)
  have h6 : (U1 m c main_arg6 : Vec Ideal S2048 .f32) = (args m c).bdt := U1_keeps m c main_arg6 (by decide)
  have h7 : (U3 m c main_arg7 : Vec Ideal S2048x16 .f32) = (args m c).Alog := by
    refine (U3_keeps m c main_arg7 (by decide)).trans ?_
    exact (after_of_writes_sub hostOps0_2 _ hostOps0_2_writes (by decide)).trans (U1_keeps m c main_arg7 (by decide))
  exact {
    dt := read_dtT _ _ (read_dt _ _ (read_pre _ _ (U1_tap m c) h2 h3 h4 h5 h6))
    B := read_BT _ _ ((U3_keeps m c main_v45 (by decide)).trans (read_B _ _ (U1_tap m c) h2 h3 h4))
    C := read_CT _ _ ((U3_keeps m c main_v46 (by decide)).trans (read_C _ _ (U1_tap m c) h2 h3 h4))
    u := read_uT _ _ ((U3_keeps m c main_v42 (by decide)).trans (U2_u m c))
    A := read_A _ _ h7
    ctr := read_ctr _
    h := read_h0 _ _
    ys := fun i hi => absurd hi (Nat.not_lt_zero _) }

/-- The invariant before every condition. -/
theorem atK_inv (c : Dev nD) : ∀ k, k ≤ 2048 → Inv (args m c) (atK m k c) k
  | 0, _ => entry_inv m c
  | k + 1, hk => step_inv (by omega) (cond_inv (atK_inv c k (by omega)))

/-! ## After the loop -/

/-- The operations after the loop: skip term, gate, output projection. -/
theorem read_out (V : Valuation τ sig (Elt Ideal)) (a : Spec.Args)
    (hy : (V main_v60_7 : Vec Ideal S2048x2x2048 .f32) = fun i => Spec.y a (i 1) (i 0) (i 2))
    (hu : (V main_v42 : Vec Ideal S2x2048x2048 .f32) = fun i => Spec.u a (i 0) (i 1) (i 2))
    (hr : (V main_v2 : Vec Ideal S2x2048x2048 .f32) = fun i => Spec.res a (i 0) (i 1) (i 2))
    (h8 : (V main_arg8 : Vec Ideal S2048 .f32) = a.D) (h9 : (V main_arg9 : Vec Ideal S2048x1024 .f32) = a.Wo) :
    (after hostOps0_5 V main_v74 : Vec Ideal S2x2048x1024 .f32) = fun i => Spec.out a (i 0) (i 1) (i 2) := by
  show after hostOps0_5 V (Proc.devRef .tc main_v74) = _
  after_results
  rw [hy, hu, hr, h8, h9]
  funext i
  pointwise []
  refine Finset.sum_congr rfl fun d _ => congrArg (· * _) ?_
  exact congrArg (_ * ·) (Spec.mul_div_one _)

/-- The reference's result is the block's mathematics. -/
theorem value (c : Dev nD) : (finalContents condOps preI bodyI postI 2048 m c main_v74 : Vec Ideal S2x2048x1024 .f32)
    = fun i => Spec.out (args m c) (i 0) (i 1) (i 2) := by
  show (after hostOps0_5 (exit m c) main_v74 : Vec Ideal S2x2048x1024 .f32) = _
  have I : Inv (args m c) (exit m c) 2048 := cond_inv (atK_inv m c 2048 le_rfl)
  refine read_out _ _ ?_ ?_ ?_ ?_ ?_
  · funext i
    exact I.ys i (i 0).isLt
  · refine (exit_keeps m c main_v42 (by decide +kernel)).trans ?_
    show after hostOps0_4 (U3 m c) (Proc.devRef .tc main_v42) = _
    refine (after_of_writes_sub hostOps0_4 _ hostOps0_4_writes (show main_v42 ∉ hostOps0_4_W by decide +kernel)).trans ?_
    exact (U3_keeps m c main_v42 (by decide)).trans (U2_u m c)
  · refine (exit_keeps m c main_v2 (by decide +kernel)).trans ?_
    show after hostOps0_4 (U3 m c) (Proc.devRef .tc main_v2) = _
    refine (after_of_writes_sub hostOps0_4 _ hostOps0_4_writes (show main_v2 ∉ hostOps0_4_W by decide +kernel)).trans ?_
    refine (U3_keeps m c main_v2 (by decide)).trans ?_
    refine (after_of_writes_sub hostOps0_2 _ hostOps0_2_writes (show main_v2 ∉ hostOps0_2_W by decide +kernel)).trans ?_
    refine (after_of_writes_sub hostOps0_1 _ hostOps0_1_writes (show main_v2 ∉ hostOps0_1_W by decide +kernel)).trans ?_
    exact read_res _ (args m c) rfl rfl
  · exact (exit_keeps m c main_arg8 (by decide +kernel)).trans (entry_keeps m c main_arg8 (by decide +kernel))
  · exact (exit_keeps m c main_arg9 (by decide +kernel)).trans (entry_keeps m c main_arg9 (by decide +kernel))

end Cert.ReferenceIdeal.Fold

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Whole
public import proofs.«01_k».proof.Proof.Bits
public import proofs.«01_k».proof.Proof.RefFrame
public import proofs.«01_k».proof.Proof.KernelValue
public import proofs.«01_k».proof.Proof.RefValue
public import Idealize.ShloMosaic.Adequacy
public import Idealize.ShloMosaic.Init

@[expose] public section

noncomputable section

namespace Cert.Proof

open Idealize.ShloMosaic Idealize.SL.Sem

/-- Each named constant, read as its bits, is the printed constant, and names the real number it rounds. -/
theorem preserves : Cert.preserves_Kernel_KernelIdeal :=
  ⟨IdealRules.named_const.statement Cert.KernelIdeal.κ "neg_log2e" .f32 0xBFB8AA3B#32 _ rfl,
    IdealRules.named_const.statement Cert.KernelIdeal.κ "log2e" .f32 0x3FB8AA3B#32 _ rfl,
    IdealRules.named_const.statement Cert.KernelIdeal.κ "ln2" .f32 0x3F317218#32 _ rfl⟩

/-- From equal arguments the kernel and the reference end with equal results, the block's mathematics of those arguments. -/
theorem algebraic : Cert.algebraic_KernelIdeal_ReferenceIdeal := fun m g m' g' _ hargs =>
  ⟨fun c => (fun i => Cert.Spec.out (Cert.KernelIdeal.Whole.args m c) (i 0) (i 1) (i 2) : Vec Ideal Cert.KernelIdeal.S2x2048x1024 .f32),
    (θ_run Cert.KernelIdeal.defs _ _).mono (fun r h c =>
      ⟨(h.1 c _ (Cert.KernelIdeal.Whole.mem_uc Cert.KernelIdeal.main_v10 (by decide))).trans (Cert.KernelIdeal.Whole.value m c),
        Cert.KernelIdeal.Whole.kept_of m c r.2.mem (h.1 c)⟩) (Cert.KernelIdeal.Whole.run m g),
    (θ_run Cert.ReferenceIdeal.defs _ _).mono (fun r h c =>
      ⟨(h c Cert.ReferenceIdeal.main_v74 (by decide)).trans ((Cert.ReferenceIdeal.Fold.value m' c).trans (by
          have e : Cert.ReferenceIdeal.Fold.args m' c = Cert.KernelIdeal.Whole.args m c :=
            (Cert.Spec.Args.mk.injEq ..).mpr (hargs c)
          rw [e]
          rfl)),
        Cert.ReferenceIdeal.Fold.kept_of m' c r.2.mem (h c)⟩) (Cert.ReferenceIdeal.Value.run_fold m' g')⟩

/-- The claim. -/
theorem claim : Cert.Claim :=
  ⟨Cert.Kernel.Gen.facts, Cert.KernelIdeal.Gen.facts, Cert.ReferenceIdeal.Gen.facts,
    quiescent_kernel, fun m g _ => Cert.KernelIdeal.Whole.frame m g, fun m g _ => Cert.ReferenceIdeal.Fold.frame m g, preserves, algebraic⟩

end Cert.Proof

end
